-- ==== Defs.lean ====
def Pre_Kernel [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "c" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel) (hPre_admissible := hPre_admissible)
    ∧ quiescent_KernelIdeal (hKernelIdeal := hKernelIdeal) (hPre_admissible := hPre_admissible)
    ∧ quiescent_ReferenceIdeal (hReferenceIdeal := hReferenceIdeal) (hPre_admissible := hPre_admissible)
    ∧ preserves_Kernel_KernelIdeal
    ∧ algebraic_KernelIdeal_ReferenceIdeal (hKernelIdeal := hKernelIdeal) (hReferenceIdeal := hReferenceIdeal) (hPre_admissible := hPre_admissible)
-- ==== Pre_admissible.lean ====
abbrev S3 : Shape := ⟨1, ![3]⟩
abbrev S3x8192x4096 : Shape := ⟨3, ![3, 8192, 4096]⟩
abbrev S3x8x4x8192 : Shape := ⟨4, ![3, 8, 4, 8192]⟩
abbrev S3x8192x1024 : Shape := ⟨3, ![3, 8192, 1024]⟩
abbrev S3x8x1x8192 : Shape := ⟨4, ![3, 8, 1, 8192]⟩
abbrev S3x8x128x8192 : Shape := ⟨4, ![3, 8, 128, 8192]⟩
abbrev S3x8x1x128 : Shape := ⟨4, ![3, 8, 1, 128]⟩
abbrev S_ : Shape := ⟨0, ![]⟩

class Facts : Prop where
  bcast_S_S3 : S_.BroadcastsInDim S3 (![] : Fin 0 → Fin S3.rank)
  bcast_S_S3x8x4x8192 : S_.BroadcastsInDim S3x8x4x8192 (![] : Fin 0 → Fin S3x8x4x8192.rank)
  bcast_S_S3x8x1x128 : S_.BroadcastsInDim S3x8x1x128 (![] : Fin 0 → Fin S3x8x1x128.rank)

variable [Facts]

def fn {F : FTy → Type} [FloatOps F] (main_arg0 : IVec S3 32) (main_arg1 : FVec F S3x8192x4096 .fp8e4m3) (main_arg2 : FVec F S3x8x4x8192 .f32) (main_arg3 : FVec F S3x8192x1024 .fp8e4m3) (main_arg4 : FVec F S3x8x1x8192 .f32) (main_arg5 : FVec F S3x8x128x8192 .fp8e4m3) (main_arg6 : FVec F S3x8x1x128 .f32) : IVec S3 1 × IVec S3x8x4x8192 1 × IVec S3x8x1x128 1 :=
  let main_c : IVec S_ 32 := constantI S_ 32 8192#32
  let main_v0 : IVec S3 32 := broadcastInDim S3 ![] bcast_S_S3 main_c
  let main_v1 : IVec S3 1 := cmpi .sle main_arg0 main_v0
  let main_cst : FVec F S_ .f32 := constant S_ .f32 0x00000000#32
  let main_v2 : FVec F S3x8x4x8192 .f32 := broadcastInDim S3x8x4x8192 ![] bcast_S_S3x8x4x8192 main_cst
  let main_v3 : IVec S3x8x4x8192 1 := cmpf .ogt main_arg2 main_v2
  let main_cst_0 : FVec F S_ .f32 := constant S_ .f32 0x00000000#32
  let main_v4 : FVec F S3x8x1x128 .f32 := broadcastInDim S3x8x1x128 ![] bcast_S_S3x8x1x128 main_cst_0
  let main_v5 : IVec S3x8x1x128 1 := cmpf .ogt main_arg6 main_v4
  (main_v1, main_v3, main_v5)
-- ==== Kernel.lean ====
abbrev S3 : Shape := ⟨1, ![3]⟩
abbrev S3x8192x4096 : Shape := ⟨3, ![3, 8192, 4096]⟩
abbrev S3x8x4x8192 : Shape := ⟨4, ![3, 8, 4, 8192]⟩
abbrev S3x8192x1024 : Shape := ⟨3, ![3, 8192, 1024]⟩
abbrev S3x8x1x8192 : Shape := ⟨4, ![3, 8, 1, 8192]⟩
abbrev S3x8x128x8192 : Shape := ⟨4, ![3, 8, 128, 8192]⟩
abbrev S3x8x1x128 : Shape := ⟨4, ![3, 8, 1, 128]⟩
abbrev S1x128x512 : Shape := ⟨3, ![1, 128, 512]⟩
abbrev S1x1x4x128 : Shape := ⟨4, ![1, 1, 4, 128]⟩
abbrev S1x8192x128 : Shape := ⟨3, ![1, 8192, 128]⟩
abbrev S1x1x1x8192 : Shape := ⟨4, ![1, 1, 1, 8192]⟩
abbrev S1x1x128x8192 : Shape := ⟨4, ![1, 1, 128, 8192]⟩
abbrev S1x1x1x128 : Shape := ⟨4, ![1, 1, 1, 128]⟩
abbrev S2x8192x512 : Shape := ⟨3, ![2, 8192, 512]⟩
abbrev S8192x128 : Shape := ⟨2, ![8192, 128]⟩
abbrev S512x128 : Shape := ⟨2, ![512, 128]⟩
abbrev S2x8x512 : Shape := ⟨3, ![2, 8, 512]⟩
abbrev S128x512 : Shape := ⟨2, ![128, 512]⟩
abbrev S1 : Shape := ⟨1, ![1]⟩
abbrev S1x128 : Shape := ⟨2, ![1, 128]⟩
abbrev S128x128 : Shape := ⟨2, ![128, 128]⟩
abbrev S1x128x128 : Shape := ⟨3, ![1, 128, 128]⟩
abbrev S8x512 : Shape := ⟨2, ![8, 512]⟩
abbrev S1x512x128 : Shape := ⟨3, ![1, 512, 128]⟩
abbrev S256x128 : Shape := ⟨2, ![256, 128]⟩
abbrev S512x256 : Shape := ⟨2, ![512, 256]⟩
abbrev S1x512x256 : Shape := ⟨3, ![1, 512, 256]⟩
abbrev S64x8x256 : Shape := ⟨3, ![64, 8, 256]⟩
abbrev S8x256 : Shape := ⟨2, ![8, 256]⟩
abbrev S1x1x128x512 : Shape := ⟨4, ![1, 1, 128, 512]⟩
abbrev S1x8x256 : Shape := ⟨3, ![1, 8, 256]⟩
abbrev S128x256 : Shape := ⟨2, ![128, 256]⟩
abbrev S8x128 : Shape := ⟨2, ![8, 128]⟩
abbrev S128 : Shape := ⟨1, ![128]⟩
abbrev S1x8x128 : Shape := ⟨3, ![1, 8, 128]⟩

abbrev nBuf : Space → Nat
  | .hbm => 7
  | .vmem => 20
  | .smem => 1
  | _ => 0

abbrev bufTy : (tb : Table) → Fin (tcTables nBuf tb) → BufTy
  | .hbm, ⟨0, _⟩ => ⟨S3x8192x4096, .fp8e4m3⟩
  | .hbm, ⟨1, _⟩ => ⟨S3x8x4x8192, .f32⟩
  | .hbm, ⟨2, _⟩ => ⟨S3x8192x1024, .fp8e4m3⟩
  | .hbm, ⟨3, _⟩ => ⟨S3x8x1x8192, .f32⟩
  | .hbm, ⟨4, _⟩ => ⟨S3x8x128x8192, .fp8e4m3⟩
  | .hbm, ⟨5, _⟩ => ⟨S3x8x1x128, .f32⟩
  | .hbm, ⟨6, _⟩ => ⟨S3x8192x4096, .bf16⟩
  | .local _ .vmem, ⟨0, _⟩ => ⟨S1x128x512, .fp8e4m3⟩
  | .local _ .vmem, ⟨1, _⟩ => ⟨S1x128x512, .fp8e4m3⟩
  | .local _ .vmem, ⟨2, _⟩ => ⟨S1x1x4x128, .f32⟩
  | .local _ .vmem, ⟨3, _⟩ => ⟨S1x1x4x128, .f32⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x1x1x8192, .f32⟩
  | .local _ .vmem, ⟨7, _⟩ => ⟨S1x1x1x8192, .f32⟩
  | .local _ .vmem, ⟨8, _⟩ => ⟨S1x1x128x8192, .fp8e4m3⟩
  | .local _ .vmem, ⟨9, _⟩ => ⟨S1x1x128x8192, .fp8e4m3⟩
  | .local _ .vmem, ⟨10, _⟩ => ⟨S1x1x1x128, .f32⟩
  | .local _ .vmem, ⟨11, _⟩ => ⟨S1x1x1x128, .f32⟩
  | .local _ .vmem, ⟨12, _⟩ => ⟨S1x128x512, .bf16⟩
  | .local _ .vmem, ⟨13, _⟩ => ⟨S1x128x512, .bf16⟩
  | .local _ .vmem, ⟨14, _⟩ => ⟨S2x8192x512, .f32⟩
  | .local _ .vmem, ⟨15, _⟩ => ⟨S8192x128, .f32⟩
  | .local _ .vmem, ⟨16, _⟩ => ⟨S512x128, .fp8e4m3⟩
  | .local _ .vmem, ⟨17, _⟩ => ⟨S2x8x512, .f32⟩
  | .local _ .vmem, ⟨18, _⟩ => ⟨S2x8x512, .f32⟩
  | .local _ .vmem, ⟨19, _⟩ => ⟨S128x512, .f32⟩
  | .local _ .smem, ⟨0, _⟩ => ⟨S3, .i32⟩
  | _, _ => ⟨S3x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![3, 8, 65], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) (v1 : BitVec 32) : Scf.Loop 32 :=
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_34 : BitVec 32 := 1#32
  ⟨c0_i32_32, v56, c1_i32_34⟩

def k0_mult1 (i : grid0.Coords) (v1 : BitVec 32) (k0_t1 : Fin (k0_t1_loop i v1).trips) : BitVec 32 :=
  let c0_i32_32 : BitVec 32 := 0#32
  let c1_i32_34 : BitVec 32 := 1#32
  let arg17 : BitVec 32 := Scf.iv c0_i32_32 c1_i32_34 k0_t1
  let c512_i32_88 : BitVec 32 := 512#32
  let v167 : BitVec 32 := Scalar.muli arg17 c512_i32_88
  v167
def k0_off2 (i : grid0.Coords) (v1 : BitVec 32) (k0_t1 : Fin (k0_t1_loop i v1).trips) : Fin 3 → Nat :=
  let c0_89 : Index := 0#32
  let c0_i32_32 : BitVec 32 := 0#32
  let c1_i32_34 : BitVec 32 := 1#32
  let arg17 : BitVec 32 := Scf.iv c0_i32_32 c1_i32_34 k0_t1
  let c512_i32_88 : BitVec 32 := 512#32
  let v167 : BitVec 32 := Scalar.muli arg17 c512_i32_88
  let v168 : BitVec 32 := v167
  let v169 : Index := Scalar.indexCast v168
  let c0_90 : Index := 0#32
  ![0, v169.toNat, 0]
def k0_off3 (i : grid0.Coords) (v1 : BitVec 32) (k0_t1 : Fin (k0_t1_loop i v1).trips) : Fin 2 → Nat :=
  let c0_i32_32 : BitVec 32 := 0#32
  let c1_i32_34 : BitVec 32 := 1#32
  let arg17 : BitVec 32 := Scf.iv c0_i32_32 c1_i32_34 k0_t1
  let c512_i32_88 : BitVec 32 := 512#32
  let v167 : BitVec 32 := Scalar.muli arg17 c512_i32_88
  let v168 : BitVec 32 := v167
  let v172 : Index := Scalar.indexCast v168
  let c0_91 : Index := 0#32
  ![v172.toNat, 0]
def k0_off4 (i : grid0.Coords) (v1 : BitVec 32) (k0_t1 : Fin (k0_t1_loop i v1).trips) : Fin 3 → Nat :=
  let arg2 : BitVec 32 := BitVec.ofNat 32 (i 2).val
  let c2_i32 : BitVec 32 := 2#32
  let v2 : BitVec 32 := Scalar.remsi arg2 c2_i32
  let v178 : Index := Scalar.indexCast v2
  let c0_i32_32 : BitVec 32 := 0#32
  let c1_i32_34 : BitVec 32 := 1#32
  let arg17 : BitVec 32 := Scf.iv c0_i32_32 c1_i32_34 k0_t1
  let c512_i32_88 : BitVec 32 := 512#32
  let v167 : BitVec 32 := Scalar.muli arg17 c512_i32_88
  let v168 : BitVec 32 := v167
  let v179 : Index := Scalar.indexCast v168
  let c0_95 : Index := 0#32
  ![v178.toNat, v179.toNat, 0]
def k0_off5 (i : grid0.Coords) (v1 : BitVec 32) (k0_t1 : Fin (k0_t1_loop i v1).trips) : Fin 3 → Nat :=
  let arg2 : BitVec 32 := BitVec.ofNat 32 (i 2).val
  let c2_i32 : BitVec 32 := 2#32
  let v2 : BitVec 32 := Scalar.remsi arg2 c2_i32
  let v189 : Index := Scalar.indexCast v2
  let c0_i32_32 : BitVec 32 := 0#32
  let c1_i32_34 : BitVec 32 := 1#32
  let arg17 : BitVec 32 := Scf.iv c0_i32_32 c1_i32_34 k0_t1
  let c512_i32_88 : BitVec 32 := 512#32
  let v167 : BitVec 32 := Scalar.muli arg17 c512_i32_88
  let v168 : BitVec 32 := v167
  let v190 : Index := Scalar.indexCast v168
  let c256_100 : Index := 256#32
  ![v189.toNat, v190.toNat, 256]
def k0_mult2 (i : grid0.Coords) (v1 : BitVec 32) (k0_t1 : Fin (k0_t1_loop i v1).trips) : BitVec 32 :=
  let c0_i32_32 : BitVec 32 := 0#32
  let c1_i32_34 : BitVec 32 := 1#32
  let arg17 : BitVec 32 := Scf.iv c0_i32_32 c1_i32_34 k0_t1
  let c512_i32_102 : BitVec 32 := 512#32
  let v198 : BitVec 32 := Scalar.muli arg17 c512_i32_102
  v198
def k0_off6 (i : grid0.Coords) (v1 : BitVec 32) (k0_t1 : Fin (k0_t1_loop i v1).trips) : Fin 4 → Nat :=
  let c0_103 : Index := 0#32
  let c0_104 : Index := 0#32
  let c0_105 : Index := 0#32
  let c0_i32_32 : BitVec 32 := 0#32
  let c1_i32_34 : BitVec 32 := 1#32
  let arg17 : BitVec 32 := Scf.iv c0_i32_32 c1_i32_34 k0_t1
  let c512_i32_102 : BitVec 32 := 512#32
  let v198 : BitVec 32 := Scalar.muli arg17 c512_i32_102
  let v199 : BitVec 32 := v198
  let v200 : Index := Scalar.indexCast v199
  ![0, 0, 0, v200.toNat]
def k0_off7 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v203 : Index := Scalar.indexCast v3
  let c0_106 : Index := 0#32
  let c0_107 : Index := 0#32
  ![v203.toNat, 0, 0]
def k0_off8 (i : grid0.Coords) (v1 : BitVec 32) (k0_t1 : Fin (k0_t1_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v209 : Index := Scalar.indexCast v3
  let c0_i32_32 : BitVec 32 := 0#32
  let c1_i32_34 : BitVec 32 := 1#32
  let arg17 : BitVec 32 := Scf.iv c0_i32_32 c1_i32_34 k0_t1
  let c512_i32_102 : BitVec 32 := 512#32
  let v198 : BitVec 32 := Scalar.muli arg17 c512_i32_102
  let v199 : BitVec 32 := v198
  let v210 : Index := Scalar.indexCast v199
  let c0_110 : Index := 0#32
  ![v209.toNat, v210.toNat, 0]
def k0_off9 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v232 : Index := Scalar.indexCast v3
  let c0_118 : Index := 0#32
  let c256_119 : Index := 256#32
  ![v232.toNat, 0, 256]
def k0_off10 (i : grid0.Coords) (v1 : BitVec 32) (k0_t1 : Fin (k0_t1_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v238 : Index := Scalar.indexCast v3
  let c0_i32_32 : BitVec 32 := 0#32
  let c1_i32_34 : BitVec 32 := 1#32
  let arg17 : BitVec 32 := Scf.iv c0_i32_32 c1_i32_34 k0_t1
  let c512_i32_102 : BitVec 32 := 512#32
  let v198 : BitVec 32 := Scalar.muli arg17 c512_i32_102
  let v199 : BitVec 32 := v198
  let v239 : Index := Scalar.indexCast v199
  let c256_122 : Index := 256#32
  ![v238.toNat, v239.toNat, 256]
@[reducible] def k0_t2_loop (i : grid0.Coords) (v1 : BitVec 32) : Scf.Loop 32 :=
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let v53 : BitVec 32 := Scalar.addi c0_i32_32 v52
  let c1_i32_35 : BitVec 32 := 1#32
  ⟨v56, v53, c1_i32_35⟩
def k0_mult3 (i : grid0.Coords) (v1 : BitVec 32) (k0_t2 : Fin (k0_t2_loop i v1).trips) : BitVec 32 :=
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_88 : BitVec 32 := 512#32
  let v167 : BitVec 32 := Scalar.muli arg17 c512_i32_88
  v167
def k0_off11 (i : grid0.Coords) (v1 : BitVec 32) (k0_t2 : Fin (k0_t2_loop i v1).trips) : Fin 3 → Nat :=
  let c0_89 : Index := 0#32
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_88 : BitVec 32 := 512#32
  let v167 : BitVec 32 := Scalar.muli arg17 c512_i32_88
  let v168 : BitVec 32 := v167
  let v169 : Index := Scalar.indexCast v168
  let c0_90 : Index := 0#32
  ![0, v169.toNat, 0]
def k0_off12 (i : grid0.Coords) (v1 : BitVec 32) (k0_t2 : Fin (k0_t2_loop i v1).trips) : Fin 2 → Nat :=
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_88 : BitVec 32 := 512#32
  let v167 : BitVec 32 := Scalar.muli arg17 c512_i32_88
  let v168 : BitVec 32 := v167
  let v172 : Index := Scalar.indexCast v168
  let c0_91 : Index := 0#32
  ![v172.toNat, 0]
def k0_off13 (i : grid0.Coords) (v1 : BitVec 32) (k0_t2 : Fin (k0_t2_loop i v1).trips) : Fin 3 → Nat :=
  let arg2 : BitVec 32 := BitVec.ofNat 32 (i 2).val
  let c2_i32 : BitVec 32 := 2#32
  let v2 : BitVec 32 := Scalar.remsi arg2 c2_i32
  let v178 : Index := Scalar.indexCast v2
  let c0_i32_32 : BitVec 32 := 0#32
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_88 : BitVec 32 := 512#32
  let v167 : BitVec 32 := Scalar.muli arg17 c512_i32_88
  let v168 : BitVec 32 := v167
  let v179 : Index := Scalar.indexCast v168
  let c0_95 : Index := 0#32
  ![v178.toNat, v179.toNat, 0]
def k0_off14 (i : grid0.Coords) (v1 : BitVec 32) (k0_t2 : Fin (k0_t2_loop i v1).trips) : Fin 3 → Nat :=
  let arg2 : BitVec 32 := BitVec.ofNat 32 (i 2).val
  let c2_i32 : BitVec 32 := 2#32
  let v2 : BitVec 32 := Scalar.remsi arg2 c2_i32
  let v189 : Index := Scalar.indexCast v2
  let c0_i32_32 : BitVec 32 := 0#32
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_88 : BitVec 32 := 512#32
  let v167 : BitVec 32 := Scalar.muli arg17 c512_i32_88
  let v168 : BitVec 32 := v167
  let v190 : Index := Scalar.indexCast v168
  let c256_100 : Index := 256#32
  ![v189.toNat, v190.toNat, 256]
def k0_mult4 (i : grid0.Coords) (v1 : BitVec 32) (k0_t2 : Fin (k0_t2_loop i v1).trips) : BitVec 32 :=
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_102 : BitVec 32 := 512#32
  let v198 : BitVec 32 := Scalar.muli arg17 c512_i32_102
  v198
def k0_off15 (i : grid0.Coords) (v1 : BitVec 32) (k0_t2 : Fin (k0_t2_loop i v1).trips) : Fin 4 → Nat :=
  let c0_103 : Index := 0#32
  let c0_104 : Index := 0#32
  let c0_105 : Index := 0#32
  let c0_i32_32 : BitVec 32 := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_102 : BitVec 32 := 512#32
  let v198 : BitVec 32 := Scalar.muli arg17 c512_i32_102
  let v199 : BitVec 32 := v198
  let v200 : Index := Scalar.indexCast v199
  ![0, 0, 0, v200.toNat]
def k0_off16 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v203 : Index := Scalar.indexCast v3
  let c0_106 : Index := 0#32
  let c0_107 : Index := 0#32
  ![v203.toNat, 0, 0]
def k0_off17 (i : grid0.Coords) (v1 : BitVec 32) (k0_t2 : Fin (k0_t2_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v209 : Index := Scalar.indexCast v3
  let c0_i32_32 : BitVec 32 := 0#32
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_102 : BitVec 32 := 512#32
  let v198 : BitVec 32 := Scalar.muli arg17 c512_i32_102
  let v199 : BitVec 32 := v198
  let v210 : Index := Scalar.indexCast v199
  let c0_110 : Index := 0#32
  ![v209.toNat, v210.toNat, 0]
def k0_off18 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v232 : Index := Scalar.indexCast v3
  let c0_118 : Index := 0#32
  let c256_119 : Index := 256#32
  ![v232.toNat, 0, 256]
def k0_off19 (i : grid0.Coords) (v1 : BitVec 32) (k0_t2 : Fin (k0_t2_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v238 : Index := Scalar.indexCast v3
  let c0_i32_32 : BitVec 32 := 0#32
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v52 : BitVec 32 := Scalar.subi v51 c0_i32_32
  let c1_i32_33 : BitVec 32 := 1#32
  let v54 : BitVec 32 := Scalar.divsi v52 c1_i32_33
  let v55 : BitVec 32 := Scalar.muli v54 c1_i32_33
  let v56 : BitVec 32 := Scalar.addi c0_i32_32 v55
  let c1_i32_35 : BitVec 32 := 1#32
  let arg17 : BitVec 32 := Scf.iv v56 c1_i32_35 k0_t2
  let c512_i32_102 : BitVec 32 := 512#32
  let v198 : BitVec 32 := Scalar.muli arg17 c512_i32_102
  let v199 : BitVec 32 := v198
  let v239 : Index := Scalar.indexCast v199
  let c256_122 : Index := 256#32
  ![v238.toNat, v239.toNat, 256]
@[reducible] def k0_t3_loop (i : grid0.Coords) (v1 : BitVec 32) : Scf.Loop 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let c1_i32_37 : BitVec 32 := 1#32
  ⟨v51, v63, c1_i32_37⟩
def k0_mult5 (i : grid0.Coords) (v1 : BitVec 32) (k0_t3 : Fin (k0_t3_loop i v1).trips) : BitVec 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_37 : BitVec 32 := 1#32
  let arg17 : BitVec 32 := Scf.iv v51 c1_i32_37 k0_t3
  let c512_i32_88 : BitVec 32 := 512#32
  let v167 : BitVec 32 := Scalar.muli arg17 c512_i32_88
  v167
def k0_off20 (i : grid0.Coords) (v1 : BitVec 32) (k0_t3 : Fin (k0_t3_loop i v1).trips) : Fin 3 → Nat :=
  let c0_89 : Index := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_37 : BitVec 32 := 1#32
  let arg17 : BitVec 32 := Scf.iv v51 c1_i32_37 k0_t3
  let c512_i32_88 : BitVec 32 := 512#32
  let v167 : BitVec 32 := Scalar.muli arg17 c512_i32_88
  let v168 : BitVec 32 := v167
  let v169 : Index := Scalar.indexCast v168
  let c0_90 : Index := 0#32
  ![0, v169.toNat, 0]
def k0_off21 (i : grid0.Coords) (v1 : BitVec 32) (k0_t3 : Fin (k0_t3_loop i v1).trips) : Fin 2 → Nat :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_37 : BitVec 32 := 1#32
  let arg17 : BitVec 32 := Scf.iv v51 c1_i32_37 k0_t3
  let c512_i32_88 : BitVec 32 := 512#32
  let v167 : BitVec 32 := Scalar.muli arg17 c512_i32_88
  let v168 : BitVec 32 := v167
  let v172 : Index := Scalar.indexCast v168
  let c0_91 : Index := 0#32
  ![v172.toNat, 0]
def k0_off22 (i : grid0.Coords) (v1 : BitVec 32) (k0_t3 : Fin (k0_t3_loop i v1).trips) : Fin 3 → Nat :=
  let arg2 : BitVec 32 := BitVec.ofNat 32 (i 2).val
  let c2_i32 : BitVec 32 := 2#32
  let v2 : BitVec 32 := Scalar.remsi arg2 c2_i32
  let v178 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_37 : BitVec 32 := 1#32
  let arg17 : BitVec 32 := Scf.iv v51 c1_i32_37 k0_t3
  let c512_i32_88 : BitVec 32 := 512#32
  let v167 : BitVec 32 := Scalar.muli arg17 c512_i32_88
  let v168 : BitVec 32 := v167
  let v179 : Index := Scalar.indexCast v168
  let c0_95 : Index := 0#32
  ![v178.toNat, v179.toNat, 0]
def k0_off23 (i : grid0.Coords) (v1 : BitVec 32) (k0_t3 : Fin (k0_t3_loop i v1).trips) : Fin 3 → Nat :=
  let arg2 : BitVec 32 := BitVec.ofNat 32 (i 2).val
  let c2_i32 : BitVec 32 := 2#32
  let v2 : BitVec 32 := Scalar.remsi arg2 c2_i32
  let v189 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_37 : BitVec 32 := 1#32
  let arg17 : BitVec 32 := Scf.iv v51 c1_i32_37 k0_t3
  let c512_i32_88 : BitVec 32 := 512#32
  let v167 : BitVec 32 := Scalar.muli arg17 c512_i32_88
  let v168 : BitVec 32 := v167
  let v190 : Index := Scalar.indexCast v168
  let c256_100 : Index := 256#32
  ![v189.toNat, v190.toNat, 256]
@[reducible] def k0_t4_loop (i : grid0.Coords) (v1 : BitVec 32) : Scf.Loop 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let v60 : BitVec 32 := Scalar.addi v51 v59
  let c1_i32_38 : BitVec 32 := 1#32
  ⟨v63, v60, c1_i32_38⟩
def k0_mult6 (i : grid0.Coords) (v1 : BitVec 32) (k0_t4 : Fin (k0_t4_loop i v1).trips) : BitVec 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let c1_i32_38 : BitVec 32 := 1#32
  let arg17 : BitVec 32 := Scf.iv v63 c1_i32_38 k0_t4
  let c512_i32_88 : BitVec 32 := 512#32
  let v167 : BitVec 32 := Scalar.muli arg17 c512_i32_88
  v167
def k0_off24 (i : grid0.Coords) (v1 : BitVec 32) (k0_t4 : Fin (k0_t4_loop i v1).trips) : Fin 3 → Nat :=
  let c0_89 : Index := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let c1_i32_38 : BitVec 32 := 1#32
  let arg17 : BitVec 32 := Scf.iv v63 c1_i32_38 k0_t4
  let c512_i32_88 : BitVec 32 := 512#32
  let v167 : BitVec 32 := Scalar.muli arg17 c512_i32_88
  let v168 : BitVec 32 := v167
  let v169 : Index := Scalar.indexCast v168
  let c0_90 : Index := 0#32
  ![0, v169.toNat, 0]
def k0_off25 (i : grid0.Coords) (v1 : BitVec 32) (k0_t4 : Fin (k0_t4_loop i v1).trips) : Fin 2 → Nat :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let c1_i32_38 : BitVec 32 := 1#32
  let arg17 : BitVec 32 := Scf.iv v63 c1_i32_38 k0_t4
  let c512_i32_88 : BitVec 32 := 512#32
  let v167 : BitVec 32 := Scalar.muli arg17 c512_i32_88
  let v168 : BitVec 32 := v167
  let v172 : Index := Scalar.indexCast v168
  let c0_91 : Index := 0#32
  ![v172.toNat, 0]
def k0_off26 (i : grid0.Coords) (v1 : BitVec 32) (k0_t4 : Fin (k0_t4_loop i v1).trips) : Fin 3 → Nat :=
  let arg2 : BitVec 32 := BitVec.ofNat 32 (i 2).val
  let c2_i32 : BitVec 32 := 2#32
  let v2 : BitVec 32 := Scalar.remsi arg2 c2_i32
  let v178 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let c1_i32_38 : BitVec 32 := 1#32
  let arg17 : BitVec 32 := Scf.iv v63 c1_i32_38 k0_t4
  let c512_i32_88 : BitVec 32 := 512#32
  let v167 : BitVec 32 := Scalar.muli arg17 c512_i32_88
  let v168 : BitVec 32 := v167
  let v179 : Index := Scalar.indexCast v168
  let c0_95 : Index := 0#32
  ![v178.toNat, v179.toNat, 0]
def k0_off27 (i : grid0.Coords) (v1 : BitVec 32) (k0_t4 : Fin (k0_t4_loop i v1).trips) : Fin 3 → Nat :=
  let arg2 : BitVec 32 := BitVec.ofNat 32 (i 2).val
  let c2_i32 : BitVec 32 := 2#32
  let v2 : BitVec 32 := Scalar.remsi arg2 c2_i32
  let v189 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v59 : BitVec 32 := Scalar.subi v40 v51
  let c1_i32_36 : BitVec 32 := 1#32
  let v61 : BitVec 32 := Scalar.divsi v59 c1_i32_36
  let v62 : BitVec 32 := Scalar.muli v61 c1_i32_36
  let v63 : BitVec 32 := Scalar.addi v51 v62
  let c1_i32_38 : BitVec 32 := 1#32
  let arg17 : BitVec 32 := Scf.iv v63 c1_i32_38 k0_t4
  let c512_i32_88 : BitVec 32 := 512#32
  let v167 : BitVec 32 := Scalar.muli arg17 c512_i32_88
  let v168 : BitVec 32 := v167
  let v190 : Index := Scalar.indexCast v168
  let c256_100 : Index := 256#32
  ![v189.toNat, v190.toNat, 256]
@[reducible] def k0_t5_loop (i : grid0.Coords) (v1 : BitVec 32) : Scf.Loop 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let c1_i32_40 : BitVec 32 := 1#32
  ⟨v40, v70, c1_i32_40⟩
def k0_mult7 (i : grid0.Coords) (v1 : BitVec 32) (k0_t5 : Fin (k0_t5_loop i v1).trips) : BitVec 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_40 : BitVec 32 := 1#32
  let arg17 : BitVec 32 := Scf.iv v40 c1_i32_40 k0_t5
  let c512_i32_88 : BitVec 32 := 512#32
  let v167 : BitVec 32 := Scalar.muli arg17 c512_i32_88
  v167
def k0_off28 (i : grid0.Coords) (v1 : BitVec 32) (k0_t5 : Fin (k0_t5_loop i v1).trips) : Fin 3 → Nat :=
  let c0_89 : Index := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_40 : BitVec 32 := 1#32
  let arg17 : BitVec 32 := Scf.iv v40 c1_i32_40 k0_t5
  let c512_i32_88 : BitVec 32 := 512#32
  let v167 : BitVec 32 := Scalar.muli arg17 c512_i32_88
  let v168 : BitVec 32 := v167
  let v169 : Index := Scalar.indexCast v168
  let c0_90 : Index := 0#32
  ![0, v169.toNat, 0]
def k0_off29 (i : grid0.Coords) (v1 : BitVec 32) (k0_t5 : Fin (k0_t5_loop i v1).trips) : Fin 2 → Nat :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_40 : BitVec 32 := 1#32
  let arg17 : BitVec 32 := Scf.iv v40 c1_i32_40 k0_t5
  let c512_i32_88 : BitVec 32 := 512#32
  let v167 : BitVec 32 := Scalar.muli arg17 c512_i32_88
  let v168 : BitVec 32 := v167
  let v172 : Index := Scalar.indexCast v168
  let c0_91 : Index := 0#32
  ![v172.toNat, 0]
def k0_off30 (i : grid0.Coords) (v1 : BitVec 32) (k0_t5 : Fin (k0_t5_loop i v1).trips) : Fin 3 → Nat :=
  let arg2 : BitVec 32 := BitVec.ofNat 32 (i 2).val
  let c2_i32 : BitVec 32 := 2#32
  let v2 : BitVec 32 := Scalar.remsi arg2 c2_i32
  let v194 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_40 : BitVec 32 := 1#32
  let arg17 : BitVec 32 := Scf.iv v40 c1_i32_40 k0_t5
  let c512_i32_88 : BitVec 32 := 512#32
  let v167 : BitVec 32 := Scalar.muli arg17 c512_i32_88
  let v168 : BitVec 32 := v167
  let v195 : Index := Scalar.indexCast v168
  let c0_98 : Index := 0#32
  ![v194.toNat, v195.toNat, 0]
def k0_off31 (i : grid0.Coords) (v1 : BitVec 32) (k0_t5 : Fin (k0_t5_loop i v1).trips) : Fin 3 → Nat :=
  let arg2 : BitVec 32 := BitVec.ofNat 32 (i 2).val
  let c2_i32 : BitVec 32 := 2#32
  let v2 : BitVec 32 := Scalar.remsi arg2 c2_i32
  let v221 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_40 : BitVec 32 := 1#32
  let arg17 : BitVec 32 := Scf.iv v40 c1_i32_40 k0_t5
  let c512_i32_88 : BitVec 32 := 512#32
  let v167 : BitVec 32 := Scalar.muli arg17 c512_i32_88
  let v168 : BitVec 32 := v167
  let v222 : Index := Scalar.indexCast v168
  let c256_107 : Index := 256#32
  ![v221.toNat, v222.toNat, 256]
@[reducible] def k0_t6_loop (i : grid0.Coords) (v1 : BitVec 32) : Scf.Loop 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let v67 : BitVec 32 := Scalar.addi v40 v66
  let c1_i32_41 : BitVec 32 := 1#32
  ⟨v70, v67, c1_i32_41⟩
def k0_mult8 (i : grid0.Coords) (v1 : BitVec 32) (k0_t6 : Fin (k0_t6_loop i v1).trips) : BitVec 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let c1_i32_41 : BitVec 32 := 1#32
  let arg17 : BitVec 32 := Scf.iv v70 c1_i32_41 k0_t6
  let c512_i32_88 : BitVec 32 := 512#32
  let v167 : BitVec 32 := Scalar.muli arg17 c512_i32_88
  v167
def k0_off32 (i : grid0.Coords) (v1 : BitVec 32) (k0_t6 : Fin (k0_t6_loop i v1).trips) : Fin 3 → Nat :=
  let c0_89 : Index := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let c1_i32_41 : BitVec 32 := 1#32
  let arg17 : BitVec 32 := Scf.iv v70 c1_i32_41 k0_t6
  let c512_i32_88 : BitVec 32 := 512#32
  let v167 : BitVec 32 := Scalar.muli arg17 c512_i32_88
  let v168 : BitVec 32 := v167
  let v169 : Index := Scalar.indexCast v168
  let c0_90 : Index := 0#32
  ![0, v169.toNat, 0]
def k0_off33 (i : grid0.Coords) (v1 : BitVec 32) (k0_t6 : Fin (k0_t6_loop i v1).trips) : Fin 2 → Nat :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let c1_i32_41 : BitVec 32 := 1#32
  let arg17 : BitVec 32 := Scf.iv v70 c1_i32_41 k0_t6
  let c512_i32_88 : BitVec 32 := 512#32
  let v167 : BitVec 32 := Scalar.muli arg17 c512_i32_88
  let v168 : BitVec 32 := v167
  let v172 : Index := Scalar.indexCast v168
  let c0_91 : Index := 0#32
  ![v172.toNat, 0]
def k0_off34 (i : grid0.Coords) (v1 : BitVec 32) (k0_t6 : Fin (k0_t6_loop i v1).trips) : Fin 3 → Nat :=
  let arg2 : BitVec 32 := BitVec.ofNat 32 (i 2).val
  let c2_i32 : BitVec 32 := 2#32
  let v2 : BitVec 32 := Scalar.remsi arg2 c2_i32
  let v194 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let c1_i32_41 : BitVec 32 := 1#32
  let arg17 : BitVec 32 := Scf.iv v70 c1_i32_41 k0_t6
  let c512_i32_88 : BitVec 32 := 512#32
  let v167 : BitVec 32 := Scalar.muli arg17 c512_i32_88
  let v168 : BitVec 32 := v167
  let v195 : Index := Scalar.indexCast v168
  let c0_98 : Index := 0#32
  ![v194.toNat, v195.toNat, 0]
def k0_off35 (i : grid0.Coords) (v1 : BitVec 32) (k0_t6 : Fin (k0_t6_loop i v1).trips) : Fin 3 → Nat :=
  let arg2 : BitVec 32 := BitVec.ofNat 32 (i 2).val
  let c2_i32 : BitVec 32 := 2#32
  let v2 : BitVec 32 := Scalar.remsi arg2 c2_i32
  let v221 : Index := Scalar.indexCast v2
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c1_i32_17 : BitVec 32 := 1#32
  let v28 : BitVec 32 := Scalar.addi arg2 c1_i32_17
  let c128_i32 : BitVec 32 := 128#32
  let v29 : BitVec 32 := Scalar.muli v28 c128_i32
  let v30 : BitVec 32 := Scalar.maxsi v1 v29
  let c0_i32_18 : BitVec 32 := 0#32
  let v31 : BitVec 32 := Scalar.select v27 v30 c0_i32_18
  let c511_i32 : BitVec 32 := 511#32
  let v41 : BitVec 32 := Scalar.addi v31 c511_i32
  let c512_i32_25 : BitVec 32 := 512#32
  let v42 : BitVec 32 := Scalar.divsi v41 c512_i32_25
  let v66 : BitVec 32 := Scalar.subi v42 v40
  let c1_i32_39 : BitVec 32 := 1#32
  let v68 : BitVec 32 := Scalar.divsi v66 c1_i32_39
  let v69 : BitVec 32 := Scalar.muli v68 c1_i32_39
  let v70 : BitVec 32 := Scalar.addi v40 v69
  let c1_i32_41 : BitVec 32 := 1#32
  let arg17 : BitVec 32 := Scf.iv v70 c1_i32_41 k0_t6
  let c512_i32_88 : BitVec 32 := 512#32
  let v167 : BitVec 32 := Scalar.muli arg17 c512_i32_88
  let v168 : BitVec 32 := v167
  let v222 : Index := Scalar.indexCast v168
  let c256_107 : Index := 256#32
  ![v221.toNat, v222.toNat, 256]
@[reducible] def k0_t7_loop (i : grid0.Coords) (v1 : BitVec 32) : Scf.Loop 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v73 : BitVec 32 := Scalar.subi v44 v51
  let c1_i32_42 : BitVec 32 := 1#32
  let v75 : BitVec 32 := Scalar.divsi v73 c1_i32_42
  let v76 : BitVec 32 := Scalar.muli v75 c1_i32_42
  let v77 : BitVec 32 := Scalar.addi v51 v76
  let c1_i32_43 : BitVec 32 := 1#32
  ⟨v51, v77, c1_i32_43⟩
def k0_mult9 (i : grid0.Coords) (v1 : BitVec 32) (k0_t7 : Fin (k0_t7_loop i v1).trips) : BitVec 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_43 : BitVec 32 := 1#32
  let arg17 : BitVec 32 := Scf.iv v51 c1_i32_43 k0_t7
  let c512_i32_88 : BitVec 32 := 512#32
  let v167 : BitVec 32 := Scalar.muli arg17 c512_i32_88
  v167
def k0_off36 (i : grid0.Coords) (v1 : BitVec 32) (k0_t7 : Fin (k0_t7_loop i v1).trips) : Fin 4 → Nat :=
  let c0_89 : Index := 0#32
  let c0_90 : Index := 0#32
  let c0_91 : Index := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_43 : BitVec 32 := 1#32
  let arg17 : BitVec 32 := Scf.iv v51 c1_i32_43 k0_t7
  let c512_i32_88 : BitVec 32 := 512#32
  let v167 : BitVec 32 := Scalar.muli arg17 c512_i32_88
  let v168 : BitVec 32 := v167
  let v169 : Index := Scalar.indexCast v168
  ![0, 0, 0, v169.toNat]
def k0_off37 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v172 : Index := Scalar.indexCast v3
  let c0_92 : Index := 0#32
  let c0_93 : Index := 0#32
  ![v172.toNat, 0, 0]
def k0_off38 (i : grid0.Coords) (v1 : BitVec 32) (k0_t7 : Fin (k0_t7_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v178 : Index := Scalar.indexCast v3
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_43 : BitVec 32 := 1#32
  let arg17 : BitVec 32 := Scf.iv v51 c1_i32_43 k0_t7
  let c512_i32_88 : BitVec 32 := 512#32
  let v167 : BitVec 32 := Scalar.muli arg17 c512_i32_88
  let v168 : BitVec 32 := v167
  let v179 : Index := Scalar.indexCast v168
  let c0_96 : Index := 0#32
  ![v178.toNat, v179.toNat, 0]
def k0_off39 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v201 : Index := Scalar.indexCast v3
  let c0_104 : Index := 0#32
  let c256_105 : Index := 256#32
  ![v201.toNat, 0, 256]
def k0_off40 (i : grid0.Coords) (v1 : BitVec 32) (k0_t7 : Fin (k0_t7_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v207 : Index := Scalar.indexCast v3
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let c1_i32_43 : BitVec 32 := 1#32
  let arg17 : BitVec 32 := Scf.iv v51 c1_i32_43 k0_t7
  let c512_i32_88 : BitVec 32 := 512#32
  let v167 : BitVec 32 := Scalar.muli arg17 c512_i32_88
  let v168 : BitVec 32 := v167
  let v208 : Index := Scalar.indexCast v168
  let c256_108 : Index := 256#32
  ![v207.toNat, v208.toNat, 256]
@[reducible] def k0_t8_loop (i : grid0.Coords) (v1 : BitVec 32) : Scf.Loop 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v73 : BitVec 32 := Scalar.subi v44 v51
  let c1_i32_42 : BitVec 32 := 1#32
  let v75 : BitVec 32 := Scalar.divsi v73 c1_i32_42
  let v76 : BitVec 32 := Scalar.muli v75 c1_i32_42
  let v77 : BitVec 32 := Scalar.addi v51 v76
  let v74 : BitVec 32 := Scalar.addi v51 v73
  let c1_i32_44 : BitVec 32 := 1#32
  ⟨v77, v74, c1_i32_44⟩
def k0_mult10 (i : grid0.Coords) (v1 : BitVec 32) (k0_t8 : Fin (k0_t8_loop i v1).trips) : BitVec 32 :=
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v73 : BitVec 32 := Scalar.subi v44 v51
  let c1_i32_42 : BitVec 32 := 1#32
  let v75 : BitVec 32 := Scalar.divsi v73 c1_i32_42
  let v76 : BitVec 32 := Scalar.muli v75 c1_i32_42
  let v77 : BitVec 32 := Scalar.addi v51 v76
  let c1_i32_44 : BitVec 32 := 1#32
  let arg17 : BitVec 32 := Scf.iv v77 c1_i32_44 k0_t8
  let c512_i32_88 : BitVec 32 := 512#32
  let v167 : BitVec 32 := Scalar.muli arg17 c512_i32_88
  v167
def k0_off41 (i : grid0.Coords) (v1 : BitVec 32) (k0_t8 : Fin (k0_t8_loop i v1).trips) : Fin 4 → Nat :=
  let c0_89 : Index := 0#32
  let c0_90 : Index := 0#32
  let c0_91 : Index := 0#32
  let arg2 : BitVec 32 := BitVec.ofNat 32 (i 2).val
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v73 : BitVec 32 := Scalar.subi v44 v51
  let c1_i32_42 : BitVec 32 := 1#32
  let v75 : BitVec 32 := Scalar.divsi v73 c1_i32_42
  let v76 : BitVec 32 := Scalar.muli v75 c1_i32_42
  let v77 : BitVec 32 := Scalar.addi v51 v76
  let c1_i32_44 : BitVec 32 := 1#32
  let arg17 : BitVec 32 := Scf.iv v77 c1_i32_44 k0_t8
  let c512_i32_88 : BitVec 32 := 512#32
  let v167 : BitVec 32 := Scalar.muli arg17 c512_i32_88
  let v168 : BitVec 32 := v167
  let v169 : Index := Scalar.indexCast v168
  ![0, 0, 0, v169.toNat]
def k0_off42 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v172 : Index := Scalar.indexCast v3
  let c0_92 : Index := 0#32
  let c0_93 : Index := 0#32
  ![v172.toNat, 0, 0]
def k0_off43 (i : grid0.Coords) (v1 : BitVec 32) (k0_t8 : Fin (k0_t8_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v178 : Index := Scalar.indexCast v3
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v73 : BitVec 32 := Scalar.subi v44 v51
  let c1_i32_42 : BitVec 32 := 1#32
  let v75 : BitVec 32 := Scalar.divsi v73 c1_i32_42
  let v76 : BitVec 32 := Scalar.muli v75 c1_i32_42
  let v77 : BitVec 32 := Scalar.addi v51 v76
  let c1_i32_44 : BitVec 32 := 1#32
  let arg17 : BitVec 32 := Scf.iv v77 c1_i32_44 k0_t8
  let c512_i32_88 : BitVec 32 := 512#32
  let v167 : BitVec 32 := Scalar.muli arg17 c512_i32_88
  let v168 : BitVec 32 := v167
  let v179 : Index := Scalar.indexCast v168
  let c0_96 : Index := 0#32
  ![v178.toNat, v179.toNat, 0]
def k0_off44 (i : grid0.Coords) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v201 : Index := Scalar.indexCast v3
  let c0_104 : Index := 0#32
  let c256_105 : Index := 256#32
  ![v201.toNat, 0, 256]
def k0_off45 (i : grid0.Coords) (v1 : BitVec 32) (k0_t8 : Fin (k0_t8_loop i v1).trips) : Fin 3 → Nat :=
  let c1_i32 : BitVec 32 := 1#32
  let arg2 : BitVec 32 := BitVec.ofNat 32 (i 2).val
  let c2_i32 : BitVec 32 := 2#32
  let v2 : BitVec 32 := Scalar.remsi arg2 c2_i32
  let v3 : BitVec 32 := Scalar.subi c1_i32 v2
  let v207 : Index := Scalar.indexCast v3
  let c64_i32 : BitVec 32 := 64#32
  let v27 : BitVec 1 := Scalar.cmpi .slt arg2 c64_i32
  let c128_i32_19 : BitVec 32 := 128#32
  let v32 : BitVec 32 := Scalar.muli arg2 c128_i32_19
  let c1_i32_20 : BitVec 32 := 1#32
  let v33 : BitVec 32 := Scalar.addi v32 c1_i32_20
  let v34 : BitVec 32 := Scalar.maxsi v1 v33
  let c0_i32_21 : BitVec 32 := 0#32
  let v35 : BitVec 32 := Scalar.select v27 v34 c0_i32_21
  let c512_i32 : BitVec 32 := 512#32
  let v40 : BitVec 32 := Scalar.divsi v35 c512_i32
  let c0_i32_22 : BitVec 32 := 0#32
  let v36 : BitVec 1 := Scalar.cmpi .sgt arg2 c0_i32_22
  let c128_i32_23 : BitVec 32 := 128#32
  let v37 : BitVec 32 := Scalar.muli arg2 c128_i32_23
  let v38 : BitVec 32 := Scalar.maxsi v1 v37
  let c0_i32_24 : BitVec 32 := 0#32
  let v39 : BitVec 32 := Scalar.select v36 v38 c0_i32_24
  let c511_i32_26 : BitVec 32 := 511#32
  let v43 : BitVec 32 := Scalar.addi v39 c511_i32_26
  let c512_i32_27 : BitVec 32 := 512#32
  let v44 : BitVec 32 := Scalar.divsi v43 c512_i32_27
  let v51 : BitVec 32 := Scalar.minsi v40 v44
  let v73 : BitVec 32 := Scalar.subi v44 v51
  let c1_i32_42 : BitVec 32 := 1#32
  let v75 : BitVec 32 := Scalar.divsi v73 c1_i32_42
  let v76 : BitVec 32 := Scalar.muli v75 c1_i32_42
  let v77 : BitVec 32 := Scalar.addi v51 v76
  let c1_i32_44 : BitVec 32 := 1#32
  let arg17 : BitVec 32 := Scf.iv v77 c1_i32_44 k0_t8
  let c512_i32_88 : BitVec 32 := 512#32
  let v167 : BitVec 32 := Scalar.muli arg17 c512_i32_88
  let v168 : BitVec 32 := v167
  let v208 : Index := Scalar.indexCast v168
  let c256_108 : Index := 256#32
  ![v207.toNat, v208.toNat, 256]

def k0_chk1_0 (i : grid0.Coords) (v1 : BitVec 32) : Prop :=
  ((k0_t1_loop i v1).OK) ∧
  (∀ k0_t1 : Fin (k0_t1_loop i v1).trips, 512 ∣ (k0_mult1 i v1 k0_t1).toNat) ∧
  (∀ k0_t1 : Fin (k0_t1_loop i v1).trips, ∀ a, (k0_off2 i v1 k0_t1) a + S1x512x128.size a ≤ S1x8192x128.size a) ∧
  (∀ k0_t1 : Fin (k0_t1_loop i v1).trips, ∀ a, (k0_off3 i v1 k0_t1) a + S512x128.size a ≤ S8192x128.size a) ∧
  (∀ k0_t1 : Fin (k0_t1_loop i v1).trips, ∀ a, (k0_off4 i v1 k0_t1) a + S1x512x256.size a ≤ S2x8192x512.size a) ∧
  (∀ k0_t1 : Fin (k0_t1_loop i v1).trips, ∀ a, (k0_off5 i v1 k0_t1) a + S1x512x256.size a ≤ S2x8192x512.size a) ∧
  (∀ k0_t1 : Fin (k0_t1_loop i v1).trips, 512 ∣ (k0_mult2 i v1 k0_t1).toNat) ∧
  (∀ k0_t1 : Fin (k0_t1_loop i v1).trips, ∀ a, (k0_off6 i v1 k0_t1) a + S1x1x128x512.size a ≤ S1x1x128x8192.size a) ∧
  (∀ k0_t1 : Fin (k0_t1_loop i v1).trips, ∀ a, (k0_off8 i v1 k0_t1) a + S1x512x256.size a ≤ S2x8192x512.size a) ∧
  (∀ k0_t1 : Fin (k0_t1_loop i v1).trips, ∀ a, (k0_off10 i v1 k0_t1) a + S1x512x256.size a ≤ S2x8192x512.size a) ∧
  ((k0_t2_loop i v1).OK) ∧
  (∀ k0_t2 : Fin (k0_t2_loop i v1).trips, 512 ∣ (k0_mult3 i v1 k0_t2).toNat) ∧
  (∀ k0_t2 : Fin (k0_t2_loop i v1).trips, ∀ a, (k0_off11 i v1 k0_t2) a + S1x512x128.size a ≤ S1x8192x128.size a) ∧
  (∀ k0_t2 : Fin (k0_t2_loop i v1).trips, ∀ a, (k0_off12 i v1 k0_t2) a + S512x128.size a ≤ S8192x128.size a) ∧
  (∀ k0_t2 : Fin (k0_t2_loop i v1).trips, ∀ a, (k0_off13 i v1 k0_t2) a + S1x512x256.size a ≤ S2x8192x512.size a) ∧
  (∀ k0_t2 : Fin (k0_t2_loop i v1).trips, ∀ a, (k0_off14 i v1 k0_t2) a + S1x512x256.size a ≤ S2x8192x512.size a) ∧
  (∀ k0_t2 : Fin (k0_t2_loop i v1).trips, 512 ∣ (k0_mult4 i v1 k0_t2).toNat) ∧
  (∀ k0_t2 : Fin (k0_t2_loop i v1).trips, ∀ a, (k0_off15 i v1 k0_t2) a + S1x1x128x512.size a ≤ S1x1x128x8192.size a) ∧
  (∀ k0_t2 : Fin (k0_t2_loop i v1).trips, ∀ a, (k0_off17 i v1 k0_t2) a + S1x512x256.size a ≤ S2x8192x512.size a) ∧
  (∀ k0_t2 : Fin (k0_t2_loop i v1).trips, ∀ a, (k0_off19 i v1 k0_t2) a + S1x512x256.size a ≤ S2x8192x512.size a) ∧
  ((k0_t3_loop i v1).OK) ∧
  (∀ k0_t3 : Fin (k0_t3_loop i v1).trips, 512 ∣ (k0_mult5 i v1 k0_t3).toNat) ∧
  (∀ k0_t3 : Fin (k0_t3_loop i v1).trips, ∀ a, (k0_off20 i v1 k0_t3) a + S1x512x128.size a ≤ S1x8192x128.size a) ∧
  (∀ k0_t3 : Fin (k0_t3_loop i v1).trips, ∀ a, (k0_off21 i v1 k0_t3) a + S512x128.size a ≤ S8192x128.size a) ∧
  (∀ k0_t3 : Fin (k0_t3_loop i v1).trips, ∀ a, (k0_off22 i v1 k0_t3) a + S1x512x256.size a ≤ S2x8192x512.size a) ∧
  (∀ k0_t3 : Fin (k0_t3_loop i v1).trips, ∀ a, (k0_off23 i v1 k0_t3) a + S1x512x256.size a ≤ S2x8192x512.size a) ∧
  ((k0_t4_loop i v1).OK) ∧
  (∀ k0_t4 : Fin (k0_t4_loop i v1).trips, 512 ∣ (k0_mult6 i v1 k0_t4).toNat) ∧
  (∀ k0_t4 : Fin (k0_t4_loop i v1).trips, ∀ a, (k0_off24 i v1 k0_t4) a + S1x512x128.size a ≤ S1x8192x128.size a) ∧
  (∀ k0_t4 : Fin (k0_t4_loop i v1).trips, ∀ a, (k0_off25 i v1 k0_t4) a + S512x128.size a ≤ S8192x128.size a) ∧
  (∀ k0_t4 : Fin (k0_t4_loop i v1).trips, ∀ a, (k0_off26 i v1 k0_t4) a + S1x512x256.size a ≤ S2x8192x512.size a) ∧
  (∀ k0_t4 : Fin (k0_t4_loop i v1).trips, ∀ a, (k0_off27 i v1 k0_t4) a + S1x512x256.size a ≤ S2x8192x512.size a)
def k0_chk1_1 (i : grid0.Coords) (v1 : BitVec 32) : Prop :=
  ((k0_t5_loop i v1).OK) ∧
  (∀ k0_t5 : Fin (k0_t5_loop i v1).trips, 512 ∣ (k0_mult7 i v1 k0_t5).toNat) ∧
  (∀ k0_t5 : Fin (k0_t5_loop i v1).trips, ∀ a, (k0_off28 i v1 k0_t5) a + S1x512x128.size a ≤ S1x8192x128.size a) ∧
  (∀ k0_t5 : Fin (k0_t5_loop i v1).trips, ∀ a, (k0_off29 i v1 k0_t5) a + S512x128.size a ≤ S8192x128.size a) ∧
  (∀ k0_t5 : Fin (k0_t5_loop i v1).trips, ∀ a, (k0_off30 i v1 k0_t5) a + S1x512x256.size a ≤ S2x8192x512.size a) ∧
  (∀ k0_t5 : Fin (k0_t5_loop i v1).trips, ∀ a, (k0_off31 i v1 k0_t5) a + S1x512x256.size a ≤ S2x8192x512.size a) ∧
  ((k0_t6_loop i v1).OK) ∧
  (∀ k0_t6 : Fin (k0_t6_loop i v1).trips, 512 ∣ (k0_mult8 i v1 k0_t6).toNat) ∧
  (∀ k0_t6 : Fin (k0_t6_loop i v1).trips, ∀ a, (k0_off32 i v1 k0_t6) a + S1x512x128.size a ≤ S1x8192x128.size a) ∧
  (∀ k0_t6 : Fin (k0_t6_loop i v1).trips, ∀ a, (k0_off33 i v1 k0_t6) a + S512x128.size a ≤ S8192x128.size a) ∧
  (∀ k0_t6 : Fin (k0_t6_loop i v1).trips, ∀ a, (k0_off34 i v1 k0_t6) a + S1x512x256.size a ≤ S2x8192x512.size a) ∧
  (∀ k0_t6 : Fin (k0_t6_loop i v1).trips, ∀ a, (k0_off35 i v1 k0_t6) a + S1x512x256.size a ≤ S2x8192x512.size a) ∧
  ((k0_t7_loop i v1).OK) ∧
  (∀ k0_t7 : Fin (k0_t7_loop i v1).trips, 512 ∣ (k0_mult9 i v1 k0_t7).toNat) ∧
  (∀ k0_t7 : Fin (k0_t7_loop i v1).trips, ∀ a, (k0_off36 i v1 k0_t7) a + S1x1x128x512.size a ≤ S1x1x128x8192.size a) ∧
  (∀ k0_t7 : Fin (k0_t7_loop i v1).trips, ∀ a, (k0_off38 i v1 k0_t7) a + S1x512x256.size a ≤ S2x8192x512.size a) ∧
  (∀ k0_t7 : Fin (k0_t7_loop i v1).trips, ∀ a, (k0_off40 i v1 k0_t7) a + S1x512x256.size a ≤ S2x8192x512.size a) ∧
  ((k0_t8_loop i v1).OK) ∧
  (∀ k0_t8 : Fin (k0_t8_loop i v1).trips, 512 ∣ (k0_mult10 i v1 k0_t8).toNat) ∧
  (∀ k0_t8 : Fin (k0_t8_loop i v1).trips, ∀ a, (k0_off41 i v1 k0_t8) a + S1x1x128x512.size a ≤ S1x1x128x8192.size a) ∧
  (∀ k0_t8 : Fin (k0_t8_loop i v1).trips, ∀ a, (k0_off43 i v1 k0_t8) a + S1x512x256.size a ≤ S2x8192x512.size a) ∧
  (∀ k0_t8 : Fin (k0_t8_loop i v1).trips, ∀ a, (k0_off45 i v1 k0_t8) a + S1x512x256.size a ≤ S2x8192x512.size a)
def k0_chk1 (i : grid0.Coords) (v1 : BitVec 32) : Prop :=
  k0_chk1_0 i v1 ∧
  k0_chk1_1 i v1
theorem k0_t1_ok : ∀ (i : grid0.Coords) (v1 : BitVec 32) (k0_hw1 : k0_chk1 i v1), (k0_t1_loop i v1).OK := fun i v1 k0_hw1 => k0_hw1.1.1
theorem k0_mult1_dvd : ∀ (i : grid0.Coords) (v1 : BitVec 32) (k0_hw1 : k0_chk1 i v1) (k0_t1 : Fin (k0_t1_loop i v1).trips), 512 ∣ (k0_mult1 i v1 k0_t1).toNat := fun i v1 k0_hw1 k0_t1 => k0_hw1.1.2.1 k0_t1
theorem k0_off2_inb : ∀ (i : grid0.Coords) (v1 : BitVec 32) (k0_hw1 : k0_chk1 i v1) (k0_t1 : Fin (k0_t1_loop i v1).trips), ∀ a, (k0_off2 i v1 k0_t1) a + S1x512x128.size a ≤ S1x8192x128.size a := fun i v1 k0_hw1 k0_t1 => k0_hw1.1.2.2.1 k0_t1
theorem k0_off3_inb : ∀ (i : grid0.Coords) (v1 : BitVec 32) (k0_hw1 : k0_chk1 i v1) (k0_t1 : Fin (k0_t1_loop i v1).trips), ∀ a, (k0_off3 i v1 k0_t1) a + S512x128.size a ≤ S8192x128.size a := fun i v1 k0_hw1 k0_t1 => k0_hw1.1.2.2.2.1 k0_t1
theorem k0_off4_inb : ∀ (i : grid0.Coords) (v1 : BitVec 32) (k0_hw1 : k0_chk1 i v1) (k0_t1 : Fin (k0_t1_loop i v1).trips), ∀ a, (k0_off4 i v1 k0_t1) a + S1x512x256.size a ≤ S2x8192x512.size a := fun i v1 k0_hw1 k0_t1 => k0_hw1.1.2.2.2.2.1 k0_t1
theorem k0_off5_inb : ∀ (i : grid0.Coords) (v1 : BitVec 32) (k0_hw1 : k0_chk1 i v1) (k0_t1 : Fin (k0_t1_loop i v1).trips), ∀ a, (k0_off5 i v1 k0_t1) a + S1x512x256.size a ≤ S2x8192x512.size a := fun i v1 k0_hw1 k0_t1 => k0_hw1.1.2.2.2.2.2.1 k0_t1
theorem k0_mult2_dvd : ∀ (i : grid0.Coords) (v1 : BitVec 32) (k0_hw1 : k0_chk1 i v1) (k0_t1 : Fin (k0_t1_loop i v1).trips), 512 ∣ (k0_mult2 i v1 k0_t1).toNat := fun i v1 k0_hw1 k0_t1 => k0_hw1.1.2.2.2.2.2.2.1 k0_t1
theorem k0_off6_inb : ∀ (i : grid0.Coords) (v1 : BitVec 32) (k0_hw1 : k0_chk1 i v1) (k0_t1 : Fin (k0_t1_loop i v1).trips), ∀ a, (k0_off6 i v1 k0_t1) a + S1x1x128x512.size a ≤ S1x1x128x8192.size a := fun i v1 k0_hw1 k0_t1 => k0_hw1.1.2.2.2.2.2.2.2.1 k0_t1
theorem k0_off8_inb : ∀ (i : grid0.Coords) (v1 : BitVec 32) (k0_hw1 : k0_chk1 i v1) (k0_t1 : Fin (k0_t1_loop i v1).trips), ∀ a, (k0_off8 i v1 k0_t1) a + S1x512x256.size a ≤ S2x8192x512.size a := fun i v1 k0_hw1 k0_t1 => k0_hw1.1.2.2.2.2.2.2.2.2.1 k0_t1
theorem k0_off10_inb : ∀ (i : grid0.Coords) (v1 : BitVec 32) (k0_hw1 : k0_chk1 i v1) (k0_t1 : Fin (k0_t1_loop i v1).trips), ∀ a, (k0_off10 i v1 k0_t1) a + S1x512x256.size a ≤ S2x8192x512.size a := fun i v1 k0_hw1 k0_t1 => k0_hw1.1.2.2.2.2.2.2.2.2.2.1 k0_t1
theorem k0_t2_ok : ∀ (i : grid0.Coords) (v1 : BitVec 32) (k0_hw1 : k0_chk1 i v1), (k0_t2_loop i v1).OK := fun i v1 k0_hw1 => k0_hw1.1.2.2.2.2.2.2.2.2.2.2.1
theorem k0_mult3_dvd : ∀ (i : grid0.Coords) (v1 : BitVec 32) (k0_hw1 : k0_chk1 i v1) (k0_t2 : Fin (k0_t2_loop i v1).trips), 512 ∣ (k0_mult3 i v1 k0_t2).toNat := fun i v1 k0_hw1 k0_t2 => k0_hw1.1.2.2.2.2.2.2.2.2.2.2.2.1 k0_t2
theorem k0_off11_inb : ∀ (i : grid0.Coords) (v1 : BitVec 32) (k0_hw1 : k0_chk1 i v1) (k0_t2 : Fin (k0_t2_loop i v1).trips), ∀ a, (k0_off11 i v1 k0_t2) a + S1x512x128.size a ≤ S1x8192x128.size a := fun i v1 k0_hw1 k0_t2 => k0_hw1.1.2.2.2.2.2.2.2.2.2.2.2.2.1 k0_t2
theorem k0_off12_inb : ∀ (i : grid0.Coords) (v1 : BitVec 32) (k0_hw1 : k0_chk1 i v1) (k0_t2 : Fin (k0_t2_loop i v1).trips), ∀ a, (k0_off12 i v1 k0_t2) a + S512x128.size a ≤ S8192x128.size a := fun i v1 k0_hw1 k0_t2 => k0_hw1.1.2.2.2.2.2.2.2.2.2.2.2.2.2.1 k0_t2
theorem k0_off13_inb : ∀ (i : grid0.Coords) (v1 : BitVec 32) (k0_hw1 : k0_chk1 i v1) (k0_t2 : Fin (k0_t2_loop i v1).trips), ∀ a, (k0_off13 i v1 k0_t2) a + S1x512x256.size a ≤ S2x8192x512.size a := fun i v1 k0_hw1 k0_t2 => k0_hw1.1.2.2.2.2.2.2.2.2.2.2.2.2.2.2.1 k0_t2
theorem k0_off14_inb : ∀ (i : grid0.Coords) (v1 : BitVec 32) (k0_hw1 : k0_chk1 i v1) (k0_t2 : Fin (k0_t2_loop i v1).trips), ∀ a, (k0_off14 i v1 k0_t2) a + S1x512x256.size a ≤ S2x8192x512.size a := fun i v1 k0_hw1 k0_t2 => k0_hw1.1.2.2.2.2.2.2.2.2.2.2.2.2.2.2.2.1 k0_t2
theorem k0_mult4_dvd : ∀ (i : grid0.Coords) (v1 : BitVec 32) (k0_hw1 : k0_chk1 i v1) (k0_t2 : Fin (k0_t2_loop i v1).trips), 512 ∣ (k0_mult4 i v1 k0_t2).toNat := fun i v1 k0_hw1 k0_t2 => k0_hw1.1.2.2.2.2.2.2.2.2.2.2.2.2.2.2.2.2.1 k0_t2
theorem k0_off15_inb : ∀ (i : grid0.Coords) (v1 : BitVec 32) (k0_hw1 : k0_chk1 i v1) (k0_t2 : Fin (k0_t2_loop i v1).trips), ∀ a, (k0_off15 i v1 k0_t2) a + S1x1x128x512.size a ≤ S1x1x128x8192.size a := fun i v1 k0_hw1 k0_t2 => k0_hw1.1.2.2.2.2.2.2.2.2.2.2.2.2.2.2.2.2.2.1 k0_t2
theorem k0_off17_inb : ∀ (i : grid0.Coords) (v1 : BitVec 32) (k0_hw1 : k0_chk1 i v1) (k0_t2 : Fin (k0_t2_loop i v1).trips), ∀ a, (k0_off17 i v1 k0_t2) a + S1x512x256.size a ≤ S2x8192x512.size a := fun i v1 k0_hw1 k0_t2 => k0_hw1.1.2.2.2.2.2.2.2.2.2.2.2.2.2.2.2.2.2.2.1 k0_t2
theorem k0_off19_inb : ∀ (i : grid0.Coords) (v1 : BitVec 32) (k0_hw1 : k0_chk1 i v1) (k0_t2 : Fin (k0_t2_loop i v1).trips), ∀ a, (k0_off19 i v1 k0_t2) a + S1x512x256.size a ≤ S2x8192x512.size a := fun i v1 k0_hw1 k0_t2 => k0_hw1.1.2.2.2.2.2.2.2.2.2.2.2.2.2.2.2.2.2.2.2.1 k0_t2
theorem k0_t3_ok : ∀ (i : grid0.Coords) (v1 : BitVec 32) (k0_hw1 : k0_chk1 i v1), (k0_t3_loop i v1).OK := fun i v1 k0_hw1 => k0_hw1.1.2.2.2.2.2.2.2.2.2.2.2.2.2.2.2.2.2.2.2.2.1
theorem k0_mult5_dvd : ∀ (i : grid0.Coords) (v1 : BitVec 32) (k0_hw1 : k0_chk1 i v1) (k0_t3 : Fin (k0_t3_loop i v1).trips), 512 ∣ (k0_mult5 i v1 k0_t3).toNat := fun i v1 k0_hw1 k0_t3 => k0_hw1.1.2.2.2.2.2.2.2.2.2.2.2.2.2.2.2.2.2.2.2.2.2.1 k0_t3
theorem k0_off20_inb : ∀ (i : grid0.Coords) (v1 : BitVec 32) (k0_hw1 : k0_chk1 i v1) (k0_t3 : Fin (k0_t3_loop i v1).trips), ∀ a, (k0_off20 i v1 k0_t3) a + S1x512x128.size a ≤ S1x8192x128.size a := fun i v1 k0_hw1 k0_t3 => k0_hw1.1.2.2.2.2.2.2.2.2.2.2.2.2.2.2.2.2.2.2.2.2.2.2.1 k0_t3
theorem k0_off21_inb : ∀ (i : grid0.Coords) (v1 : BitVec 32) (k0_hw1 : k0_chk1 i v1) (k0_t3 : Fin (k0_t3_loop i v1).trips), ∀ a, (k0_off21 i v1 k0_t3) a + S512x128.size a ≤ S8192x128.size a := fun i v1 k0_hw1 k0_t3 => k0_hw1.1.2.2.2.2.2.2.2.2.2.2.2.2.2.2.2.2.2.2.2.2.2.2.2.1 k0_t3
theorem k0_off22_inb : ∀ (i : grid0.Coords) (v1 : BitVec 32) (k0_hw1 : k0_chk1 i v1) (k0_t3 : Fin (k0_t3_loop i v1).trips), ∀ a, (k0_off22 i v1 k0_t3) a + S1x512x256.size a ≤ S2x8192x512.size a := fun i v1 k0_hw1 k0_t3 => k0_hw1.1.2.2.2.2.2.2.2.2.2.2.2.2.2.2.2.2.2.2.2.2.2.2.2.2.1 k0_t3
theorem k0_off23_inb : ∀ (i : grid0.Coords) (v1 : BitVec 32) (k0_hw1 : k0_chk1 i v1) (k0_t3 : Fin (k0_t3_loop i v1).trips), ∀ a, (k0_off23 i v1 k0_t3) a + S1x512x256.size a ≤ S2x8192x512.size a := fun i v1 k0_hw1 k0_t3 => k0_hw1.1.2.2.2.2.2.2.2.2.2.2.2.2.2.2.2.2.2.2.2.2.2.2.2.2.2.1 k0_t3
theorem k0_t4_ok : ∀ (i : grid0.Coords) (v1 : BitVec 32) (k0_hw1 : k0_chk1 i v1), (k0_t4_loop i v1).OK := fun i v1 k0_hw1 => k0_hw1.1.2.2.2.2.2.2.2.2.2.2.2.2.2.2.2.2.2.2.2.2.2.2.2.2.2.2.1
theorem k0_mult6_dvd : ∀ (i : grid0.Coords) (v1 : BitVec 32) (k0_hw1 : k0_chk1 i v1) (k0_t4 : Fin (k0_t4_loop i v1).trips), 512 ∣ (k0_mult6 i v1 k0_t4).toNat := fun i v1 k0_hw1 k0_t4 => k0_hw1.1.2.2.2.2.2.2.2.2.2.2.2.2.2.2.2.2.2.2.2.2.2.2.2.2.2.2.2.1 k0_t4
theorem k0_off24_inb : ∀ (i : grid0.Coords) (v1 : BitVec 32) (k0_hw1 : k0_chk1 i v1) (k0_t4 : Fin (k0_t4_loop i v1).trips), ∀ a, (k0_off24 i v1 k0_t4) a + S1x512x128.size a ≤ S1x8192x128.size a := fun i v1 k0_hw1 k0_t4 => k0_hw1.1.2.2.2.2.2.2.2.2.2.2.2.2.2.2.2.2.2.2.2.2.2.2.2.2.2.2.2.2.1 k0_t4
theorem k0_off25_inb : ∀ (i : grid0.Coords) (v1 : BitVec 32) (k0_hw1 : k0_chk1 i v1) (k0_t4 : Fin (k0_t4_loop i v1).trips), ∀ a, (k0_off25 i v1 k0_t4) a + S512x128.size a ≤ S8192x128.size a := fun i v1 k0_hw1 k0_t4 => k0_hw1.1.2.2.2.2.2.2.2.2.2.2.2.2.2.2.2.2.2.2.2.2.2.2.2.2.2.2.2.2.2.1 k0_t4
theorem k0_off26_inb : ∀ (i : grid0.Coords) (v1 : BitVec 32) (k0_hw1 : k0_chk1 i v1) (k0_t4 : Fin (k0_t4_loop i v1).trips), ∀ a, (k0_off26 i v1 k0_t4) a + S1x512x256.size a ≤ S2x8192x512.size a := fun i v1 k0_hw1 k0_t4 => k0_hw1.1.2.2.2.2.2.2.2.2.2.2.2.2.2.2.2.2.2.2.2.2.2.2.2.2.2.2.2.2.2.2.1 k0_t4
theorem k0_off27_inb : ∀ (i : grid0.Coords) (v1 : BitVec 32) (k0_hw1 : k0_chk1 i v1) (k0_t4 : Fin (k0_t4_loop i v1).trips), ∀ a, (k0_off27 i v1 k0_t4) a + S1x512x256.size a ≤ S2x8192x512.size a := fun i v1 k0_hw1 k0_t4 => k0_hw1.1.2.2.2.2.2.2.2.2.2.2.2.2.2.2.2.2.2.2.2.2.2.2.2.2.2.2.2.2.2.2.2 k0_t4
theorem k0_t5_ok : ∀ (i : grid0.Coords) (v1 : BitVec 32) (k0_hw1 : k0_chk1 i v1), (k0_t5_loop i v1).OK := fun i v1 k0_hw1 => k0_hw1.2.1
theorem k0_mult7_dvd : ∀ (i : grid0.Coords) (v1 : BitVec 32) (k0_hw1 : k0_chk1 i v1) (k0_t5 : Fin (k0_t5_loop i v1).trips), 512 ∣ (k0_mult7 i v1 k0_t5).toNat := fun i v1 k0_hw1 k0_t5 => k0_hw1.2.2.1 k0_t5
theorem k0_off28_inb : ∀ (i : grid0.Coords) (v1 : BitVec 32) (k0_hw1 : k0_chk1 i v1) (k0_t5 : Fin (k0_t5_loop i v1).trips), ∀ a, (k0_off28 i v1 k0_t5) a + S1x512x128.size a ≤ S1x8192x128.size a := fun i v1 k0_hw1 k0_t5 => k0_hw1.2.2.2.1 k0_t5
theorem k0_off29_inb : ∀ (i : grid0.Coords) (v1 : BitVec 32) (k0_hw1 : k0_chk1 i v1) (k0_t5 : Fin (k0_t5_loop i v1).trips), ∀ a, (k0_off29 i v1 k0_t5) a + S512x128.size a ≤ S8192x128.size a := fun i v1 k0_hw1 k0_t5 => k0_hw1.2.2.2.2.1 k0_t5
theorem k0_off30_inb : ∀ (i : grid0.Coords) (v1 : BitVec 32) (k0_hw1 : k0_chk1 i v1) (k0_t5 : Fin (k0_t5_loop i v1).trips), ∀ a, (k0_off30 i v1 k0_t5) a + S1x512x256.size a ≤ S2x8192x512.size a := fun i v1 k0_hw1 k0_t5 => k0_hw1.2.2.2.2.2.1 k0_t5
theorem k0_off31_inb : ∀ (i : grid0.Coords) (v1 : BitVec 32) (k0_hw1 : k0_chk1 i v1) (k0_t5 : Fin (k0_t5_loop i v1).trips), ∀ a, (k0_off31 i v1 k0_t5) a + S1x512x256.size a ≤ S2x8192x512.size a := fun i v1 k0_hw1 k0_t5 => k0_hw1.2.2.2.2.2.2.1 k0_t5
theorem k0_t6_ok : ∀ (i : grid0.Coords) (v1 : BitVec 32) (k0_hw1 : k0_chk1 i v1), (k0_t6_loop i v1).OK := fun i v1 k0_hw1 => k0_hw1.2.2.2.2.2.2.2.1
theorem k0_mult8_dvd : ∀ (i : grid0.Coords) (v1 : BitVec 32) (k0_hw1 : k0_chk1 i v1) (k0_t6 : Fin (k0_t6_loop i v1).trips), 512 ∣ (k0_mult8 i v1 k0_t6).toNat := fun i v1 k0_hw1 k0_t6 => k0_hw1.2.2.2.2.2.2.2.2.1 k0_t6
theorem k0_off32_inb : ∀ (i : grid0.Coords) (v1 : BitVec 32) (k0_hw1 : k0_chk1 i v1) (k0_t6 : Fin (k0_t6_loop i v1).trips), ∀ a, (k0_off32 i v1 k0_t6) a + S1x512x128.size a ≤ S1x8192x128.size a := fun i v1 k0_hw1 k0_t6 => k0_hw1.2.2.2.2.2.2.2.2.2.1 k0_t6
theorem k0_off33_inb : ∀ (i : grid0.Coords) (v1 : BitVec 32) (k0_hw1 : k0_chk1 i v1) (k0_t6 : Fin (k0_t6_loop i v1).trips), ∀ a, (k0_off33 i v1 k0_t6) a + S512x128.size a ≤ S8192x128.size a := fun i v1 k0_hw1 k0_t6 => k0_hw1.2.2.2.2.2.2.2.2.2.2.1 k0_t6
theorem k0_off34_inb : ∀ (i : grid0.Coords) (v1 : BitVec 32) (k0_hw1 : k0_chk1 i v1) (k0_t6 : Fin (k0_t6_loop i v1).trips), ∀ a, (k0_off34 i v1 k0_t6) a + S1x512x256.size a ≤ S2x8192x512.size a := fun i v1 k0_hw1 k0_t6 => k0_hw1.2.2.2.2.2.2.2.2.2.2.2.1 k0_t6
theorem k0_off35_inb : ∀ (i : grid0.Coords) (v1 : BitVec 32) (k0_hw1 : k0_chk1 i v1) (k0_t6 : Fin (k0_t6_loop i v1).trips), ∀ a, (k0_off35 i v1 k0_t6) a + S1x512x256.size a ≤ S2x8192x512.size a := fun i v1 k0_hw1 k0_t6 => k0_hw1.2.2.2.2.2.2.2.2.2.2.2.2.1 k0_t6
theorem k0_t7_ok : ∀ (i : grid0.Coords) (v1 : BitVec 32) (k0_hw1 : k0_chk1 i v1), (k0_t7_loop i v1).OK := fun i v1 k0_hw1 => k0_hw1.2.2.2.2.2.2.2.2.2.2.2.2.2.1
theorem k0_mult9_dvd : ∀ (i : grid0.Coords) (v1 : BitVec 32) (k0_hw1 : k0_chk1 i v1) (k0_t7 : Fin (k0_t7_loop i v1).trips), 512 ∣ (k0_mult9 i v1 k0_t7).toNat := fun i v1 k0_hw1 k0_t7 => k0_hw1.2.2.2.2.2.2.2.2.2.2.2.2.2.2.1 k0_t7
theorem k0_off36_inb : ∀ (i : grid0.Coords) (v1 : BitVec 32) (k0_hw1 : k0_chk1 i v1) (k0_t7 : Fin (k0_t7_loop i v1).trips), ∀ a, (k0_off36 i v1 k0_t7) a + S1x1x128x512.size a ≤ S1x1x128x8192.size a := fun i v1 k0_hw1 k0_t7 => k0_hw1.2.2.2.2.2.2.2.2.2.2.2.2.2.2.2.1 k0_t7
theorem k0_off38_inb : ∀ (i : grid0.Coords) (v1 : BitVec 32) (k0_hw1 : k0_chk1 i v1) (k0_t7 : Fin (k0_t7_loop i v1).trips), ∀ a, (k0_off38 i v1 k0_t7) a + S1x512x256.size a ≤ S2x8192x512.size a := fun i v1 k0_hw1 k0_t7 => k0_hw1.2.2.2.2.2.2.2.2.2.2.2.2.2.2.2.2.1 k0_t7
theorem k0_off40_inb : ∀ (i : grid0.Coords) (v1 : BitVec 32) (k0_hw1 : k0_chk1 i v1) (k0_t7 : Fin (k0_t7_loop i v1).trips), ∀ a, (k0_off40 i v1 k0_t7) a + S1x512x256.size a ≤ S2x8192x512.size a := fun i v1 k0_hw1 k0_t7 => k0_hw1.2.2.2.2.2.2.2.2.2.2.2.2.2.2.2.2.2.1 k0_t7
theorem k0_t8_ok : ∀ (i : grid0.Coords) (v1 : BitVec 32) (k0_hw1 : k0_chk1 i v1), (k0_t8_loop i v1).OK := fun i v1 k0_hw1 => k0_hw1.2.2.2.2.2.2.2.2.2.2.2.2.2.2.2.2.2.2.1
theorem k0_mult10_dvd : ∀ (i : grid0.Coords) (v1 : BitVec 32) (k0_hw1 : k0_chk1 i v1) (k0_t8 : Fin (k0_t8_loop i v1).trips), 512 ∣ (k0_mult10 i v1 k0_t8).toNat := fun i v1 k0_hw1 k0_t8 => k0_hw1.2.2.2.2.2.2.2.2.2.2.2.2.2.2.2.2.2.2.2.1 k0_t8
theorem k0_off41_inb : ∀ (i : grid0.Coords) (v1 : BitVec 32) (k0_hw1 : k0_chk1 i v1) (k0_t8 : Fin (k0_t8_loop i v1).trips), ∀ a, (k0_off41 i v1 k0_t8) a + S1x1x128x512.size a ≤ S1x1x128x8192.size a := fun i v1 k0_hw1 k0_t8 => k0_hw1.2.2.2.2.2.2.2.2.2.2.2.2.2.2.2.2.2.2.2.2.1 k0_t8
theorem k0_off43_inb : ∀ (i : grid0.Coords) (v1 : BitVec 32) (k0_hw1 : k0_chk1 i v1) (k0_t8 : Fin (k0_t8_loop i v1).trips), ∀ a, (k0_off43 i v1 k0_t8) a + S1x512x256.size a ≤ S2x8192x512.size a := fun i v1 k0_hw1 k0_t8 => k0_hw1.2.2.2.2.2.2.2.2.2.2.2.2.2.2.2.2.2.2.2.2.2.1 k0_t8
theorem k0_off45_inb : ∀ (i : grid0.Coords) (v1 : BitVec 32) (k0_hw1 : k0_chk1 i v1) (k0_t8 : Fin (k0_t8_loop i v1).trips), ∀ a, (k0_off45 i v1 k0_t8) a + S1x512x256.size a ≤ S2x8192x512.size a := fun i v1 k0_hw1 k0_t8 => k0_hw1.2.2.2.2.2.2.2.2.2.2.2.2.2.2.2.2.2.2.2.2.2.2 k0_t8

def k0_off46 (i : grid0.Coords) : Fin 3 → Nat :=
  let arg2 : BitVec 32 := BitVec.ofNat 32 (i 2).val
  let c2_i32 : BitVec 32 := 2#32
  let v2 : BitVec 32 := Scalar.remsi arg2 c2_i32
  let v89 : Index := Scalar.indexCast v2
  let c0_51 : Index := 0#32
  let c0_52 : Index := 0#32
  ![v89.toNat, 0, 0]
def k0_off47 (i : grid0.Coords) : Fin 3 → Nat :=
  let arg2 : BitVec 32 := BitVec.ofNat 32 (i 2).val
  let c2_i32 : BitVec 32 := 2#32
  let v2 : BitVec 32 := Scalar.remsi arg2 c2_i32
  let v110 : Index := Scalar.indexCast v2
  let c0_61 : Index := 0#32
  let c128_62 : Index := 128#32
  ![v110.toNat, 0, 128]
def k0_off48 (i : grid0.Coords) : Fin 3 → Nat :=
  let arg2 : BitVec 32 := BitVec.ofNat 32 (i 2).val
  let c2_i32 : BitVec 32 := 2#32
  let v2 : BitVec 32 := Scalar.remsi arg2 c2_i32
  let v131 : Index := Scalar.indexCast v2
  let c0_71 : Index := 0#32
  let c256_72 : Index := 256#32
  ![v131.toNat, 0, 256]
def k0_off49 (i : grid0.Coords) : Fin 3 → Nat :=
  let arg2 : BitVec 32 := BitVec.ofNat 32 (i 2).val
  let c2_i32 : BitVec 32 := 2#32
  let v2 : BitVec 32 := Scalar.remsi arg2 c2_i32
  let v152 : Index := Scalar.indexCast v2
  let c0_81 : Index := 0#32
  let c384_82 : Index := 384#32
  ![v152.toNat, 0, 384]
def k0_cond2 (i : grid0.Coords) : BitVec 1 :=
  let arg2 : BitVec 32 := BitVec.ofNat 32 (i 2).val
  let c0_i32_86 : BitVec 32 := 0#32
  let v164 : BitVec 1 := Scalar.cmpi .sgt arg2 c0_i32_86
  let v165 : BitVec 32 := Scalar.extui v164
  let c0_i32_87 : BitVec 32 := 0#32
  let v166 : BitVec 1 := Scalar.cmpi .ne v165 c0_i32_87
  v166

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.minsi arg2 c63_i32
  let c0_i32 : BitVec 32 := 0#32
  ![arg0.toNat, v0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c63_i32 : BitVec 32 := 63#32
  let v0 : BitVec 32 := Scalar.minsi arg2 c63_i32
  let c0_i32 : BitVec 32 := 0#32
  let c0_i32_0 : BitVec 32 := 0#32
  ![arg0.toNat, arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

abbrev stage0_0 : Fin 2 → Memref sig .tc .vmem S1x128x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "c" => some (((Real.sqrt 128)⁻¹ * (Real.log 2)⁻¹ : ℝ) : EReal)
  | _ => none
-- ==== ReferenceIdeal.lean ====
abbrev S3 : Shape := ⟨1, ![3]⟩
abbrev S3x8192x4096 : Shape := ⟨3, ![3, 8192, 4096]⟩
abbrev S3x8x4x8192 : Shape := ⟨4, ![3, 8, 4, 8192]⟩
abbrev S3x8192x1024 : Shape := ⟨3, ![3, 8192, 1024]⟩
abbrev S3x8x1x8192 : Shape := ⟨4, ![3, 8, 1, 8192]⟩
abbrev S3x8x128x8192 : Shape := ⟨4, ![3, 8, 128, 8192]⟩
abbrev S3x8x1x128 : Shape := ⟨4, ![3, 8, 1, 128]⟩
abbrev S3x8192x8x4x128 : Shape := ⟨5, ![3, 8192, 8, 4, 128]⟩
abbrev S3x8192x8x128 : Shape := ⟨4, ![3, 8192, 8, 128]⟩
abbrev S3x8x8192x8192x4 : Shape := ⟨5, ![3, 8, 8192, 8192, 4]⟩
abbrev S3x8192x8x4x8192 : Shape := ⟨5, ![3, 8192, 8, 4, 8192]⟩
abbrev S3x8192x8x4 : Shape := ⟨4, ![3, 8192, 8, 4]⟩
abbrev S3x8x8192 : Shape := ⟨3, ![3, 8, 8192]⟩
abbrev S3x8192x8x4x1 : Shape := ⟨5, ![3, 8192, 8, 4, 1]⟩
abbrev S3x1x8x1x8192 : Shape := ⟨5, ![3, 1, 8, 1, 8192]⟩
abbrev S1x8192 : Shape := ⟨2, ![1, 8192]⟩
abbrev S8192 : Shape := ⟨1, ![8192]⟩
abbrev S1x1x8192 : Shape := ⟨3, ![1, 1, 8192]⟩
abbrev S3x1x1 : Shape := ⟨3, ![3, 1, 1]⟩
abbrev S3x1x8192 : Shape := ⟨3, ![3, 1, 8192]⟩
abbrev S1x8192x1 : Shape := ⟨3, ![1, 8192, 1]⟩
abbrev S1x8192x8192 : Shape := ⟨3, ![1, 8192, 8192]⟩
abbrev S3x8192x8192 : Shape := ⟨3, ![3, 8192, 8192]⟩
abbrev S3x8192x1x1x8192 : Shape := ⟨5, ![3, 8192, 1, 1, 8192]⟩
abbrev S3x8x128x8192x4 : Shape := ⟨5, ![3, 8, 128, 8192, 4]⟩
abbrev S3x1x8x1x128 : Shape := ⟨5, ![3, 1, 8, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S3, .i32⟩
  | .hbm, ⟨1, _⟩ => ⟨S3x8192x4096, .fp8e4m3⟩
  | .hbm, ⟨2, _⟩ => ⟨S3x8x4x8192, .f32⟩
  | .hbm, ⟨3, _⟩ => ⟨S3x8192x1024, .fp8e4m3⟩
  | .hbm, ⟨4, _⟩ => ⟨S3x8x1x8192, .f32⟩
  | .hbm, ⟨5, _⟩ => ⟨S3x8x128x8192, .fp8e4m3⟩
  | .hbm, ⟨6, _⟩ => ⟨S3x8x1x128, .f32⟩
  | .hbm, ⟨7, _⟩ => ⟨S3x8192x4096, .bf16⟩
  | .local _ .vmem, ⟨0, _⟩ => ⟨S3, .i32⟩
  | .local _ .vmem, ⟨1, _⟩ => ⟨S3x8192x4096, .fp8e4m3⟩
  | .local _ .vmem, ⟨2, _⟩ => ⟨S3x8x4x8192, .f32⟩
  | .local _ .vmem, ⟨3, _⟩ => ⟨S3x8192x1024, .fp8e4m3⟩
  | .local _ .vmem, ⟨4, _⟩ => ⟨S3x8x1x8192, .f32⟩
  | .local _ .vmem, ⟨5, _⟩ => ⟨S3x8x128x8192, .fp8e4m3⟩
  | .local _ .vmem, ⟨6, _⟩ => ⟨S3x8x1x128, .f32⟩
  | .local _ .vmem, ⟨7, _⟩ => ⟨S3x8192x4096, .bf16⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c" => some (((Real.sqrt 128)⁻¹ : ℝ) : EReal)
  | _ => none

abbrev grid0 : Pipeline.Grid := .none

abbrev stage0_0 : Fin 1 → Memref sig .tc .vmem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8192x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x4x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8192x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8x128x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x8192x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.PreFacts.lean ====
module

public import proofs.«01_k».proof.Defs

/-! The side conditions that the precondition's operations state: a scalar broadcasts to any shape. -/

@[expose] public section

namespace Cert.Pre_admissible

open Idealize.ShloMosaic

instance facts : Facts where
  bcast_S_S3 := by decide
  bcast_S_S3x8x4x8192 := by decide
  bcast_S_S3x8x1x128 := by decide

end Cert.Pre_admissible
-- ==== Proof.KB.Kit.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Tactic
public import Idealize.ShloMosaic.Lib.WordCmp

/-! What every run of the attention kernel's body is stated over: the tables, the windows' blocks, the staging memrefs and
the frame claim's postcondition. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-- The prefix length of the row that point `i` belongs to, as the kernel reads it from the table. -/
def word (c : Dev nD) (i : grid0.Coords) (xt0 : TbBuf0 (F := F) c tbM0_0) : BitVec 32 :=
  View.readAt (Elt F) tbM0_0.view (Rect.unit (s := S3) (k0_off1 i) S1.size (k0_off1_inb i)).toLoadRect xt0 (fun a => ⟨0, by have h : a = 0 := Subsingleton.elim _ _; subst h; exact Nat.one_pos⟩)

/-- The body's first condition, from the grid coordinates: the point is the first of its row. -/
abbrev cond0_0 (i : grid0.Coords) : Prop := (Scalar.cmpi .ne (Scalar.extui (Scalar.cmpi .eq (BitVec.ofNat 32 (i 2).val) 0#32)) 0#32) = 1#1
/-- It holds exactly at coordinate zero. -/
theorem hcond0_0 (i : grid0.Coords) : cond0_0 i ↔ (i 2).val = 0 := by
  have h : (i 2).val < 65 := (i 2).isLt
  simp only [cond0_0]
  word_cmp
/-- The body's second condition holds exactly away from coordinate zero. -/
theorem hcond0_1 (i : grid0.Coords) : k0_cond2 i = 1#1 ↔ (i 2).val ≠ 0 := by
  have h : (i 2).val < 65 := (i 2).isLt
  simp only [k0_cond2]
  word_cmp

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x8192 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x128x8192 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x512 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S2x8192x512 .f32 := Memref.whole cc0_scratch0
abbrev scM0_1 : Memref sig .tc .vmem S8192x128 .f32 := Memref.whole cc0_scratch1
abbrev scM0_2 : Memref sig .tc .vmem S512x128 .fp8e4m3 := Memref.whole cc0_scratch2
abbrev scM0_3 : Memref sig .tc .vmem S2x8x512 .f32 := Memref.whole cc0_scratch3
abbrev scM0_4 : Memref sig .tc .vmem S2x8x512 .f32 := Memref.whole cc0_scratch4
abbrev scM0_5 : Memref sig .tc .vmem S128x512 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.Words.lean ====
module

public import Idealize.ShloMosaic.Lib.Scf
public import Idealize.ShloMosaic.Lib.WordCmp

/-! Index words: the kernel computes its loop bounds in 32-bit words, and these lemmas read each operation as one on
natural numbers. The prefix length `v` may be any word whose signed value is at most 8192; `len v` is that value, or 0 if
it is negative. -/

@[expose] public section

namespace Cert.Words

open Idealize.ShloMosaic Idealize.ShloMosaic.WordCmp

/-- The signed value of a word, with the negative ones read as 0. -/
def len (v : BitVec 32) : ℕ := v.toInt.toNat

/-- The larger of a word and a natural number. -/
theorem maxsi_ofNat (v : BitVec 32) {x : ℕ} (hx : x < 2 ^ 31) :
    Scalar.maxsi v (BitVec.ofNat 32 x) = BitVec.ofNat 32 (max (len v) x) := by
  unfold Scalar.maxsi IntOp.maxsi
  have hi : (BitVec.ofNat 32 x).toInt = (x : ℤ) := toInt_ofNat_of_lt (by simpa using hx)
  have hv := @BitVec.toInt_lt 32 v
  have hb := @BitVec.le_toInt 32 v
  simp only [BitVec.slt_eq_decide, hi, decide_eq_true_eq]
  unfold len
  split_ifs with h
  rotate_left
  · congr 1; omega
  · have e : max v.toInt.toNat x = v.toInt.toNat := by omega
    rw [e]
    apply BitVec.eq_of_toInt_eq
    rw [toInt_ofNat_of_lt (by simp only [Nat.reduceSub]; omega)]
    omega

/-- The smaller of two natural numbers. -/
theorem minsi_ofNat {x y : ℕ} (hx : x < 2 ^ 31) (hy : y < 2 ^ 31) :
    Scalar.minsi (BitVec.ofNat 32 x) (BitVec.ofNat 32 y) = BitVec.ofNat 32 (min x y) := by
  unfold Scalar.minsi IntOp.minsi
  have hi : (BitVec.ofNat 32 x).toInt = (x : ℤ) := toInt_ofNat_of_lt (by simpa using hx)
  have hj : (BitVec.ofNat 32 y).toInt = (y : ℤ) := toInt_ofNat_of_lt (by simpa using hy)
  simp only [BitVec.slt_eq_decide, hi, hj, decide_eq_true_eq]
  split_ifs with h <;> congr 1 <;> omega

/-- Division of one natural number by another. -/
theorem divsi_ofNat {x y : ℕ} (hx : x < 2 ^ 31) (hy : y < 2 ^ 31) (h0 : 0 < y) :
    Scalar.divsi (BitVec.ofNat 32 x) (BitVec.ofNat 32 y) = BitVec.ofNat 32 (x / y) := by
  unfold Scalar.divsi IntOp.divsi
  have hi : (BitVec.ofNat 32 x).toInt = (x : ℤ) := toInt_ofNat_of_lt (by simpa using hx)
  have hj : (BitVec.ofNat 32 y).toInt = (y : ℤ) := toInt_ofNat_of_lt (by simpa using hy)
  have hxn : (BitVec.ofNat 32 x).toNat = x := toNat_ofNat_of_lt (by omega)
  have hyn : (BitVec.ofNat 32 y).toNat = y := toNat_ofNat_of_lt (by omega)
  have hc : ¬ IntOp.SDivCorner (BitVec.ofNat 32 x) (BitVec.ofNat 32 y) := by
    unfold IntOp.SDivCorner
    rintro (h | ⟨h, -⟩)
    · have := congrArg BitVec.toNat h; simp only [hyn] at this; simp at this; omega
    · have := congrArg BitVec.toInt h; rw [hi] at this; simp [BitVec.toInt_intMin] at this
  rw [if_neg hc]
  apply BitVec.eq_of_toInt_eq
  have hq : x / y ≤ x := Nat.div_le_self x y
  rw [BitVec.toInt_sdiv_of_ne_or_ne, hi, hj, toInt_ofNat_of_lt (by simp only [Nat.reduceSub]; omega)]
  · rw [Int.tdiv_eq_ediv_of_nonneg (by omega)]; norm_cast
  · right
    intro h
    have := congrArg BitVec.toInt h; rw [hj] at this; simp at this

/-- Subtraction of a natural number from one that is no smaller. -/
theorem subi_ofNat {x y : ℕ} (hx : x < 2 ^ 31) (h : y ≤ x) :
    Scalar.subi (BitVec.ofNat 32 x) (BitVec.ofNat 32 y) = BitVec.ofNat 32 (x - y) := by
  unfold Scalar.subi IntOp.subi
  apply BitVec.eq_of_toNat_eq
  rw [BitVec.toNat_sub, toNat_ofNat_of_lt (by omega), toNat_ofNat_of_lt (by omega), toNat_ofNat_of_lt (by omega)]
  omega

/-- The sum of two natural numbers. -/
theorem saddi_ofNat (x y : ℕ) : Scalar.addi (BitVec.ofNat 32 x) (BitVec.ofNat 32 y) = BitVec.ofNat 32 (x + y) :=
  addi_ofNat x y

/-- The product of two natural numbers. -/
theorem smuli_ofNat (x y : ℕ) : Scalar.muli (BitVec.ofNat 32 x) (BitVec.ofNat 32 y) = BitVec.ofNat 32 (x * y) :=
  muli_ofNat x y

/-- The trips of a loop from `x` to `y` by ones. -/
theorem trips_ofNat {x y : ℕ} (hx : x < 2 ^ 31) (hy : y < 2 ^ 31) :
    Scf.trips (BitVec.ofNat 32 x) (BitVec.ofNat 32 y) 1#32 = y - x := by
  unfold Scf.trips
  have hi : (BitVec.ofNat 32 x).toInt = (x : ℤ) := toInt_ofNat_of_lt (by simpa using hx)
  have hj : (BitVec.ofNat 32 y).toInt = (y : ℤ) := toInt_ofNat_of_lt (by simpa using hy)
  rw [hi, hj, show (1#32).toInt = 1 from rfl]
  omega

/-- Such a loop is well formed. -/
theorem ok_ofNat {x y : ℕ} (hx : x < 2 ^ 30) (hy : y < 2 ^ 30) :
    Scf.OK (BitVec.ofNat 32 x) (BitVec.ofNat 32 y) 1#32 := by
  unfold Scf.OK
  have hi : (BitVec.ofNat 32 x).toInt = (x : ℤ) := toInt_ofNat_of_lt (by simp only [Nat.reduceSub]; omega)
  rw [trips_ofNat (by omega) (by omega), hi, show (1#32).toInt = 1 from rfl]
  simp only [Nat.reduceSub]
  omega

/-- Its induction variable at trip `k`. -/
theorem iv_ofNat (x k : ℕ) : Scf.iv (BitVec.ofNat 32 x) 1#32 k = BitVec.ofNat 32 (x + k) := by
  unfold Scf.iv
  rw [show BitVec.ofNat 32 k * 1#32 = BitVec.ofNat 32 k by simp]
  exact BitVec.ofNat_add_ofNat x k

end Cert.Words
-- ==== Proof.KB.Bounds.lean ====
module

public import proofs.«01_k».proof.Kernel
public import proofs.«01_k».proof.Proof.Words

/-! The kernel's loop bounds and offsets as natural numbers. At grid point `i` with prefix length `v` the keys are taken in
blocks of 512: `full` of them need no mask, `all` of them meet the current tile of queries, `old` of them meet the tile
before. The four loops run over `[0, both)`, `[both, full)`, `[full, all)` and `[both, old)`; the four loops that would
take what an unrolling leaves over never run. -/

@[expose] public section

set_option maxRecDepth 16384

namespace Cert.Kernel.Hand

open Cert.Kernel
open Idealize.ShloMosaic Idealize.ShloMosaic.WordCmp
open Cert.Words

/-- The blocks of keys that the current tile of queries sees without a mask. -/
def full (i : grid0.Coords) (v : BitVec 32) : ℕ := (if (i 2).val < 64 then max (len v) ((i 2).val * 128 + 1) else 0) / 512
/-- The blocks of keys that the current tile of queries sees. -/
def all (i : grid0.Coords) (v : BitVec 32) : ℕ := ((if (i 2).val < 64 then max (len v) (((i 2).val + 1) * 128) else 0) + 511) / 512
/-- The blocks of keys that the tile of queries before sees. -/
def old (i : grid0.Coords) (v : BitVec 32) : ℕ := ((if 0 < (i 2).val then max (len v) ((i 2).val * 128) else 0) + 511) / 512
/-- The blocks that both tiles take in one loop. -/
def both (i : grid0.Coords) (v : BitVec 32) : ℕ := min (full i v) (old i v)

section

variable (i : grid0.Coords) (v : BitVec 32)

/-- The word the kernel computes for `full`. -/
abbrev wfull : BitVec 32 :=
  Scalar.divsi (Scalar.select (Scalar.cmpi .slt (BitVec.ofNat 32 (i 2).val) 64#32)
    (Scalar.maxsi v (Scalar.addi (Scalar.muli (BitVec.ofNat 32 (i 2).val) 128#32) 1#32)) 0#32) 512#32
/-- The word the kernel computes for `all`. -/
abbrev wall : BitVec 32 :=
  Scalar.divsi (Scalar.addi (Scalar.select (Scalar.cmpi .slt (BitVec.ofNat 32 (i 2).val) 64#32)
    (Scalar.maxsi v (Scalar.muli (Scalar.addi (BitVec.ofNat 32 (i 2).val) 1#32) 128#32)) 0#32) 511#32) 512#32
/-- The word the kernel computes for `old`. -/
abbrev wold : BitVec 32 :=
  Scalar.divsi (Scalar.addi (Scalar.select (Scalar.cmpi .sgt (BitVec.ofNat 32 (i 2).val) 0#32)
    (Scalar.maxsi v (Scalar.muli (BitVec.ofNat 32 (i 2).val) 128#32)) 0#32) 511#32) 512#32

variable {v} (hv : v.toInt ≤ 8192)
include hv

theorem len_le : len v ≤ 8192 := by unfold len; omega

theorem full_le : full i v ≤ 16 := by
  have h : (i 2).val < 65 := (i 2).isLt
  have := len_le hv
  unfold full; split_ifs <;> omega

theorem all_le : all i v ≤ 16 := by
  have h : (i 2).val < 65 := (i 2).isLt
  have := len_le hv
  unfold all; split_ifs <;> omega

theorem old_le : old i v ≤ 16 := by
  have h : (i 2).val < 65 := (i 2).isLt
  have := len_le hv
  unfold old; split_ifs <;> omega

omit hv in
theorem full_le_all : full i v ≤ all i v := by
  unfold full all; split_ifs <;> omega

omit hv in
theorem both_le_full : both i v ≤ full i v := min_le_left _ _

omit hv in
theorem both_le_old : both i v ≤ old i v := min_le_right _ _

theorem wfull_eq : wfull i v = BitVec.ofNat 32 (full i v) := by
  have h : (i 2).val < 65 := (i 2).isLt
  have hl := len_le hv
  unfold wfull full
  rw [smuli_ofNat, saddi_ofNat, maxsi_ofNat v (by omega), scalar_cmpi_eq, cmpi_slt_ofNat (by omega) (by omega),
    select_ofBool]
  simp only [decide_eq_true_eq]
  split_ifs <;> rw [divsi_ofNat (by omega) (by omega) (by omega)]

theorem wall_eq : wall i v = BitVec.ofNat 32 (all i v) := by
  have h : (i 2).val < 65 := (i 2).isLt
  have hl := len_le hv
  unfold wall all
  rw [saddi_ofNat, smuli_ofNat, maxsi_ofNat v (by omega), scalar_cmpi_eq, cmpi_slt_ofNat (by omega) (by omega),
    select_ofBool]
  simp only [decide_eq_true_eq]
  split_ifs <;> rw [saddi_ofNat, divsi_ofNat (by omega) (by omega) (by omega)]

theorem wold_eq : wold i v = BitVec.ofNat 32 (old i v) := by
  have h : (i 2).val < 65 := (i 2).isLt
  have hl := len_le hv
  unfold wold old
  rw [smuli_ofNat, maxsi_ofNat v (by omega), scalar_cmpi_eq, cmpi_sgt_ofNat (by omega) (by omega), select_ofBool]
  simp only [decide_eq_true_eq]
  split_ifs <;> rw [saddi_ofNat, divsi_ofNat (by omega) (by omega) (by omega)]

theorem wboth_eq : Scalar.minsi (wfull i v) (wold i v) = BitVec.ofNat 32 (both i v) := by
  have := full_le i hv
  have := old_le i hv
  rw [wfull_eq i hv, wold_eq i hv, minsi_ofNat (by omega) (by omega)]
  rfl

omit hv in
/-- The upper bound `a + ((b - a) / 1) * 1` of a loop from `a` is `b`. -/
theorem upper {a b : ℕ} (h : a ≤ b) (hb : b ≤ 16) :
    Scalar.addi (BitVec.ofNat 32 a)
      (Scalar.muli (Scalar.divsi (Scalar.subi (BitVec.ofNat 32 b) (BitVec.ofNat 32 a)) 1#32) 1#32) = BitVec.ofNat 32 b := by
  rw [subi_ofNat (by omega) h, divsi_ofNat (by omega) (by omega) (by omega), smuli_ofNat, saddi_ofNat]
  congr 1; omega

omit hv in
/-- The upper bound `a + (b - a)` of a remainder loop is `b`. -/
theorem upper' {a b : ℕ} (h : a ≤ b) (hb : b ≤ 16) :
    Scalar.addi (BitVec.ofNat 32 a) (Scalar.subi (BitVec.ofNat 32 b) (BitVec.ofNat 32 a)) = BitVec.ofNat 32 b := by
  rw [subi_ofNat (by omega) h, saddi_ofNat]
  congr 1; omega

theorem t1_eq : k0_t1_loop i v = ⟨BitVec.ofNat 32 0, BitVec.ofNat 32 (both i v), 1#32⟩ := by
  show (⟨0#32, Scalar.addi (0#32) (Scalar.muli (Scalar.divsi (Scalar.subi (Scalar.minsi (wfull i v) (wold i v)) (0#32)) 1#32) 1#32), 1#32⟩ : Scf.Loop 32) = _
  rw [wboth_eq i hv, upper (Nat.zero_le _) ((both_le_full i).trans (full_le i hv))]

theorem t1_trips : (k0_t1_loop i v).trips = both i v - 0 := by
  have h1 := full_le i hv
  have h2 := all_le i hv
  have h3 := old_le i hv
  have h4 := both_le_full (v := v) i
  rw [t1_eq i hv]
  exact trips_ofNat (by omega) (by omega)

theorem t1_ok : (k0_t1_loop i v).OK := by
  have h1 := full_le i hv
  have h2 := all_le i hv
  have h3 := old_le i hv
  have h4 := both_le_full (v := v) i
  rw [t1_eq i hv]
  exact ok_ofNat (by omega) (by omega)

/-- The first key of the block that trip `k` takes. -/
theorem t1_row (k : ℕ) : Scalar.muli (Scf.iv (k0_t1_loop i v).lb (k0_t1_loop i v).st k) 512#32 = BitVec.ofNat 32 ((0 + k) * 512) := by
  rw [t1_eq i hv]
  show Scalar.muli (Scf.iv (BitVec.ofNat 32 0) 1#32 k) 512#32 = _
  rw [iv_ofNat, smuli_ofNat]

theorem t2_eq : k0_t2_loop i v = ⟨BitVec.ofNat 32 (both i v), BitVec.ofNat 32 (both i v), 1#32⟩ := by
  show (⟨Scalar.addi (0#32) (Scalar.muli (Scalar.divsi (Scalar.subi (Scalar.minsi (wfull i v) (wold i v)) (0#32)) 1#32) 1#32), Scalar.addi (0#32) (Scalar.subi (Scalar.minsi (wfull i v) (wold i v)) (0#32)), 1#32⟩ : Scf.Loop 32) = _
  rw [wboth_eq i hv, upper (Nat.zero_le _) ((both_le_full i).trans (full_le i hv)), upper' (Nat.zero_le _) ((both_le_full i).trans (full_le i hv))]

theorem t2_trips : (k0_t2_loop i v).trips = 0 := by
  have h1 := full_le i hv
  have h2 := all_le i hv
  have h3 := old_le i hv
  have h4 := both_le_full (v := v) i
  rw [t2_eq i hv]
  exact (trips_ofNat (by omega) (by omega)).trans (Nat.sub_self _)

theorem t2_ok : (k0_t2_loop i v).OK := by
  have h1 := full_le i hv
  have h2 := all_le i hv
  have h3 := old_le i hv
  have h4 := both_le_full (v := v) i
  rw [t2_eq i hv]
  exact ok_ofNat (by omega) (by omega)

theorem t2_none (k : Fin (k0_t2_loop i v).trips) : False :=
  Nat.not_lt_zero _ (k.isLt.trans_eq (t2_trips i hv))

theorem t3_eq : k0_t3_loop i v = ⟨BitVec.ofNat 32 (both i v), BitVec.ofNat 32 (full i v), 1#32⟩ := by
  show (⟨Scalar.minsi (wfull i v) (wold i v), Scalar.addi (Scalar.minsi (wfull i v) (wold i v)) (Scalar.muli (Scalar.divsi (Scalar.subi (wfull i v) (Scalar.minsi (wfull i v) (wold i v))) 1#32) 1#32), 1#32⟩ : Scf.Loop 32) = _
  rw [wboth_eq i hv, wfull_eq i hv, upper (both_le_full i) (full_le i hv)]

theorem t3_trips : (k0_t3_loop i v).trips = full i v - (both i v) := by
  have h1 := full_le i hv
  have h2 := all_le i hv
  have h3 := old_le i hv
  have h4 := both_le_full (v := v) i
  rw [t3_eq i hv]
  exact trips_ofNat (by omega) (by omega)

theorem t3_ok : (k0_t3_loop i v).OK := by
  have h1 := full_le i hv
  have h2 := all_le i hv
  have h3 := old_le i hv
  have h4 := both_le_full (v := v) i
  rw [t3_eq i hv]
  exact ok_ofNat (by omega) (by omega)

/-- The first key of the block that trip `k` takes. -/
theorem t3_row (k : ℕ) : Scalar.muli (Scf.iv (k0_t3_loop i v).lb (k0_t3_loop i v).st k) 512#32 = BitVec.ofNat 32 (((both i v) + k) * 512) := by
  rw [t3_eq i hv]
  show Scalar.muli (Scf.iv (BitVec.ofNat 32 (both i v)) 1#32 k) 512#32 = _
  rw [iv_ofNat, smuli_ofNat]

theorem t4_eq : k0_t4_loop i v = ⟨BitVec.ofNat 32 (full i v), BitVec.ofNat 32 (full i v), 1#32⟩ := by
  show (⟨Scalar.addi (Scalar.minsi (wfull i v) (wold i v)) (Scalar.muli (Scalar.divsi (Scalar.subi (wfull i v) (Scalar.minsi (wfull i v) (wold i v))) 1#32) 1#32), Scalar.addi (Scalar.minsi (wfull i v) (wold i v)) (Scalar.subi (wfull i v) (Scalar.minsi (wfull i v) (wold i v))), 1#32⟩ : Scf.Loop 32) = _
  rw [wboth_eq i hv, wfull_eq i hv, upper (both_le_full i) (full_le i hv), upper' (both_le_full i) (full_le i hv)]

theorem t4_trips : (k0_t4_loop i v).trips = 0 := by
  have h1 := full_le i hv
  have h2 := all_le i hv
  have h3 := old_le i hv
  have h4 := both_le_full (v := v) i
  rw [t4_eq i hv]
  exact (trips_ofNat (by omega) (by omega)).trans (Nat.sub_self _)

theorem t4_ok : (k0_t4_loop i v).OK := by
  have h1 := full_le i hv
  have h2 := all_le i hv
  have h3 := old_le i hv
  have h4 := both_le_full (v := v) i
  rw [t4_eq i hv]
  exact ok_ofNat (by omega) (by omega)

theorem t4_none (k : Fin (k0_t4_loop i v).trips) : False :=
  Nat.not_lt_zero _ (k.isLt.trans_eq (t4_trips i hv))

theorem t5_eq : k0_t5_loop i v = ⟨BitVec.ofNat 32 (full i v), BitVec.ofNat 32 (all i v), 1#32⟩ := by
  show (⟨wfull i v, Scalar.addi (wfull i v) (Scalar.muli (Scalar.divsi (Scalar.subi (wall i v) (wfull i v)) 1#32) 1#32), 1#32⟩ : Scf.Loop 32) = _
  rw [wfull_eq i hv, wall_eq i hv, upper (full_le_all i) (all_le i hv)]

theorem t5_trips : (k0_t5_loop i v).trips = all i v - (full i v) := by
  have h1 := full_le i hv
  have h2 := all_le i hv
  have h3 := old_le i hv
  have h4 := both_le_full (v := v) i
  rw [t5_eq i hv]
  exact trips_ofNat (by omega) (by omega)

theorem t5_ok : (k0_t5_loop i v).OK := by
  have h1 := full_le i hv
  have h2 := all_le i hv
  have h3 := old_le i hv
  have h4 := both_le_full (v := v) i
  rw [t5_eq i hv]
  exact ok_ofNat (by omega) (by omega)

/-- The first key of the block that trip `k` takes. -/
theorem t5_row (k : ℕ) : Scalar.muli (Scf.iv (k0_t5_loop i v).lb (k0_t5_loop i v).st k) 512#32 = BitVec.ofNat 32 (((full i v) + k) * 512) := by
  rw [t5_eq i hv]
  show Scalar.muli (Scf.iv (BitVec.ofNat 32 (full i v)) 1#32 k) 512#32 = _
  rw [iv_ofNat, smuli_ofNat]

theorem t6_eq : k0_t6_loop i v = ⟨BitVec.ofNat 32 (all i v), BitVec.ofNat 32 (all i v), 1#32⟩ := by
  show (⟨Scalar.addi (wfull i v) (Scalar.muli (Scalar.divsi (Scalar.subi (wall i v) (wfull i v)) 1#32) 1#32), Scalar.addi (wfull i v) (Scalar.subi (wall i v) (wfull i v)), 1#32⟩ : Scf.Loop 32) = _
  rw [wfull_eq i hv, wall_eq i hv, upper (full_le_all i) (all_le i hv), upper' (full_le_all i) (all_le i hv)]

theorem t6_trips : (k0_t6_loop i v).trips = 0 := by
  have h1 := full_le i hv
  have h2 := all_le i hv
  have h3 := old_le i hv
  have h4 := both_le_full (v := v) i
  rw [t6_eq i hv]
  exact (trips_ofNat (by omega) (by omega)).trans (Nat.sub_self _)

theorem t6_ok : (k0_t6_loop i v).OK := by
  have h1 := full_le i hv
  have h2 := all_le i hv
  have h3 := old_le i hv
  have h4 := both_le_full (v := v) i
  rw [t6_eq i hv]
  exact ok_ofNat (by omega) (by omega)

theorem t6_none (k : Fin (k0_t6_loop i v).trips) : False :=
  Nat.not_lt_zero _ (k.isLt.trans_eq (t6_trips i hv))

theorem t7_eq : k0_t7_loop i v = ⟨BitVec.ofNat 32 (both i v), BitVec.ofNat 32 (old i v), 1#32⟩ := by
  show (⟨Scalar.minsi (wfull i v) (wold i v), Scalar.addi (Scalar.minsi (wfull i v) (wold i v)) (Scalar.muli (Scalar.divsi (Scalar.subi (wold i v) (Scalar.minsi (wfull i v) (wold i v))) 1#32) 1#32), 1#32⟩ : Scf.Loop 32) = _
  rw [wboth_eq i hv, wold_eq i hv, upper (both_le_old i) (old_le i hv)]

theorem t7_trips : (k0_t7_loop i v).trips = old i v - (both i v) := by
  have h1 := full_le i hv
  have h2 := all_le i hv
  have h3 := old_le i hv
  have h4 := both_le_full (v := v) i
  rw [t7_eq i hv]
  exact trips_ofNat (by omega) (by omega)

theorem t7_ok : (k0_t7_loop i v).OK := by
  have h1 := full_le i hv
  have h2 := all_le i hv
  have h3 := old_le i hv
  have h4 := both_le_full (v := v) i
  rw [t7_eq i hv]
  exact ok_ofNat (by omega) (by omega)

/-- The first key of the block that trip `k` takes. -/
theorem t7_row (k : ℕ) : Scalar.muli (Scf.iv (k0_t7_loop i v).lb (k0_t7_loop i v).st k) 512#32 = BitVec.ofNat 32 (((both i v) + k) * 512) := by
  rw [t7_eq i hv]
  show Scalar.muli (Scf.iv (BitVec.ofNat 32 (both i v)) 1#32 k) 512#32 = _
  rw [iv_ofNat, smuli_ofNat]

theorem t8_eq : k0_t8_loop i v = ⟨BitVec.ofNat 32 (old i v), BitVec.ofNat 32 (old i v), 1#32⟩ := by
  show (⟨Scalar.addi (Scalar.minsi (wfull i v) (wold i v)) (Scalar.muli (Scalar.divsi (Scalar.subi (wold i v) (Scalar.minsi (wfull i v) (wold i v))) 1#32) 1#32), Scalar.addi (Scalar.minsi (wfull i v) (wold i v)) (Scalar.subi (wold i v) (Scalar.minsi (wfull i v) (wold i v))), 1#32⟩ : Scf.Loop 32) = _
  rw [wboth_eq i hv, wold_eq i hv, upper (both_le_old i) (old_le i hv), upper' (both_le_old i) (old_le i hv)]

theorem t8_trips : (k0_t8_loop i v).trips = 0 := by
  have h1 := full_le i hv
  have h2 := all_le i hv
  have h3 := old_le i hv
  have h4 := both_le_full (v := v) i
  rw [t8_eq i hv]
  exact (trips_ofNat (by omega) (by omega)).trans (Nat.sub_self _)

theorem t8_ok : (k0_t8_loop i v).OK := by
  have h1 := full_le i hv
  have h2 := all_le i hv
  have h3 := old_le i hv
  have h4 := both_le_full (v := v) i
  rw [t8_eq i hv]
  exact ok_ofNat (by omega) (by omega)

theorem t8_none (k : Fin (k0_t8_loop i v).trips) : False :=
  Nat.not_lt_zero _ (k.isLt.trans_eq (t8_trips i hv))

end

section

variable (i : grid0.Coords)

/-- The half of the double buffer that the current tile fills. -/
theorem cur_eq : Scalar.remsi (BitVec.ofNat 32 (i 2).val) 2#32 = BitVec.ofNat 32 ((i 2).val % 2) := by
  have h : ∀ n : Fin 65, Scalar.remsi (BitVec.ofNat 32 n.val) 2#32 = BitVec.ofNat 32 (n.val % 2) := by decide +kernel
  exact h ⟨(i 2).val, (i 2).isLt⟩

/-- The half of the double buffer that the tile before filled. -/
theorem prev_eq : Scalar.subi 1#32 (Scalar.remsi (BitVec.ofNat 32 (i 2).val) 2#32) = BitVec.ofNat 32 (1 - (i 2).val % 2) := by
  have h : ∀ n : Fin 65, Scalar.subi 1#32 (Scalar.remsi (BitVec.ofNat 32 n.val) 2#32) = BitVec.ofNat 32 (1 - n.val % 2) := by decide +kernel
  exact h ⟨(i 2).val, (i 2).isLt⟩

theorem cur_toNat : (Scalar.remsi (BitVec.ofNat 32 (i 2).val) 2#32).toNat = (i 2).val % 2 := by
  rw [cur_eq, toNat_ofNat_of_lt (by omega)]

theorem prev_toNat : (Scalar.subi 1#32 (Scalar.remsi (BitVec.ofNat 32 (i 2).val) 2#32)).toNat = 1 - (i 2).val % 2 := by
  rw [prev_eq, toNat_ofNat_of_lt (by omega)]

variable {v : BitVec 32} (hv : v.toInt ≤ 8192)
include hv

/-- The block that trip `k` takes lies within the keys. -/
theorem t1_lt (k : Fin (k0_t1_loop i v).trips) : 0 + k.val < 16 := by
  have h := k.isLt.trans_eq (t1_trips i hv)
  have h1 := full_le i hv
  have h2 := all_le i hv
  have h3 := old_le i hv
  have h4 := both_le_full (v := v) i
  omega

theorem t1_toNat (k : Fin (k0_t1_loop i v).trips) :
    (Scalar.muli (Scf.iv (k0_t1_loop i v).lb (k0_t1_loop i v).st k) 512#32).toNat = (0 + k.val) * 512 := by
  have h := t1_lt i hv k
  rw [t1_row i hv, toNat_ofNat_of_lt (by omega)]

/-- The block that trip `k` takes lies within the keys. -/
theorem t3_lt (k : Fin (k0_t3_loop i v).trips) : (both i v) + k.val < 16 := by
  have h := k.isLt.trans_eq (t3_trips i hv)
  have h1 := full_le i hv
  have h2 := all_le i hv
  have h3 := old_le i hv
  have h4 := both_le_full (v := v) i
  omega

theorem t3_toNat (k : Fin (k0_t3_loop i v).trips) :
    (Scalar.muli (Scf.iv (k0_t3_loop i v).lb (k0_t3_loop i v).st k) 512#32).toNat = ((both i v) + k.val) * 512 := by
  have h := t3_lt i hv k
  rw [t3_row i hv, toNat_ofNat_of_lt (by omega)]

/-- The block that trip `k` takes lies within the keys. -/
theorem t5_lt (k : Fin (k0_t5_loop i v).trips) : (full i v) + k.val < 16 := by
  have h := k.isLt.trans_eq (t5_trips i hv)
  have h1 := full_le i hv
  have h2 := all_le i hv
  have h3 := old_le i hv
  have h4 := both_le_full (v := v) i
  omega

theorem t5_toNat (k : Fin (k0_t5_loop i v).trips) :
    (Scalar.muli (Scf.iv (k0_t5_loop i v).lb (k0_t5_loop i v).st k) 512#32).toNat = ((full i v) + k.val) * 512 := by
  have h := t5_lt i hv k
  rw [t5_row i hv, toNat_ofNat_of_lt (by omega)]

/-- The block that trip `k` takes lies within the keys. -/
theorem t7_lt (k : Fin (k0_t7_loop i v).trips) : (both i v) + k.val < 16 := by
  have h := k.isLt.trans_eq (t7_trips i hv)
  have h1 := full_le i hv
  have h2 := all_le i hv
  have h3 := old_le i hv
  have h4 := both_le_full (v := v) i
  omega

theorem t7_toNat (k : Fin (k0_t7_loop i v).trips) :
    (Scalar.muli (Scf.iv (k0_t7_loop i v).lb (k0_t7_loop i v).st k) 512#32).toNat = ((both i v) + k.val) * 512 := by
  have h := t7_lt i hv k
  rw [t7_row i hv, toNat_ofNat_of_lt (by omega)]

theorem off2_eq (k : Fin (k0_t1_loop i v).trips) : k0_off2 i v k = ![0, (0 + k.val) * 512, 0] := by
  show (![0, (Scalar.muli (Scf.iv (k0_t1_loop i v).lb (k0_t1_loop i v).st k) 512#32).toNat, 0] : Fin 3 → ℕ) = _
  rw [t1_toNat i hv k]

theorem off3_eq (k : Fin (k0_t1_loop i v).trips) : k0_off3 i v k = ![(0 + k.val) * 512, 0] := by
  show (![(Scalar.muli (Scf.iv (k0_t1_loop i v).lb (k0_t1_loop i v).st k) 512#32).toNat, 0] : Fin 2 → ℕ) = _
  rw [t1_toNat i hv k]

theorem off4_eq (k : Fin (k0_t1_loop i v).trips) : k0_off4 i v k = ![(i 2).val % 2, (0 + k.val) * 512, 0] := by
  show (![(Scalar.remsi (BitVec.ofNat 32 (i 2).val) 2#32).toNat, (Scalar.muli (Scf.iv (k0_t1_loop i v).lb (k0_t1_loop i v).st k) 512#32).toNat, 0] : Fin 3 → ℕ) = _
  rw [cur_toNat, t1_toNat i hv k]

theorem off5_eq (k : Fin (k0_t1_loop i v).trips) : k0_off5 i v k = ![(i 2).val % 2, (0 + k.val) * 512, 256] := by
  show (![(Scalar.remsi (BitVec.ofNat 32 (i 2).val) 2#32).toNat, (Scalar.muli (Scf.iv (k0_t1_loop i v).lb (k0_t1_loop i v).st k) 512#32).toNat, 256] : Fin 3 → ℕ) = _
  rw [cur_toNat, t1_toNat i hv k]

theorem off6_eq (k : Fin (k0_t1_loop i v).trips) : k0_off6 i v k = ![0, 0, 0, (0 + k.val) * 512] := by
  show (![0, 0, 0, (Scalar.muli (Scf.iv (k0_t1_loop i v).lb (k0_t1_loop i v).st k) 512#32).toNat] : Fin 4 → ℕ) = _
  rw [t1_toNat i hv k]

omit hv in
theorem off7_eq : k0_off7 i = ![1 - (i 2).val % 2, 0, 0] := by
  show (![(Scalar.subi 1#32 (Scalar.remsi (BitVec.ofNat 32 (i 2).val) 2#32)).toNat, 0, 0] : Fin 3 → ℕ) = _
  rw [prev_toNat]

theorem off8_eq (k : Fin (k0_t1_loop i v).trips) : k0_off8 i v k = ![1 - (i 2).val % 2, (0 + k.val) * 512, 0] := by
  show (![(Scalar.subi 1#32 (Scalar.remsi (BitVec.ofNat 32 (i 2).val) 2#32)).toNat, (Scalar.muli (Scf.iv (k0_t1_loop i v).lb (k0_t1_loop i v).st k) 512#32).toNat, 0] : Fin 3 → ℕ) = _
  rw [prev_toNat, t1_toNat i hv k]

omit hv in
theorem off9_eq : k0_off9 i = ![1 - (i 2).val % 2, 0, 256] := by
  show (![(Scalar.subi 1#32 (Scalar.remsi (BitVec.ofNat 32 (i 2).val) 2#32)).toNat, 0, 256] : Fin 3 → ℕ) = _
  rw [prev_toNat]

theorem off10_eq (k : Fin (k0_t1_loop i v).trips) : k0_off10 i v k = ![1 - (i 2).val % 2, (0 + k.val) * 512, 256] := by
  show (![(Scalar.subi 1#32 (Scalar.remsi (BitVec.ofNat 32 (i 2).val) 2#32)).toNat, (Scalar.muli (Scf.iv (k0_t1_loop i v).lb (k0_t1_loop i v).st k) 512#32).toNat, 256] : Fin 3 → ℕ) = _
  rw [prev_toNat, t1_toNat i hv k]

omit hv in
theorem off16_eq : k0_off16 i = ![1 - (i 2).val % 2, 0, 0] := by
  show (![(Scalar.subi 1#32 (Scalar.remsi (BitVec.ofNat 32 (i 2).val) 2#32)).toNat, 0, 0] : Fin 3 → ℕ) = _
  rw [prev_toNat]

omit hv in
theorem off18_eq : k0_off18 i = ![1 - (i 2).val % 2, 0, 256] := by
  show (![(Scalar.subi 1#32 (Scalar.remsi (BitVec.ofNat 32 (i 2).val) 2#32)).toNat, 0, 256] : Fin 3 → ℕ) = _
  rw [prev_toNat]

theorem off20_eq (k : Fin (k0_t3_loop i v).trips) : k0_off20 i v k = ![0, ((both i v) + k.val) * 512, 0] := by
  show (![0, (Scalar.muli (Scf.iv (k0_t3_loop i v).lb (k0_t3_loop i v).st k) 512#32).toNat, 0] : Fin 3 → ℕ) = _
  rw [t3_toNat i hv k]

theorem off21_eq (k : Fin (k0_t3_loop i v).trips) : k0_off21 i v k = ![((both i v) + k.val) * 512, 0] := by
  show (![(Scalar.muli (Scf.iv (k0_t3_loop i v).lb (k0_t3_loop i v).st k) 512#32).toNat, 0] : Fin 2 → ℕ) = _
  rw [t3_toNat i hv k]

theorem off22_eq (k : Fin (k0_t3_loop i v).trips) : k0_off22 i v k = ![(i 2).val % 2, ((both i v) + k.val) * 512, 0] := by
  show (![(Scalar.remsi (BitVec.ofNat 32 (i 2).val) 2#32).toNat, (Scalar.muli (Scf.iv (k0_t3_loop i v).lb (k0_t3_loop i v).st k) 512#32).toNat, 0] : Fin 3 → ℕ) = _
  rw [cur_toNat, t3_toNat i hv k]

theorem off23_eq (k : Fin (k0_t3_loop i v).trips) : k0_off23 i v k = ![(i 2).val % 2, ((both i v) + k.val) * 512, 256] := by
  show (![(Scalar.remsi (BitVec.ofNat 32 (i 2).val) 2#32).toNat, (Scalar.muli (Scf.iv (k0_t3_loop i v).lb (k0_t3_loop i v).st k) 512#32).toNat, 256] : Fin 3 → ℕ) = _
  rw [cur_toNat, t3_toNat i hv k]

theorem off28_eq (k : Fin (k0_t5_loop i v).trips) : k0_off28 i v k = ![0, ((full i v) + k.val) * 512, 0] := by
  show (![0, (Scalar.muli (Scf.iv (k0_t5_loop i v).lb (k0_t5_loop i v).st k) 512#32).toNat, 0] : Fin 3 → ℕ) = _
  rw [t5_toNat i hv k]

theorem off29_eq (k : Fin (k0_t5_loop i v).trips) : k0_off29 i v k = ![((full i v) + k.val) * 512, 0] := by
  show (![(Scalar.muli (Scf.iv (k0_t5_loop i v).lb (k0_t5_loop i v).st k) 512#32).toNat, 0] : Fin 2 → ℕ) = _
  rw [t5_toNat i hv k]

theorem off30_eq (k : Fin (k0_t5_loop i v).trips) : k0_off30 i v k = ![(i 2).val % 2, ((full i v) + k.val) * 512, 0] := by
  show (![(Scalar.remsi (BitVec.ofNat 32 (i 2).val) 2#32).toNat, (Scalar.muli (Scf.iv (k0_t5_loop i v).lb (k0_t5_loop i v).st k) 512#32).toNat, 0] : Fin 3 → ℕ) = _
  rw [cur_toNat, t5_toNat i hv k]

theorem off31_eq (k : Fin (k0_t5_loop i v).trips) : k0_off31 i v k = ![(i 2).val % 2, ((full i v) + k.val) * 512, 256] := by
  show (![(Scalar.remsi (BitVec.ofNat 32 (i 2).val) 2#32).toNat, (Scalar.muli (Scf.iv (k0_t5_loop i v).lb (k0_t5_loop i v).st k) 512#32).toNat, 256] : Fin 3 → ℕ) = _
  rw [cur_toNat, t5_toNat i hv k]

theorem off36_eq (k : Fin (k0_t7_loop i v).trips) : k0_off36 i v k = ![0, 0, 0, ((both i v) + k.val) * 512] := by
  show (![0, 0, 0, (Scalar.muli (Scf.iv (k0_t7_loop i v).lb (k0_t7_loop i v).st k) 512#32).toNat] : Fin 4 → ℕ) = _
  rw [t7_toNat i hv k]

omit hv in
theorem off37_eq : k0_off37 i = ![1 - (i 2).val % 2, 0, 0] := by
  show (![(Scalar.subi 1#32 (Scalar.remsi (BitVec.ofNat 32 (i 2).val) 2#32)).toNat, 0, 0] : Fin 3 → ℕ) = _
  rw [prev_toNat]

theorem off38_eq (k : Fin (k0_t7_loop i v).trips) : k0_off38 i v k = ![1 - (i 2).val % 2, ((both i v) + k.val) * 512, 0] := by
  show (![(Scalar.subi 1#32 (Scalar.remsi (BitVec.ofNat 32 (i 2).val) 2#32)).toNat, (Scalar.muli (Scf.iv (k0_t7_loop i v).lb (k0_t7_loop i v).st k) 512#32).toNat, 0] : Fin 3 → ℕ) = _
  rw [prev_toNat, t7_toNat i hv k]

omit hv in
theorem off39_eq : k0_off39 i = ![1 - (i 2).val % 2, 0, 256] := by
  show (![(Scalar.subi 1#32 (Scalar.remsi (BitVec.ofNat 32 (i 2).val) 2#32)).toNat, 0, 256] : Fin 3 → ℕ) = _
  rw [prev_toNat]

theorem off40_eq (k : Fin (k0_t7_loop i v).trips) : k0_off40 i v k = ![1 - (i 2).val % 2, ((both i v) + k.val) * 512, 256] := by
  show (![(Scalar.subi 1#32 (Scalar.remsi (BitVec.ofNat 32 (i 2).val) 2#32)).toNat, (Scalar.muli (Scf.iv (k0_t7_loop i v).lb (k0_t7_loop i v).st k) 512#32).toNat, 256] : Fin 3 → ℕ) = _
  rw [prev_toNat, t7_toNat i hv k]

omit hv in
theorem off42_eq : k0_off42 i = ![1 - (i 2).val % 2, 0, 0] := by
  show (![(Scalar.subi 1#32 (Scalar.remsi (BitVec.ofNat 32 (i 2).val) 2#32)).toNat, 0, 0] : Fin 3 → ℕ) = _
  rw [prev_toNat]

omit hv in
theorem off44_eq : k0_off44 i = ![1 - (i 2).val % 2, 0, 256] := by
  show (![(Scalar.subi 1#32 (Scalar.remsi (BitVec.ofNat 32 (i 2).val) 2#32)).toNat, 0, 256] : Fin 3 → ℕ) = _
  rw [prev_toNat]

omit hv in
theorem off46_eq : k0_off46 i = ![(i 2).val % 2, 0, 0] := by
  show (![(Scalar.remsi (BitVec.ofNat 32 (i 2).val) 2#32).toNat, 0, 0] : Fin 3 → ℕ) = _
  rw [cur_toNat]

omit hv in
theorem off47_eq : k0_off47 i = ![(i 2).val % 2, 0, 128] := by
  show (![(Scalar.remsi (BitVec.ofNat 32 (i 2).val) 2#32).toNat, 0, 128] : Fin 3 → ℕ) = _
  rw [cur_toNat]

omit hv in
theorem off48_eq : k0_off48 i = ![(i 2).val % 2, 0, 256] := by
  show (![(Scalar.remsi (BitVec.ofNat 32 (i 2).val) 2#32).toNat, 0, 256] : Fin 3 → ℕ) = _
  rw [cur_toNat]

omit hv in
theorem off49_eq : k0_off49 i = ![(i 2).val % 2, 0, 384] := by
  show (![(Scalar.remsi (BitVec.ofNat 32 (i 2).val) 2#32).toNat, 0, 384] : Fin 3 → ℕ) = _
  rw [cur_toNat]

omit hv in
theorem mult_dvd {x : ℕ} (h : x < 16) : 512 ∣ (BitVec.ofNat 32 (x * 512)).toNat := by
  rw [toNat_ofNat_of_lt (by omega)]; exact Dvd.intro_left x rfl

theorem chk1_0_of_le : k0_chk1_0 i v := by
  unfold k0_chk1_0
  exact ⟨t1_ok i hv,
    fun k => by rw [show k0_mult1 i v k = _ from t1_row i hv k]; exact mult_dvd (t1_lt i hv k),
    fun k a => by have := t1_lt i hv k; have := (i 2).isLt; rw [off2_eq i hv k]; revert a; simp [Fin.forall_fin_succ, Shape.size, S1x512x128, S1x8192x128]; omega,
    fun k a => by have := t1_lt i hv k; have := (i 2).isLt; rw [off3_eq i hv k]; revert a; simp [Fin.forall_fin_succ, Shape.size, S512x128, S8192x128]; omega,
    fun k a => by have := t1_lt i hv k; have := (i 2).isLt; rw [off4_eq i hv k]; revert a; simp [Fin.forall_fin_succ, Shape.size, S1x512x256, S2x8192x512]; omega,
    fun k a => by have := t1_lt i hv k; have := (i 2).isLt; rw [off5_eq i hv k]; revert a; simp [Fin.forall_fin_succ, Shape.size, S1x512x256, S2x8192x512]; omega,
    fun k => by rw [show k0_mult2 i v k = _ from t1_row i hv k]; exact mult_dvd (t1_lt i hv k),
    fun k a => by have := t1_lt i hv k; have := (i 2).isLt; rw [off6_eq i hv k]; revert a; simp [Fin.forall_fin_succ, Shape.size, S1x1x128x512, S1x1x128x8192]; omega,
    fun k a => by have := t1_lt i hv k; have := (i 2).isLt; rw [off8_eq i hv k]; revert a; simp [Fin.forall_fin_succ, Shape.size, S1x512x256, S2x8192x512]; omega,
    fun k a => by have := t1_lt i hv k; have := (i 2).isLt; rw [off10_eq i hv k]; revert a; simp [Fin.forall_fin_succ, Shape.size, S1x512x256, S2x8192x512]; omega,
    t2_ok i hv,
    fun k => (t2_none i hv k).elim,
    fun k => (t2_none i hv k).elim,
    fun k => (t2_none i hv k).elim,
    fun k => (t2_none i hv k).elim,
    fun k => (t2_none i hv k).elim,
    fun k => (t2_none i hv k).elim,
    fun k => (t2_none i hv k).elim,
    fun k => (t2_none i hv k).elim,
    fun k => (t2_none i hv k).elim,
    t3_ok i hv,
    fun k => by rw [show k0_mult5 i v k = _ from t3_row i hv k]; exact mult_dvd (t3_lt i hv k),
    fun k a => by have := t3_lt i hv k; have := (i 2).isLt; rw [off20_eq i hv k]; revert a; simp [Fin.forall_fin_succ, Shape.size, S1x512x128, S1x8192x128]; omega,
    fun k a => by have := t3_lt i hv k; have := (i 2).isLt; rw [off21_eq i hv k]; revert a; simp [Fin.forall_fin_succ, Shape.size, S512x128, S8192x128]; omega,
    fun k a => by have := t3_lt i hv k; have := (i 2).isLt; rw [off22_eq i hv k]; revert a; simp [Fin.forall_fin_succ, Shape.size, S1x512x256, S2x8192x512]; omega,
    fun k a => by have := t3_lt i hv k; have := (i 2).isLt; rw [off23_eq i hv k]; revert a; simp [Fin.forall_fin_succ, Shape.size, S1x512x256, S2x8192x512]; omega,
    t4_ok i hv,
    fun k => (t4_none i hv k).elim,
    fun k => (t4_none i hv k).elim,
    fun k => (t4_none i hv k).elim,
    fun k => (t4_none i hv k).elim,
    fun k => (t4_none i hv k).elim⟩

theorem chk1_1_of_le : k0_chk1_1 i v := by
  unfold k0_chk1_1
  exact ⟨t5_ok i hv,
    fun k => by rw [show k0_mult7 i v k = _ from t5_row i hv k]; exact mult_dvd (t5_lt i hv k),
    fun k a => by have := t5_lt i hv k; have := (i 2).isLt; rw [off28_eq i hv k]; revert a; simp [Fin.forall_fin_succ, Shape.size, S1x512x128, S1x8192x128]; omega,
    fun k a => by have := t5_lt i hv k; have := (i 2).isLt; rw [off29_eq i hv k]; revert a; simp [Fin.forall_fin_succ, Shape.size, S512x128, S8192x128]; omega,
    fun k a => by have := t5_lt i hv k; have := (i 2).isLt; rw [off30_eq i hv k]; revert a; simp [Fin.forall_fin_succ, Shape.size, S1x512x256, S2x8192x512]; omega,
    fun k a => by have := t5_lt i hv k; have := (i 2).isLt; rw [off31_eq i hv k]; revert a; simp [Fin.forall_fin_succ, Shape.size, S1x512x256, S2x8192x512]; omega,
    t6_ok i hv,
    fun k => (t6_none i hv k).elim,
    fun k => (t6_none i hv k).elim,
    fun k => (t6_none i hv k).elim,
    fun k => (t6_none i hv k).elim,
    fun k => (t6_none i hv k).elim,
    t7_ok i hv,
    fun k => by rw [show k0_mult9 i v k = _ from t7_row i hv k]; exact mult_dvd (t7_lt i hv k),
    fun k a => by have := t7_lt i hv k; have := (i 2).isLt; rw [off36_eq i hv k]; revert a; simp [Fin.forall_fin_succ, Shape.size, S1x1x128x512, S1x1x128x8192]; omega,
    fun k a => by have := t7_lt i hv k; have := (i 2).isLt; rw [off38_eq i hv k]; revert a; simp [Fin.forall_fin_succ, Shape.size, S1x512x256, S2x8192x512]; omega,
    fun k a => by have := t7_lt i hv k; have := (i 2).isLt; rw [off40_eq i hv k]; revert a; simp [Fin.forall_fin_succ, Shape.size, S1x512x256, S2x8192x512]; omega,
    t8_ok i hv,
    fun k => (t8_none i hv k).elim,
    fun k => (t8_none i hv k).elim,
    fun k => (t8_none i hv k).elim,
    fun k => (t8_none i hv k).elim⟩

/-- Every check the kernel's run makes holds when the prefix length is at most 8192. -/
theorem chk1_of_le : k0_chk1 i v := ⟨chk1_0_of_le i hv, chk1_1_of_le i hv⟩

end

end Cert.Kernel.Hand
-- ==== Proof.KB.RunA.lean ====
module

public import proofs.«01_k».proof.Proof.KB.Kit
public import proofs.«01_k».proof.Proof.KB.Bounds

/-! The run of the body at the first tile of a row. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple at the first point of a row: on whole staging memrefs, the inputs' at their contents and
the others at any, the body runs to the continuation holding the inputs' as they were and the others at some contents. -/
theorem kernelRun0_A (c : Dev nD) (i : grid0.Coords) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (hc0 : cond0_0 i) (hc1 : ¬k0_cond2 i = 1#1)
    (x0 : Vec F S1x128x512 .fp8e4m3) (x1 : Vec F S1x1x4x128 .f32) (x2 : Vec F S1x8192x128 .fp8e4m3) (x3 : Vec F S1x1x1x8192 .f32) (x4 : Vec F S1x1x128x8192 .fp8e4m3) (x5 : Vec F S1x1x1x128 .f32) (xt0 : TbBuf0 (F := F) c tbM0_0) (hw : k0_chk1 i (word c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attention_eq_skeleton]; unfold cc0_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part26_eq_skeleton, k0_part27_eq_skeleton, k0_part28_eq_skeleton, k0_part29_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.Kernel.Hand

end
-- ==== Proof.KB.RunB.lean ====
module

public import proofs.«01_k».proof.Proof.KB.Kit
public import proofs.«01_k».proof.Proof.KB.Bounds

/-! The run of the body away from the first tile of a row. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2400000 in
/-- The body's triple at a point that is not the first of its row: on whole staging memrefs, the inputs' at their contents and
the others at any, the body runs to the continuation holding the inputs' as they were and the others at some contents. -/
theorem kernelRun0_B (c : Dev nD) (i : grid0.Coords) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (hc0 : ¬cond0_0 i) (hc1 : k0_cond2 i = 1#1)
    (x0 : Vec F S1x128x512 .fp8e4m3) (x1 : Vec F S1x1x4x128 .f32) (x2 : Vec F S1x8192x128 .fp8e4m3) (x3 : Vec F S1x1x1x8192 .f32) (x4 : Vec F S1x1x128x8192 .fp8e4m3) (x5 : Vec F S1x1x1x128 .f32) (xt0 : TbBuf0 (F := F) c tbM0_0) (hw : k0_chk1 i (word c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attention_eq_skeleton]; unfold cc0_attention_skel
    simp only [k0_part26_eq_skeleton, k0_part27_eq_skeleton, k0_part28_eq_skeleton, k0_part29_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.Kernel.Hand

end
-- ==== Proof.KB.Frame.lean ====
module

public import proofs.«01_k».proof.Proof.KB.RunA
public import proofs.«01_k».proof.Proof.KB.RunB
public import Idealize.ShloMosaic.Lib.Claim

/-! The frame of the attention call: every run ends with the arguments as they were and all counters at zero, provided no prefix
length exceeds 8192. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No prefix length exceeds 8192. -/
def Short : Prop := ∀ (c : Dev nD) (i : grid0.Coords), (word (F := F) c i (tbl m 0)).toInt ≤ 8192

/-- The pipeline's side condition on the table is empty. -/
theorem ok : Ok m := trivial

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d))

set_option maxHeartbeats 2400000 in
/-- The body at any point. -/
theorem sound_body (hp : Short m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩⟩
  by_cases h0 : ((grid0.coords t) 2).val = 0
  · iapply ((kernelRun0_A c (grid0.coords t) _ _ _ _ _ _ _ _ _ _ _ _ _ _ _ _ _ _ _ _ _ _ _ _ _ _ ((hcond0_0 _).mpr h0) (fun h => (hcond0_1 _).mp h h0) (iblk m hO c 0 t) (iblk m hO c 1 t) (iblk m hO c 2 t) (iblk m hO c 3 t) (iblk m hO c 4 t) (iblk m hO c 5 t) (tbl m 0) (chk1_of_le _ (hp c _))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply ((kernelRun0_B c (grid0.coords t) _ _ _ _ _ _ _ _ _ _ _ _ _ _ _ _ _ _ _ _ _ _ _ _ _ _ (fun h => h0 ((hcond0_0 _).mp h)) ((hcond0_1 _).mpr h0) (iblk m hO c 0 t) (iblk m hO c 1 t) (iblk m hO c 2 t) (iblk m hO c 3 t) (iblk m hO c 4 t) (iblk m hO c 5 t) (tbl m 0) (chk1_of_le _ (hp c _))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hp : Short m) (hO : Ok m) (c : Dev nD) : BodyObligation (dats (F := F) m hO 0 c) (defs₀ (F := F)) Variants.none () Set.univ forgets0 := fun t => by
  rw [bigSep_W0, bigSep_W0, defs₀_row m hO]
  exact triple_restated (sound_body m hp hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hp : Short m) (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hp hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hp : Short m) (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hp hO)

/-- `frame` without the counters: the argument arrays end unchanged. -/
theorem unchanged (hp : Short m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hp hO)

/-- The frame claim, for any float operations: every run ends with the arguments as they were and every counter at zero. -/
theorem frame (hp : Short m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hp hO) ((θ_run defs _ _).mono (fun _ h => h.2) (run_main_quiescent m ρ hp hO))

end Cert.Kernel.Hand

end
-- ==== Proof.KB.Pre.lean ====
module

public import proofs.«01_k».proof.Defs
public import proofs.«01_k».proof.Proof.PreFacts
public import proofs.«01_k».proof.Proof.KB.Frame

/-! The precondition, read at the table of prefix lengths: none exceeds 8192. -/

@[expose] public section

noncomputable section

namespace Cert.Kernel.Hand

open Cert.Kernel.Gen
open Idealize.ShloMosaic Idealize.ShloMosaic.TcCoe

/-- The table's entry for the row of point `i`. -/
def rowIx (i : grid0.Coords) : S3.Idx
  | ⟨0, _⟩ => ⟨(i 0).val, (i 0).isLt⟩
  | ⟨k + 1, h⟩ => absurd h (Nat.not_lt.2 (Nat.le_add_left _ _))

/-- The prefix length that the kernel reads at point `i` is the table's entry at the point's row. -/
theorem word_eq {F : FTy → Type} [FloatOps F] (c : Dev nD) (i : grid0.Coords) (x : S3.Idx → BitVec 32) :
    word (F := F) c i x = x (rowIx i) := by
  have h : (i 0).val < 3 := (i 0).isLt
  refine congrArg x (funext fun a => Fin.ext ?_)
  match a with
  | ⟨0, _⟩ =>
    show (BitVec.ofNat 32 (i 0).val).toNat + 0 * 1 = (i 0).val
    rw [BitVec.toNat_ofNat, Nat.mod_eq_of_lt (by omega)]
    omega
  | ⟨k + 1, h⟩ => exact absurd h (Nat.not_lt.2 (Nat.le_add_left _ _))

/-- Under the precondition no prefix length exceeds 8192. -/
theorem short_of_pre (m : (ℓ : Loc nD τ sig) → Buf (Elt Bits) ℓ) (h : Cert.Pre_Kernel m) : Short m := by
  intro c i
  have h1 := congrFun (h 0).1 (rowIx i)
  have h2 : BitVec.ofBool (BitVec.sle ((tbl m 0 : S3.Idx → BitVec 32) (rowIx i)) 8192#32) = 1#1 := h1
  rw [WordCmp.ofBool_eq_one_iff] at h2
  have h3 := BitVec.sle_iff_toInt_le.mp h2
  exact (congrArg BitVec.toInt (word_eq (F := Bits) c i (tbl m 0))).trans_le h3

end Cert.Kernel.Hand

end
-- ==== Proof.KI.Kit.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic
public import Idealize.ShloMosaic.Lib.WordCmp

/-! What every run of the attention kernel's body is stated over: the tables, the windows' blocks, the staging memrefs and
the frame claim's postcondition. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-- The prefix length of the row that point `i` belongs to, as the kernel reads it from the table. -/
def word (c : Dev nD) (i : grid0.Coords) (xt0 : TbBuf0 (F := F) c tbM0_0) : BitVec 32 :=
  View.readAt (Elt F) tbM0_0.view (Rect.unit (s := S3) (k0_off1 i) S1.size (k0_off1_inb i)).toLoadRect xt0 (fun a => ⟨0, by have h : a = 0 := Subsingleton.elim _ _; subst h; exact Nat.one_pos⟩)

/-- The body's first condition, from the grid coordinates: the point is the first of its row. -/
abbrev cond0_0 (i : grid0.Coords) : Prop := (Scalar.cmpi .ne (Scalar.extui (Scalar.cmpi .eq (BitVec.ofNat 32 (i 2).val) 0#32)) 0#32) = 1#1
/-- It holds exactly at coordinate zero. -/
theorem hcond0_0 (i : grid0.Coords) : cond0_0 i ↔ (i 2).val = 0 := by
  have h : (i 2).val < 65 := (i 2).isLt
  simp only [cond0_0]
  word_cmp
/-- The body's second condition holds exactly away from coordinate zero. -/
theorem hcond0_1 (i : grid0.Coords) : k0_cond2 i = 1#1 ↔ (i 2).val ≠ 0 := by
  have h : (i 2).val < 65 := (i 2).isLt
  simp only [k0_cond2]
  word_cmp

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x8192 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x128x8192 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x512 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S2x8192x512 .f32 := Memref.whole cc0_scratch0
abbrev scM0_1 : Memref sig .tc .vmem S8192x128 .f32 := Memref.whole cc0_scratch1
abbrev scM0_2 : Memref sig .tc .vmem S512x128 .fp8e4m3 := Memref.whole cc0_scratch2
abbrev scM0_3 : Memref sig .tc .vmem S2x8x512 .f32 := Memref.whole cc0_scratch3
abbrev scM0_4 : Memref sig .tc .vmem S2x8x512 .f32 := Memref.whole cc0_scratch4
abbrev scM0_5 : Memref sig .tc .vmem S128x512 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.Bounds.lean ====
module

public import proofs.«01_k».proof.KernelIdeal
public import proofs.«01_k».proof.Proof.Words

/-! The kernel's loop bounds and offsets as natural numbers. At grid point `i` with prefix length `v` the keys are taken in
blocks of 512: `full` of them need no mask, `all` of them meet the current tile of queries, `old` of them meet the tile
before. The four loops run over `[0, both)`, `[both, full)`, `[full, all)` and `[both, old)`; the four loops that would
take what an unrolling leaves over never run. -/

@[expose] public section

set_option maxRecDepth 16384

namespace Cert.KernelIdeal.Hand

open Cert.KernelIdeal
open Idealize.ShloMosaic Idealize.ShloMosaic.WordCmp
open Cert.Words

/-- The blocks of keys that the current tile of queries sees without a mask. -/
def full (i : grid0.Coords) (v : BitVec 32) : ℕ := (if (i 2).val < 64 then max (len v) ((i 2).val * 128 + 1) else 0) / 512
/-- The blocks of keys that the current tile of queries sees. -/
def all (i : grid0.Coords) (v : BitVec 32) : ℕ := ((if (i 2).val < 64 then max (len v) (((i 2).val + 1) * 128) else 0) + 511) / 512
/-- The blocks of keys that the tile of queries before sees. -/
def old (i : grid0.Coords) (v : BitVec 32) : ℕ := ((if 0 < (i 2).val then max (len v) ((i 2).val * 128) else 0) + 511) / 512
/-- The blocks that both tiles take in one loop. -/
def both (i : grid0.Coords) (v : BitVec 32) : ℕ := min (full i v) (old i v)

section

variable (i : grid0.Coords) (v : BitVec 32)

/-- The word the kernel computes for `full`. -/
abbrev wfull : BitVec 32 :=
  Scalar.divsi (Scalar.select (Scalar.cmpi .slt (BitVec.ofNat 32 (i 2).val) 64#32)
    (Scalar.maxsi v (Scalar.addi (Scalar.muli (BitVec.ofNat 32 (i 2).val) 128#32) 1#32)) 0#32) 512#32
/-- The word the kernel computes for `all`. -/
abbrev wall : BitVec 32 :=
  Scalar.divsi (Scalar.addi (Scalar.select (Scalar.cmpi .slt (BitVec.ofNat 32 (i 2).val) 64#32)
    (Scalar.maxsi v (Scalar.muli (Scalar.addi (BitVec.ofNat 32 (i 2).val) 1#32) 128#32)) 0#32) 511#32) 512#32
/-- The word the kernel computes for `old`. -/
abbrev wold : BitVec 32 :=
  Scalar.divsi (Scalar.addi (Scalar.select (Scalar.cmpi .sgt (BitVec.ofNat 32 (i 2).val) 0#32)
    (Scalar.maxsi v (Scalar.muli (BitVec.ofNat 32 (i 2).val) 128#32)) 0#32) 511#32) 512#32

variable {v} (hv : v.toInt ≤ 8192)
include hv

theorem len_le : len v ≤ 8192 := by unfold len; omega

theorem full_le : full i v ≤ 16 := by
  have h : (i 2).val < 65 := (i 2).isLt
  have := len_le hv
  unfold full; split_ifs <;> omega

theorem all_le : all i v ≤ 16 := by
  have h : (i 2).val < 65 := (i 2).isLt
  have := len_le hv
  unfold all; split_ifs <;> omega

theorem old_le : old i v ≤ 16 := by
  have h : (i 2).val < 65 := (i 2).isLt
  have := len_le hv
  unfold old; split_ifs <;> omega

omit hv in
theorem full_le_all : full i v ≤ all i v := by
  unfold full all; split_ifs <;> omega

omit hv in
theorem both_le_full : both i v ≤ full i v := min_le_left _ _

omit hv in
theorem both_le_old : both i v ≤ old i v := min_le_right _ _

theorem wfull_eq : wfull i v = BitVec.ofNat 32 (full i v) := by
  have h : (i 2).val < 65 := (i 2).isLt
  have hl := len_le hv
  unfold wfull full
  rw [smuli_ofNat, saddi_ofNat, maxsi_ofNat v (by omega), scalar_cmpi_eq, cmpi_slt_ofNat (by omega) (by omega),
    select_ofBool]
  simp only [decide_eq_true_eq]
  split_ifs <;> rw [divsi_ofNat (by omega) (by omega) (by omega)]

theorem wall_eq : wall i v = BitVec.ofNat 32 (all i v) := by
  have h : (i 2).val < 65 := (i 2).isLt
  have hl := len_le hv
  unfold wall all
  rw [saddi_ofNat, smuli_ofNat, maxsi_ofNat v (by omega), scalar_cmpi_eq, cmpi_slt_ofNat (by omega) (by omega),
    select_ofBool]
  simp only [decide_eq_true_eq]
  split_ifs <;> rw [saddi_ofNat, divsi_ofNat (by omega) (by omega) (by omega)]

theorem wold_eq : wold i v = BitVec.ofNat 32 (old i v) := by
  have h : (i 2).val < 65 := (i 2).isLt
  have hl := len_le hv
  unfold wold old
  rw [smuli_ofNat, maxsi_ofNat v (by omega), scalar_cmpi_eq, cmpi_sgt_ofNat (by omega) (by omega), select_ofBool]
  simp only [decide_eq_true_eq]
  split_ifs <;> rw [saddi_ofNat, divsi_ofNat (by omega) (by omega) (by omega)]

theorem wboth_eq : Scalar.minsi (wfull i v) (wold i v) = BitVec.ofNat 32 (both i v) := by
  have := full_le i hv
  have := old_le i hv
  rw [wfull_eq i hv, wold_eq i hv, minsi_ofNat (by omega) (by omega)]
  rfl

omit hv in
/-- The upper bound `a + ((b - a) / 1) * 1` of a loop from `a` is `b`. -/
theorem upper {a b : ℕ} (h : a ≤ b) (hb : b ≤ 16) :
    Scalar.addi (BitVec.ofNat 32 a)
      (Scalar.muli (Scalar.divsi (Scalar.subi (BitVec.ofNat 32 b) (BitVec.ofNat 32 a)) 1#32) 1#32) = BitVec.ofNat 32 b := by
  rw [subi_ofNat (by omega) h, divsi_ofNat (by omega) (by omega) (by omega), smuli_ofNat, saddi_ofNat]
  congr 1; omega

omit hv in
/-- The upper bound `a + (b - a)` of a remainder loop is `b`. -/
theorem upper' {a b : ℕ} (h : a ≤ b) (hb : b ≤ 16) :
    Scalar.addi (BitVec.ofNat 32 a) (Scalar.subi (BitVec.ofNat 32 b) (BitVec.ofNat 32 a)) = BitVec.ofNat 32 b := by
  rw [subi_ofNat (by omega) h, saddi_ofNat]
  congr 1; omega

theorem t1_eq : k0_t1_loop i v = ⟨BitVec.ofNat 32 0, BitVec.ofNat 32 (both i v), 1#32⟩ := by
  show (⟨0#32, Scalar.addi (0#32) (Scalar.muli (Scalar.divsi (Scalar.subi (Scalar.minsi (wfull i v) (wold i v)) (0#32)) 1#32) 1#32), 1#32⟩ : Scf.Loop 32) = _
  rw [wboth_eq i hv, upper (Nat.zero_le _) ((both_le_full i).trans (full_le i hv))]

theorem t1_trips : (k0_t1_loop i v).trips = both i v - 0 := by
  have h1 := full_le i hv
  have h2 := all_le i hv
  have h3 := old_le i hv
  have h4 := both_le_full (v := v) i
  rw [t1_eq i hv]
  exact trips_ofNat (by omega) (by omega)

theorem t1_ok : (k0_t1_loop i v).OK := by
  have h1 := full_le i hv
  have h2 := all_le i hv
  have h3 := old_le i hv
  have h4 := both_le_full (v := v) i
  rw [t1_eq i hv]
  exact ok_ofNat (by omega) (by omega)

/-- The first key of the block that trip `k` takes. -/
theorem t1_row (k : ℕ) : Scalar.muli (Scf.iv (k0_t1_loop i v).lb (k0_t1_loop i v).st k) 512#32 = BitVec.ofNat 32 ((0 + k) * 512) := by
  rw [t1_eq i hv]
  show Scalar.muli (Scf.iv (BitVec.ofNat 32 0) 1#32 k) 512#32 = _
  rw [iv_ofNat, smuli_ofNat]

theorem t2_eq : k0_t2_loop i v = ⟨BitVec.ofNat 32 (both i v), BitVec.ofNat 32 (both i v), 1#32⟩ := by
  show (⟨Scalar.addi (0#32) (Scalar.muli (Scalar.divsi (Scalar.subi (Scalar.minsi (wfull i v) (wold i v)) (0#32)) 1#32) 1#32), Scalar.addi (0#32) (Scalar.subi (Scalar.minsi (wfull i v) (wold i v)) (0#32)), 1#32⟩ : Scf.Loop 32) = _
  rw [wboth_eq i hv, upper (Nat.zero_le _) ((both_le_full i).trans (full_le i hv)), upper' (Nat.zero_le _) ((both_le_full i).trans (full_le i hv))]

theorem t2_trips : (k0_t2_loop i v).trips = 0 := by
  have h1 := full_le i hv
  have h2 := all_le i hv
  have h3 := old_le i hv
  have h4 := both_le_full (v := v) i
  rw [t2_eq i hv]
  exact (trips_ofNat (by omega) (by omega)).trans (Nat.sub_self _)

theorem t2_ok : (k0_t2_loop i v).OK := by
  have h1 := full_le i hv
  have h2 := all_le i hv
  have h3 := old_le i hv
  have h4 := both_le_full (v := v) i
  rw [t2_eq i hv]
  exact ok_ofNat (by omega) (by omega)

theorem t2_none (k : Fin (k0_t2_loop i v).trips) : False :=
  Nat.not_lt_zero _ (k.isLt.trans_eq (t2_trips i hv))

theorem t3_eq : k0_t3_loop i v = ⟨BitVec.ofNat 32 (both i v), BitVec.ofNat 32 (full i v), 1#32⟩ := by
  show (⟨Scalar.minsi (wfull i v) (wold i v), Scalar.addi (Scalar.minsi (wfull i v) (wold i v)) (Scalar.muli (Scalar.divsi (Scalar.subi (wfull i v) (Scalar.minsi (wfull i v) (wold i v))) 1#32) 1#32), 1#32⟩ : Scf.Loop 32) = _
  rw [wboth_eq i hv, wfull_eq i hv, upper (both_le_full i) (full_le i hv)]

theorem t3_trips : (k0_t3_loop i v).trips = full i v - (both i v) := by
  have h1 := full_le i hv
  have h2 := all_le i hv
  have h3 := old_le i hv
  have h4 := both_le_full (v := v) i
  rw [t3_eq i hv]
  exact trips_ofNat (by omega) (by omega)

theorem t3_ok : (k0_t3_loop i v).OK := by
  have h1 := full_le i hv
  have h2 := all_le i hv
  have h3 := old_le i hv
  have h4 := both_le_full (v := v) i
  rw [t3_eq i hv]
  exact ok_ofNat (by omega) (by omega)

/-- The first key of the block that trip `k` takes. -/
theorem t3_row (k : ℕ) : Scalar.muli (Scf.iv (k0_t3_loop i v).lb (k0_t3_loop i v).st k) 512#32 = BitVec.ofNat 32 (((both i v) + k) * 512) := by
  rw [t3_eq i hv]
  show Scalar.muli (Scf.iv (BitVec.ofNat 32 (both i v)) 1#32 k) 512#32 = _
  rw [iv_ofNat, smuli_ofNat]

theorem t4_eq : k0_t4_loop i v = ⟨BitVec.ofNat 32 (full i v), BitVec.ofNat 32 (full i v), 1#32⟩ := by
  show (⟨Scalar.addi (Scalar.minsi (wfull i v) (wold i v)) (Scalar.muli (Scalar.divsi (Scalar.subi (wfull i v) (Scalar.minsi (wfull i v) (wold i v))) 1#32) 1#32), Scalar.addi (Scalar.minsi (wfull i v) (wold i v)) (Scalar.subi (wfull i v) (Scalar.minsi (wfull i v) (wold i v))), 1#32⟩ : Scf.Loop 32) = _
  rw [wboth_eq i hv, wfull_eq i hv, upper (both_le_full i) (full_le i hv), upper' (both_le_full i) (full_le i hv)]

theorem t4_trips : (k0_t4_loop i v).trips = 0 := by
  have h1 := full_le i hv
  have h2 := all_le i hv
  have h3 := old_le i hv
  have h4 := both_le_full (v := v) i
  rw [t4_eq i hv]
  exact (trips_ofNat (by omega) (by omega)).trans (Nat.sub_self _)

theorem t4_ok : (k0_t4_loop i v).OK := by
  have h1 := full_le i hv
  have h2 := all_le i hv
  have h3 := old_le i hv
  have h4 := both_le_full (v := v) i
  rw [t4_eq i hv]
  exact ok_ofNat (by omega) (by omega)

theorem t4_none (k : Fin (k0_t4_loop i v).trips) : False :=
  Nat.not_lt_zero _ (k.isLt.trans_eq (t4_trips i hv))

theorem t5_eq : k0_t5_loop i v = ⟨BitVec.ofNat 32 (full i v), BitVec.ofNat 32 (all i v), 1#32⟩ := by
  show (⟨wfull i v, Scalar.addi (wfull i v) (Scalar.muli (Scalar.divsi (Scalar.subi (wall i v) (wfull i v)) 1#32) 1#32), 1#32⟩ : Scf.Loop 32) = _
  rw [wfull_eq i hv, wall_eq i hv, upper (full_le_all i) (all_le i hv)]

theorem t5_trips : (k0_t5_loop i v).trips = all i v - (full i v) := by
  have h1 := full_le i hv
  have h2 := all_le i hv
  have h3 := old_le i hv
  have h4 := both_le_full (v := v) i
  rw [t5_eq i hv]
  exact trips_ofNat (by omega) (by omega)

theorem t5_ok : (k0_t5_loop i v).OK := by
  have h1 := full_le i hv
  have h2 := all_le i hv
  have h3 := old_le i hv
  have h4 := both_le_full (v := v) i
  rw [t5_eq i hv]
  exact ok_ofNat (by omega) (by omega)

/-- The first key of the block that trip `k` takes. -/
theorem t5_row (k : ℕ) : Scalar.muli (Scf.iv (k0_t5_loop i v).lb (k0_t5_loop i v).st k) 512#32 = BitVec.ofNat 32 (((full i v) + k) * 512) := by
  rw [t5_eq i hv]
  show Scalar.muli (Scf.iv (BitVec.ofNat 32 (full i v)) 1#32 k) 512#32 = _
  rw [iv_ofNat, smuli_ofNat]

theorem t6_eq : k0_t6_loop i v = ⟨BitVec.ofNat 32 (all i v), BitVec.ofNat 32 (all i v), 1#32⟩ := by
  show (⟨Scalar.addi (wfull i v) (Scalar.muli (Scalar.divsi (Scalar.subi (wall i v) (wfull i v)) 1#32) 1#32), Scalar.addi (wfull i v) (Scalar.subi (wall i v) (wfull i v)), 1#32⟩ : Scf.Loop 32) = _
  rw [wfull_eq i hv, wall_eq i hv, upper (full_le_all i) (all_le i hv), upper' (full_le_all i) (all_le i hv)]

theorem t6_trips : (k0_t6_loop i v).trips = 0 := by
  have h1 := full_le i hv
  have h2 := all_le i hv
  have h3 := old_le i hv
  have h4 := both_le_full (v := v) i
  rw [t6_eq i hv]
  exact (trips_ofNat (by omega) (by omega)).trans (Nat.sub_self _)

theorem t6_ok : (k0_t6_loop i v).OK := by
  have h1 := full_le i hv
  have h2 := all_le i hv
  have h3 := old_le i hv
  have h4 := both_le_full (v := v) i
  rw [t6_eq i hv]
  exact ok_ofNat (by omega) (by omega)

theorem t6_none (k : Fin (k0_t6_loop i v).trips) : False :=
  Nat.not_lt_zero _ (k.isLt.trans_eq (t6_trips i hv))

theorem t7_eq : k0_t7_loop i v = ⟨BitVec.ofNat 32 (both i v), BitVec.ofNat 32 (old i v), 1#32⟩ := by
  show (⟨Scalar.minsi (wfull i v) (wold i v), Scalar.addi (Scalar.minsi (wfull i v) (wold i v)) (Scalar.muli (Scalar.divsi (Scalar.subi (wold i v) (Scalar.minsi (wfull i v) (wold i v))) 1#32) 1#32), 1#32⟩ : Scf.Loop 32) = _
  rw [wboth_eq i hv, wold_eq i hv, upper (both_le_old i) (old_le i hv)]

theorem t7_trips : (k0_t7_loop i v).trips = old i v - (both i v) := by
  have h1 := full_le i hv
  have h2 := all_le i hv
  have h3 := old_le i hv
  have h4 := both_le_full (v := v) i
  rw [t7_eq i hv]
  exact trips_ofNat (by omega) (by omega)

theorem t7_ok : (k0_t7_loop i v).OK := by
  have h1 := full_le i hv
  have h2 := all_le i hv
  have h3 := old_le i hv
  have h4 := both_le_full (v := v) i
  rw [t7_eq i hv]
  exact ok_ofNat (by omega) (by omega)

/-- The first key of the block that trip `k` takes. -/
theorem t7_row (k : ℕ) : Scalar.muli (Scf.iv (k0_t7_loop i v).lb (k0_t7_loop i v).st k) 512#32 = BitVec.ofNat 32 (((both i v) + k) * 512) := by
  rw [t7_eq i hv]
  show Scalar.muli (Scf.iv (BitVec.ofNat 32 (both i v)) 1#32 k) 512#32 = _
  rw [iv_ofNat, smuli_ofNat]

theorem t8_eq : k0_t8_loop i v = ⟨BitVec.ofNat 32 (old i v), BitVec.ofNat 32 (old i v), 1#32⟩ := by
  show (⟨Scalar.addi (Scalar.minsi (wfull i v) (wold i v)) (Scalar.muli (Scalar.divsi (Scalar.subi (wold i v) (Scalar.minsi (wfull i v) (wold i v))) 1#32) 1#32), Scalar.addi (Scalar.minsi (wfull i v) (wold i v)) (Scalar.subi (wold i v) (Scalar.minsi (wfull i v) (wold i v))), 1#32⟩ : Scf.Loop 32) = _
  rw [wboth_eq i hv, wold_eq i hv, upper (both_le_old i) (old_le i hv), upper' (both_le_old i) (old_le i hv)]

theorem t8_trips : (k0_t8_loop i v).trips = 0 := by
  have h1 := full_le i hv
  have h2 := all_le i hv
  have h3 := old_le i hv
  have h4 := both_le_full (v := v) i
  rw [t8_eq i hv]
  exact (trips_ofNat (by omega) (by omega)).trans (Nat.sub_self _)

theorem t8_ok : (k0_t8_loop i v).OK := by
  have h1 := full_le i hv
  have h2 := all_le i hv
  have h3 := old_le i hv
  have h4 := both_le_full (v := v) i
  rw [t8_eq i hv]
  exact ok_ofNat (by omega) (by omega)

theorem t8_none (k : Fin (k0_t8_loop i v).trips) : False :=
  Nat.not_lt_zero _ (k.isLt.trans_eq (t8_trips i hv))

end

section

variable (i : grid0.Coords)

/-- The half of the double buffer that the current tile fills. -/
theorem cur_eq : Scalar.remsi (BitVec.ofNat 32 (i 2).val) 2#32 = BitVec.ofNat 32 ((i 2).val % 2) := by
  have h : ∀ n : Fin 65, Scalar.remsi (BitVec.ofNat 32 n.val) 2#32 = BitVec.ofNat 32 (n.val % 2) := by decide +kernel
  exact h ⟨(i 2).val, (i 2).isLt⟩

/-- The half of the double buffer that the tile before filled. -/
theorem prev_eq : Scalar.subi 1#32 (Scalar.remsi (BitVec.ofNat 32 (i 2).val) 2#32) = BitVec.ofNat 32 (1 - (i 2).val % 2) := by
  have h : ∀ n : Fin 65, Scalar.subi 1#32 (Scalar.remsi (BitVec.ofNat 32 n.val) 2#32) = BitVec.ofNat 32 (1 - n.val % 2) := by decide +kernel
  exact h ⟨(i 2).val, (i 2).isLt⟩

theorem cur_toNat : (Scalar.remsi (BitVec.ofNat 32 (i 2).val) 2#32).toNat = (i 2).val % 2 := by
  rw [cur_eq, toNat_ofNat_of_lt (by omega)]

theorem prev_toNat : (Scalar.subi 1#32 (Scalar.remsi (BitVec.ofNat 32 (i 2).val) 2#32)).toNat = 1 - (i 2).val % 2 := by
  rw [prev_eq, toNat_ofNat_of_lt (by omega)]

variable {v : BitVec 32} (hv : v.toInt ≤ 8192)
include hv

/-- The block that trip `k` takes lies within the keys. -/
theorem t1_lt (k : Fin (k0_t1_loop i v).trips) : 0 + k.val < 16 := by
  have h := k.isLt.trans_eq (t1_trips i hv)
  have h1 := full_le i hv
  have h2 := all_le i hv
  have h3 := old_le i hv
  have h4 := both_le_full (v := v) i
  omega

theorem t1_toNat (k : Fin (k0_t1_loop i v).trips) :
    (Scalar.muli (Scf.iv (k0_t1_loop i v).lb (k0_t1_loop i v).st k) 512#32).toNat = (0 + k.val) * 512 := by
  have h := t1_lt i hv k
  rw [t1_row i hv, toNat_ofNat_of_lt (by omega)]

/-- The block that trip `k` takes lies within the keys. -/
theorem t3_lt (k : Fin (k0_t3_loop i v).trips) : (both i v) + k.val < 16 := by
  have h := k.isLt.trans_eq (t3_trips i hv)
  have h1 := full_le i hv
  have h2 := all_le i hv
  have h3 := old_le i hv
  have h4 := both_le_full (v := v) i
  omega

theorem t3_toNat (k : Fin (k0_t3_loop i v).trips) :
    (Scalar.muli (Scf.iv (k0_t3_loop i v).lb (k0_t3_loop i v).st k) 512#32).toNat = ((both i v) + k.val) * 512 := by
  have h := t3_lt i hv k
  rw [t3_row i hv, toNat_ofNat_of_lt (by omega)]

/-- The block that trip `k` takes lies within the keys. -/
theorem t5_lt (k : Fin (k0_t5_loop i v).trips) : (full i v) + k.val < 16 := by
  have h := k.isLt.trans_eq (t5_trips i hv)
  have h1 := full_le i hv
  have h2 := all_le i hv
  have h3 := old_le i hv
  have h4 := both_le_full (v := v) i
  omega

theorem t5_toNat (k : Fin (k0_t5_loop i v).trips) :
    (Scalar.muli (Scf.iv (k0_t5_loop i v).lb (k0_t5_loop i v).st k) 512#32).toNat = ((full i v) + k.val) * 512 := by
  have h := t5_lt i hv k
  rw [t5_row i hv, toNat_ofNat_of_lt (by omega)]

/-- The block that trip `k` takes lies within the keys. -/
theorem t7_lt (k : Fin (k0_t7_loop i v).trips) : (both i v) + k.val < 16 := by
  have h := k.isLt.trans_eq (t7_trips i hv)
  have h1 := full_le i hv
  have h2 := all_le i hv
  have h3 := old_le i hv
  have h4 := both_le_full (v := v) i
  omega

theorem t7_toNat (k : Fin (k0_t7_loop i v).trips) :
    (Scalar.muli (Scf.iv (k0_t7_loop i v).lb (k0_t7_loop i v).st k) 512#32).toNat = ((both i v) + k.val) * 512 := by
  have h := t7_lt i hv k
  rw [t7_row i hv, toNat_ofNat_of_lt (by omega)]

theorem off2_eq (k : Fin (k0_t1_loop i v).trips) : k0_off2 i v k = ![0, (0 + k.val) * 512, 0] := by
  show (![0, (Scalar.muli (Scf.iv (k0_t1_loop i v).lb (k0_t1_loop i v).st k) 512#32).toNat, 0] : Fin 3 → ℕ) = _
  rw [t1_toNat i hv k]

theorem off3_eq (k : Fin (k0_t1_loop i v).trips) : k0_off3 i v k = ![(0 + k.val) * 512, 0] := by
  show (![(Scalar.muli (Scf.iv (k0_t1_loop i v).lb (k0_t1_loop i v).st k) 512#32).toNat, 0] : Fin 2 → ℕ) = _
  rw [t1_toNat i hv k]

theorem off4_eq (k : Fin (k0_t1_loop i v).trips) : k0_off4 i v k = ![(i 2).val % 2, (0 + k.val) * 512, 0] := by
  show (![(Scalar.remsi (BitVec.ofNat 32 (i 2).val) 2#32).toNat, (Scalar.muli (Scf.iv (k0_t1_loop i v).lb (k0_t1_loop i v).st k) 512#32).toNat, 0] : Fin 3 → ℕ) = _
  rw [cur_toNat, t1_toNat i hv k]

theorem off5_eq (k : Fin (k0_t1_loop i v).trips) : k0_off5 i v k = ![(i 2).val % 2, (0 + k.val) * 512, 256] := by
  show (![(Scalar.remsi (BitVec.ofNat 32 (i 2).val) 2#32).toNat, (Scalar.muli (Scf.iv (k0_t1_loop i v).lb (k0_t1_loop i v).st k) 512#32).toNat, 256] : Fin 3 → ℕ) = _
  rw [cur_toNat, t1_toNat i hv k]

theorem off6_eq (k : Fin (k0_t1_loop i v).trips) : k0_off6 i v k = ![0, 0, 0, (0 + k.val) * 512] := by
  show (![0, 0, 0, (Scalar.muli (Scf.iv (k0_t1_loop i v).lb (k0_t1_loop i v).st k) 512#32).toNat] : Fin 4 → ℕ) = _
  rw [t1_toNat i hv k]

omit hv in
theorem off7_eq : k0_off7 i = ![1 - (i 2).val % 2, 0, 0] := by
  show (![(Scalar.subi 1#32 (Scalar.remsi (BitVec.ofNat 32 (i 2).val) 2#32)).toNat, 0, 0] : Fin 3 → ℕ) = _
  rw [prev_toNat]

theorem off8_eq (k : Fin (k0_t1_loop i v).trips) : k0_off8 i v k = ![1 - (i 2).val % 2, (0 + k.val) * 512, 0] := by
  show (![(Scalar.subi 1#32 (Scalar.remsi (BitVec.ofNat 32 (i 2).val) 2#32)).toNat, (Scalar.muli (Scf.iv (k0_t1_loop i v).lb (k0_t1_loop i v).st k) 512#32).toNat, 0] : Fin 3 → ℕ) = _
  rw [prev_toNat, t1_toNat i hv k]

omit hv in
theorem off9_eq : k0_off9 i = ![1 - (i 2).val % 2, 0, 256] := by
  show (![(Scalar.subi 1#32 (Scalar.remsi (BitVec.ofNat 32 (i 2).val) 2#32)).toNat, 0, 256] : Fin 3 → ℕ) = _
  rw [prev_toNat]

theorem off10_eq (k : Fin (k0_t1_loop i v).trips) : k0_off10 i v k = ![1 - (i 2).val % 2, (0 + k.val) * 512, 256] := by
  show (![(Scalar.subi 1#32 (Scalar.remsi (BitVec.ofNat 32 (i 2).val) 2#32)).toNat, (Scalar.muli (Scf.iv (k0_t1_loop i v).lb (k0_t1_loop i v).st k) 512#32).toNat, 256] : Fin 3 → ℕ) = _
  rw [prev_toNat, t1_toNat i hv k]

omit hv in
theorem off16_eq : k0_off16 i = ![1 - (i 2).val % 2, 0, 0] := by
  show (![(Scalar.subi 1#32 (Scalar.remsi (BitVec.ofNat 32 (i 2).val) 2#32)).toNat, 0, 0] : Fin 3 → ℕ) = _
  rw [prev_toNat]

omit hv in
theorem off18_eq : k0_off18 i = ![1 - (i 2).val % 2, 0, 256] := by
  show (![(Scalar.subi 1#32 (Scalar.remsi (BitVec.ofNat 32 (i 2).val) 2#32)).toNat, 0, 256] : Fin 3 → ℕ) = _
  rw [prev_toNat]

theorem off20_eq (k : Fin (k0_t3_loop i v).trips) : k0_off20 i v k = ![0, ((both i v) + k.val) * 512, 0] := by
  show (![0, (Scalar.muli (Scf.iv (k0_t3_loop i v).lb (k0_t3_loop i v).st k) 512#32).toNat, 0] : Fin 3 → ℕ) = _
  rw [t3_toNat i hv k]

theorem off21_eq (k : Fin (k0_t3_loop i v).trips) : k0_off21 i v k = ![((both i v) + k.val) * 512, 0] := by
  show (![(Scalar.muli (Scf.iv (k0_t3_loop i v).lb (k0_t3_loop i v).st k) 512#32).toNat, 0] : Fin 2 → ℕ) = _
  rw [t3_toNat i hv k]

theorem off22_eq (k : Fin (k0_t3_loop i v).trips) : k0_off22 i v k = ![(i 2).val % 2, ((both i v) + k.val) * 512, 0] := by
  show (![(Scalar.remsi (BitVec.ofNat 32 (i 2).val) 2#32).toNat, (Scalar.muli (Scf.iv (k0_t3_loop i v).lb (k0_t3_loop i v).st k) 512#32).toNat, 0] : Fin 3 → ℕ) = _
  rw [cur_toNat, t3_toNat i hv k]

theorem off23_eq (k : Fin (k0_t3_loop i v).trips) : k0_off23 i v k = ![(i 2).val % 2, ((both i v) + k.val) * 512, 256] := by
  show (![(Scalar.remsi (BitVec.ofNat 32 (i 2).val) 2#32).toNat, (Scalar.muli (Scf.iv (k0_t3_loop i v).lb (k0_t3_loop i v).st k) 512#32).toNat, 256] : Fin 3 → ℕ) = _
  rw [cur_toNat, t3_toNat i hv k]

theorem off28_eq (k : Fin (k0_t5_loop i v).trips) : k0_off28 i v k = ![0, ((full i v) + k.val) * 512, 0] := by
  show (![0, (Scalar.muli (Scf.iv (k0_t5_loop i v).lb (k0_t5_loop i v).st k) 512#32).toNat, 0] : Fin 3 → ℕ) = _
  rw [t5_toNat i hv k]

theorem off29_eq (k : Fin (k0_t5_loop i v).trips) : k0_off29 i v k = ![((full i v) + k.val) * 512, 0] := by
  show (![(Scalar.muli (Scf.iv (k0_t5_loop i v).lb (k0_t5_loop i v).st k) 512#32).toNat, 0] : Fin 2 → ℕ) = _
  rw [t5_toNat i hv k]

theorem off30_eq (k : Fin (k0_t5_loop i v).trips) : k0_off30 i v k = ![(i 2).val % 2, ((full i v) + k.val) * 512, 0] := by
  show (![(Scalar.remsi (BitVec.ofNat 32 (i 2).val) 2#32).toNat, (Scalar.muli (Scf.iv (k0_t5_loop i v).lb (k0_t5_loop i v).st k) 512#32).toNat, 0] : Fin 3 → ℕ) = _
  rw [cur_toNat, t5_toNat i hv k]

theorem off31_eq (k : Fin (k0_t5_loop i v).trips) : k0_off31 i v k = ![(i 2).val % 2, ((full i v) + k.val) * 512, 256] := by
  show (![(Scalar.remsi (BitVec.ofNat 32 (i 2).val) 2#32).toNat, (Scalar.muli (Scf.iv (k0_t5_loop i v).lb (k0_t5_loop i v).st k) 512#32).toNat, 256] : Fin 3 → ℕ) = _
  rw [cur_toNat, t5_toNat i hv k]

theorem off36_eq (k : Fin (k0_t7_loop i v).trips) : k0_off36 i v k = ![0, 0, 0, ((both i v) + k.val) * 512] := by
  show (![0, 0, 0, (Scalar.muli (Scf.iv (k0_t7_loop i v).lb (k0_t7_loop i v).st k) 512#32).toNat] : Fin 4 → ℕ) = _
  rw [t7_toNat i hv k]

omit hv in
theorem off37_eq : k0_off37 i = ![1 - (i 2).val % 2, 0, 0] := by
  show (![(Scalar.subi 1#32 (Scalar.remsi (BitVec.ofNat 32 (i 2).val) 2#32)).toNat, 0, 0] : Fin 3 → ℕ) = _
  rw [prev_toNat]

theorem off38_eq (k : Fin (k0_t7_loop i v).trips) : k0_off38 i v k = ![1 - (i 2).val % 2, ((both i v) + k.val) * 512, 0] := by
  show (![(Scalar.subi 1#32 (Scalar.remsi (BitVec.ofNat 32 (i 2).val) 2#32)).toNat, (Scalar.muli (Scf.iv (k0_t7_loop i v).lb (k0_t7_loop i v).st k) 512#32).toNat, 0] : Fin 3 → ℕ) = _
  rw [prev_toNat, t7_toNat i hv k]

omit hv in
theorem off39_eq : k0_off39 i = ![1 - (i 2).val % 2, 0, 256] := by
  show (![(Scalar.subi 1#32 (Scalar.remsi (BitVec.ofNat 32 (i 2).val) 2#32)).toNat, 0, 256] : Fin 3 → ℕ) = _
  rw [prev_toNat]

theorem off40_eq (k : Fin (k0_t7_loop i v).trips) : k0_off40 i v k = ![1 - (i 2).val % 2, ((both i v) + k.val) * 512, 256] := by
  show (![(Scalar.subi 1#32 (Scalar.remsi (BitVec.ofNat 32 (i 2).val) 2#32)).toNat, (Scalar.muli (Scf.iv (k0_t7_loop i v).lb (k0_t7_loop i v).st k) 512#32).toNat, 256] : Fin 3 → ℕ) = _
  rw [prev_toNat, t7_toNat i hv k]

omit hv in
theorem off42_eq : k0_off42 i = ![1 - (i 2).val % 2, 0, 0] := by
  show (![(Scalar.subi 1#32 (Scalar.remsi (BitVec.ofNat 32 (i 2).val) 2#32)).toNat, 0, 0] : Fin 3 → ℕ) = _
  rw [prev_toNat]

omit hv in
theorem off44_eq : k0_off44 i = ![1 - (i 2).val % 2, 0, 256] := by
  show (![(Scalar.subi 1#32 (Scalar.remsi (BitVec.ofNat 32 (i 2).val) 2#32)).toNat, 0, 256] : Fin 3 → ℕ) = _
  rw [prev_toNat]

omit hv in
theorem off46_eq : k0_off46 i = ![(i 2).val % 2, 0, 0] := by
  show (![(Scalar.remsi (BitVec.ofNat 32 (i 2).val) 2#32).toNat, 0, 0] : Fin 3 → ℕ) = _
  rw [cur_toNat]

omit hv in
theorem off47_eq : k0_off47 i = ![(i 2).val % 2, 0, 128] := by
  show (![(Scalar.remsi (BitVec.ofNat 32 (i 2).val) 2#32).toNat, 0, 128] : Fin 3 → ℕ) = _
  rw [cur_toNat]

omit hv in
theorem off48_eq : k0_off48 i = ![(i 2).val % 2, 0, 256] := by
  show (![(Scalar.remsi (BitVec.ofNat 32 (i 2).val) 2#32).toNat, 0, 256] : Fin 3 → ℕ) = _
  rw [cur_toNat]

omit hv in
theorem off49_eq : k0_off49 i = ![(i 2).val % 2, 0, 384] := by
  show (![(Scalar.remsi (BitVec.ofNat 32 (i 2).val) 2#32).toNat, 0, 384] : Fin 3 → ℕ) = _
  rw [cur_toNat]

omit hv in
theorem mult_dvd {x : ℕ} (h : x < 16) : 512 ∣ (BitVec.ofNat 32 (x * 512)).toNat := by
  rw [toNat_ofNat_of_lt (by omega)]; exact Dvd.intro_left x rfl

theorem chk1_0_of_le : k0_chk1_0 i v := by
  unfold k0_chk1_0
  exact ⟨t1_ok i hv,
    fun k => by rw [show k0_mult1 i v k = _ from t1_row i hv k]; exact mult_dvd (t1_lt i hv k),
    fun k a => by have := t1_lt i hv k; have := (i 2).isLt; rw [off2_eq i hv k]; revert a; simp [Fin.forall_fin_succ, Shape.size, S1x512x128, S1x8192x128]; omega,
    fun k a => by have := t1_lt i hv k; have := (i 2).isLt; rw [off3_eq i hv k]; revert a; simp [Fin.forall_fin_succ, Shape.size, S512x128, S8192x128]; omega,
    fun k a => by have := t1_lt i hv k; have := (i 2).isLt; rw [off4_eq i hv k]; revert a; simp [Fin.forall_fin_succ, Shape.size, S1x512x256, S2x8192x512]; omega,
    fun k a => by have := t1_lt i hv k; have := (i 2).isLt; rw [off5_eq i hv k]; revert a; simp [Fin.forall_fin_succ, Shape.size, S1x512x256, S2x8192x512]; omega,
    fun k => by rw [show k0_mult2 i v k = _ from t1_row i hv k]; exact mult_dvd (t1_lt i hv k),
    fun k a => by have := t1_lt i hv k; have := (i 2).isLt; rw [off6_eq i hv k]; revert a; simp [Fin.forall_fin_succ, Shape.size, S1x1x128x512, S1x1x128x8192]; omega,
    fun k a => by have := t1_lt i hv k; have := (i 2).isLt; rw [off8_eq i hv k]; revert a; simp [Fin.forall_fin_succ, Shape.size, S1x512x256, S2x8192x512]; omega,
    fun k a => by have := t1_lt i hv k; have := (i 2).isLt; rw [off10_eq i hv k]; revert a; simp [Fin.forall_fin_succ, Shape.size, S1x512x256, S2x8192x512]; omega,
    t2_ok i hv,
    fun k => (t2_none i hv k).elim,
    fun k => (t2_none i hv k).elim,
    fun k => (t2_none i hv k).elim,
    fun k => (t2_none i hv k).elim,
    fun k => (t2_none i hv k).elim,
    fun k => (t2_none i hv k).elim,
    fun k => (t2_none i hv k).elim,
    fun k => (t2_none i hv k).elim,
    fun k => (t2_none i hv k).elim,
    t3_ok i hv,
    fun k => by rw [show k0_mult5 i v k = _ from t3_row i hv k]; exact mult_dvd (t3_lt i hv k),
    fun k a => by have := t3_lt i hv k; have := (i 2).isLt; rw [off20_eq i hv k]; revert a; simp [Fin.forall_fin_succ, Shape.size, S1x512x128, S1x8192x128]; omega,
    fun k a => by have := t3_lt i hv k; have := (i 2).isLt; rw [off21_eq i hv k]; revert a; simp [Fin.forall_fin_succ, Shape.size, S512x128, S8192x128]; omega,
    fun k a => by have := t3_lt i hv k; have := (i 2).isLt; rw [off22_eq i hv k]; revert a; simp [Fin.forall_fin_succ, Shape.size, S1x512x256, S2x8192x512]; omega,
    fun k a => by have := t3_lt i hv k; have := (i 2).isLt; rw [off23_eq i hv k]; revert a; simp [Fin.forall_fin_succ, Shape.size, S1x512x256, S2x8192x512]; omega,
    t4_ok i hv,
    fun k => (t4_none i hv k).elim,
    fun k => (t4_none i hv k).elim,
    fun k => (t4_none i hv k).elim,
    fun k => (t4_none i hv k).elim,
    fun k => (t4_none i hv k).elim⟩

theorem chk1_1_of_le : k0_chk1_1 i v := by
  unfold k0_chk1_1
  exact ⟨t5_ok i hv,
    fun k => by rw [show k0_mult7 i v k = _ from t5_row i hv k]; exact mult_dvd (t5_lt i hv k),
    fun k a => by have := t5_lt i hv k; have := (i 2).isLt; rw [off28_eq i hv k]; revert a; simp [Fin.forall_fin_succ, Shape.size, S1x512x128, S1x8192x128]; omega,
    fun k a => by have := t5_lt i hv k; have := (i 2).isLt; rw [off29_eq i hv k]; revert a; simp [Fin.forall_fin_succ, Shape.size, S512x128, S8192x128]; omega,
    fun k a => by have := t5_lt i hv k; have := (i 2).isLt; rw [off30_eq i hv k]; revert a; simp [Fin.forall_fin_succ, Shape.size, S1x512x256, S2x8192x512]; omega,
    fun k a => by have := t5_lt i hv k; have := (i 2).isLt; rw [off31_eq i hv k]; revert a; simp [Fin.forall_fin_succ, Shape.size, S1x512x256, S2x8192x512]; omega,
    t6_ok i hv,
    fun k => (t6_none i hv k).elim,
    fun k => (t6_none i hv k).elim,
    fun k => (t6_none i hv k).elim,
    fun k => (t6_none i hv k).elim,
    fun k => (t6_none i hv k).elim,
    t7_ok i hv,
    fun k => by rw [show k0_mult9 i v k = _ from t7_row i hv k]; exact mult_dvd (t7_lt i hv k),
    fun k a => by have := t7_lt i hv k; have := (i 2).isLt; rw [off36_eq i hv k]; revert a; simp [Fin.forall_fin_succ, Shape.size, S1x1x128x512, S1x1x128x8192]; omega,
    fun k a => by have := t7_lt i hv k; have := (i 2).isLt; rw [off38_eq i hv k]; revert a; simp [Fin.forall_fin_succ, Shape.size, S1x512x256, S2x8192x512]; omega,
    fun k a => by have := t7_lt i hv k; have := (i 2).isLt; rw [off40_eq i hv k]; revert a; simp [Fin.forall_fin_succ, Shape.size, S1x512x256, S2x8192x512]; omega,
    t8_ok i hv,
    fun k => (t8_none i hv k).elim,
    fun k => (t8_none i hv k).elim,
    fun k => (t8_none i hv k).elim,
    fun k => (t8_none i hv k).elim⟩

/-- Every check the kernel's run makes holds when the prefix length is at most 8192. -/
theorem chk1_of_le : k0_chk1 i v := ⟨chk1_0_of_le i hv, chk1_1_of_le i hv⟩

end

end Cert.KernelIdeal.Hand
-- ==== Proof.KI.RunA.lean ====
module

public import proofs.«01_k».proof.Proof.KI.Kit
public import proofs.«01_k».proof.Proof.KI.Bounds

/-! The run of the body at the first tile of a row. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple at the first point of a row: on whole staging memrefs, the inputs' at their contents and
the others at any, the body runs to the continuation holding the inputs' as they were and the others at some contents. -/
theorem kernelRun0_A (c : Dev nD) (i : grid0.Coords) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (hc0 : cond0_0 i) (hc1 : ¬k0_cond2 i = 1#1)
    (x0 : Vec F S1x128x512 .fp8e4m3) (x1 : Vec F S1x1x4x128 .f32) (x2 : Vec F S1x8192x128 .fp8e4m3) (x3 : Vec F S1x1x1x8192 .f32) (x4 : Vec F S1x1x128x8192 .fp8e4m3) (x5 : Vec F S1x1x1x128 .f32) (xt0 : TbBuf0 (F := F) c tbM0_0) (hw : k0_chk1 i (word c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attention_eq_skeleton]; unfold cc0_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part26_eq_skeleton, k0_part27_eq_skeleton, k0_part28_eq_skeleton, k0_part29_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.KernelIdeal.Hand

end
-- ==== Proof.KI.RunB.lean ====
module

public import proofs.«01_k».proof.Proof.KI.Kit
public import proofs.«01_k».proof.Proof.KI.Bounds

/-! The run of the body away from the first tile of a row. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2400000 in
/-- The body's triple at a point that is not the first of its row: on whole staging memrefs, the inputs' at their contents and
the others at any, the body runs to the continuation holding the inputs' as they were and the others at some contents. -/
theorem kernelRun0_B (c : Dev nD) (i : grid0.Coords) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (hc0 : ¬cond0_0 i) (hc1 : k0_cond2 i = 1#1)
    (x0 : Vec F S1x128x512 .fp8e4m3) (x1 : Vec F S1x1x4x128 .f32) (x2 : Vec F S1x8192x128 .fp8e4m3) (x3 : Vec F S1x1x1x8192 .f32) (x4 : Vec F S1x1x128x8192 .fp8e4m3) (x5 : Vec F S1x1x1x128 .f32) (xt0 : TbBuf0 (F := F) c tbM0_0) (hw : k0_chk1 i (word c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attention_eq_skeleton]; unfold cc0_attention_skel
    simp only [k0_part26_eq_skeleton, k0_part27_eq_skeleton, k0_part28_eq_skeleton, k0_part29_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.KernelIdeal.Hand

end
-- ==== Proof.KI.Frame.lean ====
module

public import proofs.«01_k».proof.Proof.KI.RunA
public import proofs.«01_k».proof.Proof.KI.RunB
public import Idealize.ShloMosaic.Lib.Claim

/-! The frame of the attention call: every run ends with the arguments as they were and all counters at zero, provided no prefix
length exceeds 8192. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No prefix length exceeds 8192. -/
def Short : Prop := ∀ (c : Dev nD) (i : grid0.Coords), (word (F := F) c i (tbl m 0)).toInt ≤ 8192

/-- The pipeline's side condition on the table is empty. -/
theorem ok : Ok m := trivial

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (∃ d, owns (c : Thread nD τ) (ms0_6 m hO t) fullShare d))

set_option maxHeartbeats 2400000 in
/-- The body at any point. -/
theorem sound_body (hp : Short m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩⟩
  by_cases h0 : ((grid0.coords t) 2).val = 0
  · iapply ((kernelRun0_A c (grid0.coords t) _ _ _ _ _ _ _ _ _ _ _ _ _ _ _ _ _ _ _ _ _ _ _ _ _ _ ((hcond0_0 _).mpr h0) (fun h => (hcond0_1 _).mp h h0) (iblk m hO c 0 t) (iblk m hO c 1 t) (iblk m hO c 2 t) (iblk m hO c 3 t) (iblk m hO c 4 t) (iblk m hO c 5 t) (tbl m 0) (chk1_of_le _ (hp c _))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply ((kernelRun0_B c (grid0.coords t) _ _ _ _ _ _ _ _ _ _ _ _ _ _ _ _ _ _ _ _ _ _ _ _ _ _ (fun h => h0 ((hcond0_0 _).mp h)) ((hcond0_1 _).mpr h0) (iblk m hO c 0 t) (iblk m hO c 1 t) (iblk m hO c 2 t) (iblk m hO c 3 t) (iblk m hO c 4 t) (iblk m hO c 5 t) (tbl m 0) (chk1_of_le _ (hp c _))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, H6, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hp : Short m) (hO : Ok m) (c : Dev nD) : BodyObligation (dats (F := F) m hO 0 c) (defs₀ (F := F)) Variants.none () Set.univ forgets0 := fun t => by
  rw [bigSep_W0, bigSep_W0, defs₀_row m hO]
  exact triple_restated (sound_body m hp hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hp : Short m) (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hp hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hp : Short m) (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hp hO)

/-- `frame` without the counters: the argument arrays end unchanged. -/
theorem unchanged (hp : Short m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hp hO)

/-- The frame claim, for any float operations: every run ends with the arguments as they were and every counter at zero. -/
theorem frame (hp : Short m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hp hO) ((θ_run defs _ _).mono (fun _ h => h.2) (run_main_quiescent m ρ hp hO))

end Cert.KernelIdeal.Hand

end
-- ==== Proof.KI.Pre.lean ====
module

public import proofs.«01_k».proof.Defs
public import proofs.«01_k».proof.Proof.PreFacts
public import proofs.«01_k».proof.Proof.KI.Frame

/-! The precondition, read at the table of prefix lengths: none exceeds 8192. -/

@[expose] public section

noncomputable section

namespace Cert.KernelIdeal.Hand

open Cert.KernelIdeal.Gen
open Idealize.ShloMosaic Idealize.ShloMosaic.TcCoe

/-- The table's entry for the row of point `i`. -/
def rowIx (i : grid0.Coords) : S3.Idx
  | ⟨0, _⟩ => ⟨(i 0).val, (i 0).isLt⟩
  | ⟨k + 1, h⟩ => absurd h (Nat.not_lt.2 (Nat.le_add_left _ _))

/-- The prefix length that the kernel reads at point `i` is the table's entry at the point's row. -/
theorem word_eq {F : FTy → Type} [FloatOps F] [Named F] (c : Dev nD) (i : grid0.Coords) (x : S3.Idx → BitVec 32) :
    word (F := F) c i x = x (rowIx i) := by
  have h : (i 0).val < 3 := (i 0).isLt
  refine congrArg x (funext fun a => Fin.ext ?_)
  match a with
  | ⟨0, _⟩ =>
    show (BitVec.ofNat 32 (i 0).val).toNat + 0 * 1 = (i 0).val
    rw [BitVec.toNat_ofNat, Nat.mod_eq_of_lt (by omega)]
    omega
  | ⟨k + 1, h⟩ => exact absurd h (Nat.not_lt.2 (Nat.le_add_left _ _))

/-- Under the precondition no prefix length exceeds 8192. -/
theorem short_of_pre (m : (ℓ : Loc nD τ sig) → Buf (Elt Ideal) ℓ) (h : Cert.Pre_KernelIdeal m) : Short m := by
  intro c i
  have h1 := congrFun (h 0).1 (rowIx i)
  have h2 : BitVec.ofBool (BitVec.sle ((tbl m 0 : S3.Idx → BitVec 32) (rowIx i)) 8192#32) = 1#1 := h1
  rw [WordCmp.ofBool_eq_one_iff] at h2
  have h3 := BitVec.sle_iff_toInt_le.mp h2
  exact (congrArg BitVec.toInt (word_eq (F := Ideal) c i (tbl m 0))).trans_le h3

end Cert.KernelIdeal.Hand

end
-- ==== Proof.Frames.lean ====
module

public import proofs.«01_k».proof.Proof.KB.Pre
public import proofs.«01_k».proof.Proof.KI.Pre
public import proofs.«01_k».proof.Proof.Gen.ReferenceIdeal.Frame

/-! The frame claims of the three programs, and the claim that the idealized kernel is the kernel with its one constant
named. -/

@[expose] public section

noncomputable section

namespace Cert.Proof

open Idealize.ShloMosaic Idealize.SL.Sem

/-- Every run of the kernel ends with its arguments unchanged and every counter at zero. -/
theorem frame_kernel : Cert.quiescent_Kernel :=
  fun m g h => Cert.Kernel.Hand.frame m g (Cert.Kernel.Hand.short_of_pre m h) (Cert.Kernel.Hand.ok m)

/-- So does every run of the idealized kernel. -/
theorem frame_kernelIdeal : Cert.quiescent_KernelIdeal :=
  fun m g h => Cert.KernelIdeal.Hand.frame m g (Cert.KernelIdeal.Hand.short_of_pre m h) (Cert.KernelIdeal.Hand.ok m)

/-- So does every run of the reference. -/
theorem frame_referenceIdeal : Cert.quiescent_ReferenceIdeal :=
  fun m g _ => Cert.ReferenceIdeal.Gen.frame m g

/-- The constant the kernel holds as a float is named `(√128)⁻¹ · (log 2)⁻¹`. -/
theorem preserves : Cert.preserves_Kernel_KernelIdeal :=
  IdealRules.named_const.statement Cert.KernelIdeal.κ "c" .f32 0x3E0293EE#32
    (((Real.sqrt 128)⁻¹ * (Real.log 2)⁻¹ : ℝ) : EReal) rfl

end Cert.Proof

end
-- ==== Proof.KI.Ops.lean ====
module

public import proofs.«01_k».proof.Proof.KI.Kit
public import Idealize.ShloMosaic.Lib.ValueIdx
public import Idealize.ShloMosaic.Lib.ValueIdxCore
public import Idealize.ShloMosaic.Lib.ValueLayout
public import Idealize.ShloMosaic.Lib.MatmulPlain
public import Idealize.ShloMosaic.Lib.Pipeline.Value
public import Idealize.ShloMosaic.PureOps.Ideal.Laws

/-! What one block of keys does, as vector operations, and what each of them holds at an index. -/

@[expose] public section

noncomputable section

namespace Cert.KernelIdeal.Hand

open Cert.KernelIdeal.Gen
open Idealize.ShloMosaic Idealize.ShloMosaic.ValueIdx

/-! ## The operations of one block -/

/-- The scores of one block of 512 keys against 256 columns of queries, before the mask: the product of the key codes
and the query codes, times the keys' scales. -/
def sBlk (kb : Vec Ideal S1x512x128 .fp8e4m3) (ksl : Vec Ideal S512x128 .f32) (qh : Vec Ideal S256x128 .fp8e4m3) :
    FVec Ideal S512x256 .f32 :=
  mulf (matmul (φ₂ := .fp8e4m3) dot_S512x128_S256x128_S512x256_1_1_0_0_n_n none
      (shapeCast S512x128 kb shapeCasts_S1x512x128_S512x128 : FVec Ideal S512x128 .fp8e4m3) qh (constant S512x256 .f32 0x00000000#32))
    (concatenate S512x256 1 [⟨S512x128, ksl⟩, ⟨S512x128, ksl⟩] concatenates_S512x128_S512x128_S512x256_d1)

/-- The mask: `-∞` at the keys a query does not see. `k0` is the block's first key, `arg2` the tile of queries. -/
def sMask (k0 arg2 v1 : BitVec 32) (y : FVec Ideal S512x256 .f32) : FVec Ideal S512x256 .f32 :=
  select (cmpi .slt (addi (broadcast S512x256 k0) (iota .tc S512x256 32 [0] iota_S512x256_d0_w32))
      (maxsi (broadcast S512x256 v1)
        (addi (addi (broadcast S512x256 (Scalar.muli arg2 128#32))
          (andi (iota .tc S512x256 32 [1] iota_S512x256_d1_w32) (broadcast S512x256 127#32))) (broadcast S512x256 1#32))))
    y (broadcast S512x256 (Scalar.ofBits .f32 0xFF800000#32))

/-- The greatest score of a block by sublane. -/
def colMax (y : FVec Ideal S512x256 .f32) : FVec Ideal S8x256 .f32 :=
  multiReduction .maximumf [0] S8x256 (shapeCast S64x8x256 y shapeCasts_S512x256_S64x8x256) 0xFF800000#32
    reduces_S64x8x256_S8x256 (.inl rfl) rfl

/-- Two halves of 256 columns side by side. -/
def halves (a b : FVec Ideal S8x256 .f32) : FVec Ideal S8x512 .f32 :=
  concatenate S8x512 1 [⟨S8x256, a⟩, ⟨S8x256, b⟩] concatenates_S8x256_S8x256_S8x512_d1

/-- The running maximum after a block. -/
def mxStep (mx : FVec Ideal S8x512 .f32) (y0 y1 : FVec Ideal S512x256 .f32) : FVec Ideal S8x512 .f32 :=
  maximumf mx (halves (colMax y0) (colMax y1))

/-- The exponentials of a block of scores. -/
def eBlk (c m : Vec Ideal S1x8x256 .f32) (y : Vec Ideal S1x512x256 .f32) : FVec Ideal S64x8x256 .f32 :=
  exp2 (subf
    (mulf (shapeCast S64x8x256 (shapeCast S512x256 y shapeCasts_S1x512x256_S512x256) shapeCasts_S512x256_S64x8x256)
      (broadcastTo S64x8x256 (shapeCast S1x8x256 (shapeCast S8x256 c shapeCasts_S1x8x256_S8x256) shapeCasts_S8x256_S1x8x256)
        broadcasts_S1x8x256_S64x8x256))
    (broadcastTo S64x8x256 (shapeCast S1x8x256 (shapeCast S8x256 m shapeCasts_S1x8x256_S8x256) shapeCasts_S8x256_S1x8x256)
      broadcasts_S1x8x256_S64x8x256))

/-- The sum of a block by sublane. -/
def colSum (e : FVec Ideal S64x8x256 .f32) : FVec Ideal S8x256 .f32 :=
  multiReduction .add [0] S8x256 e 0x00000000#32 reduces_S64x8x256_S8x256 (.inl rfl) rfl

/-- The running sum after a block. -/
def lStep (l : FVec Ideal S8x512 .f32) (e0 e1 : FVec Ideal S64x8x256 .f32) : FVec Ideal S8x512 .f32 :=
  addf l (halves (colSum e0) (colSum e1))

/-- The running product of the values and the probabilities after a block. -/
def accStep (vt : Vec Ideal S1x1x128x512 .fp8e4m3) (e : FVec Ideal S64x8x256 .f32) (old : Vec Ideal S128x256 .f32) :
    FVec Ideal S128x256 .f32 :=
  shapeCast S128x256 (addf old (matmul dot_S128x512_S512x256_S128x256_1_0_0_1_n_n none
      (shapeCast S128x512 vt shapeCasts_S1x1x128x512_S128x512 : FVec Ideal S128x512 .fp8e4m3)
      (truncf .fp8e4m3 (shapeCast S512x256 (minimumf e (broadcast S64x8x256 (Scalar.ofBits .f32 0x43E00000#32)))
        shapeCasts_S64x8x256_S512x256) bitsLt_fp8e4m3_f32) (constant S128x256 .f32 0x00000000#32)))
    shapeCasts_S128x256_S128x256

/-! ## The same at an index -/

section

variable {α : Type}

theorem cast_512x256_64x8x256 (x : S512x256.Idx → α) (h : S512x256.ShapeCasts S64x8x256) (q : Fin 64) (s : Fin 8) (c : Fin 256)
    (r : Fin 512) (hr : r.val = 8 * q.val + s.val) : shapeCast S64x8x256 x h (ix3 q s c) = x (ix2 r c) :=
  shapeCast_apply x h _ _ (by
    rw [Shape.rowMajor_val_three, Shape.rowMajor_val_two]
    show r.val * 256 + c.val = (q.val * 8 + s.val) * 256 + c.val
    rw [hr]; ring)

theorem cast_64x8x256_512x256 (x : S64x8x256.Idx → α) (h : S64x8x256.ShapeCasts S512x256) (q : Fin 64) (s : Fin 8) (c : Fin 256)
    (r : Fin 512) (hr : r.val = 8 * q.val + s.val) : shapeCast S512x256 x h (ix2 r c) = x (ix3 q s c) :=
  shapeCast_apply x h _ _ (by
    rw [Shape.rowMajor_val_three, Shape.rowMajor_val_two]
    show (q.val * 8 + s.val) * 256 + c.val = r.val * 256 + c.val
    rw [hr]; ring)

theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem bcast_64x8x256 (x : S1x8x256.Idx → α) (h : S1x8x256.Broadcasts S64x8x256) (q : Fin 64) (s : Fin 8) (c : Fin 256) :
    broadcastTo S64x8x256 x h (ix3 q s c) = x (ix3 (0 : Fin 1) s c) :=
  broadcastTo_apply x h _ _ fun a => by
    match a with
    | ⟨0, _⟩ => rfl
    | ⟨1, _⟩ => rfl
    | ⟨2, _⟩ => rfl

end

theorem zero_f32 : Ideal.ofBits .f32 0x00000000#32 = 0 := by simp [Ideal.ofBits, Ideal.ieee]

theorem halves_left (a b : FVec Ideal S8x256 .f32) (s : Fin 8) (c : Fin 512) (c' : Fin 256) (hc : c.val = c'.val) :
    halves a b (ix2 s c) = a (ix2 s c') :=
  concatenate_pair_apply_left (t := S8x512) (s₁ := S8x256) (s₂ := S8x256) 1 a b _ (ix2 s c) rfl (ix2 s c') fun x => by
    match x with
    | ⟨0, _⟩ => rfl
    | ⟨1, _⟩ => exact hc.symm

theorem halves_right (a b : FVec Ideal S8x256 .f32) (s : Fin 8) (c : Fin 512) (c' : Fin 256) (hc : c.val = 256 + c'.val) :
    halves a b (ix2 s c) = b (ix2 s c') :=
  concatenate_pair_apply_right (t := S8x512) (s₁ := S8x256) (s₂ := S8x256) 1 a b _ (ix2 s c) rfl rfl (ix2 s c') (fun x => by
    match x with
    | ⟨0, _⟩ => intro _; rfl
    | ⟨1, _⟩ => intro h; exact absurd rfl h) (by show c'.val + 256 = c.val; omega)

/-- One score of a block. -/
theorem sBlk_apply (kb : Vec Ideal S1x512x128 .fp8e4m3) (ksl : Vec Ideal S512x128 .f32) (qh : Vec Ideal S256x128 .fp8e4m3)
    (r : Fin 512) (c : Fin 256) :
    sBlk kb ksl qh (ix2 r c)
      = (∑ k : Fin 128, (kb (ix3 (0 : Fin 1) r k) : EReal) * qh (ix2 c k))
        * ksl (ix2 r (⟨c.val % 128, Nat.mod_lt _ (by decide)⟩ : Fin 128)) := by
  unfold sBlk
  rw [mulf_apply]
  congr 1
  · refine (Ideal.matmul_transposedRhs_apply (M := 512) (K := 128) (N := 256) none _ _ _ r c).trans ?_
    rw [constant_apply, zero_f32, zero_add]
    exact Finset.sum_congr rfl fun k _ => by rw [shapeCast_1ab_ab_apply]
  · by_cases h : c.val < 128
    · refine concatenate_pair_apply_left (t := S512x256) (s₁ := S512x128) (s₂ := S512x128) 1 ksl ksl _ (ix2 r c) rfl _ fun x => ?_
      match x with
      | ⟨0, _⟩ => rfl
      | ⟨1, _⟩ => exact Nat.mod_eq_of_lt h
    · refine concatenate_pair_apply_right (t := S512x256) (s₁ := S512x128) (s₂ := S512x128) 1 ksl ksl _ (ix2 r c) rfl rfl _ (fun x => ?_) ?_
      · match x with
        | ⟨0, _⟩ => intro _; rfl
        | ⟨1, _⟩ => intro h; exact absurd rfl h
      · show c.val % 128 + 128 = c.val
        have := c.isLt; omega

theorem fold_max_bot {n : ℕ} (f : Fin n → EReal) (g : ℕ → EReal) (h : ∀ k : Fin n, f k = g k.val) :
    (Finset.univ : Finset (Fin n)).fold max (⊥ : EReal) f = (Finset.range n).sup g := by
  have : (Finset.univ : Finset (Fin n)).fold max (⊥ : EReal) f = Finset.univ.sup f := rfl
  rw [this]
  apply le_antisymm
  · exact Finset.sup_le fun k _ => (h k).le.trans (Finset.le_sup (f := g) (Finset.mem_range.mpr k.isLt))
  · exact Finset.sup_le fun k hk =>
      (h ⟨k, Finset.mem_range.mp hk⟩).ge.trans (Finset.le_sup (f := f) (Finset.mem_univ _))

theorem ninf_f32 : Ideal.ofBits .f32 0xFF800000#32 = ⊥ := by simp [Ideal.ofBits, Ideal.ieee]

/-- The greatest score of a block by sublane, at an index. -/
theorem colMax_apply (y : FVec Ideal S512x256 .f32) (g : ℕ → EReal) (s : Fin 8) (c : Fin 256)
    (h : ∀ (q : Fin 64) (r : Fin 512), r.val = 8 * q.val + s.val → y (ix2 r c) = g q.val) :
    colMax y (ix2 s c) = (Finset.range 64).sup g := by
  unfold colMax
  refine (Ideal.multiReduction_maximumf_single _ _ _ _ _ _).trans ?_
  rw [show (FloatOps.ofBits (F := Ideal) .f32 0xFF800000#32) = (⊥ : EReal) from ninf_f32]
  refine fold_max_bot (n := 64) _ g fun (q : Fin 64) => ?_
  have hq := q.isLt; have hs := s.isLt
  refine Eq.trans ?_ (h q (⟨8 * q.val + s.val, by omega⟩ : Fin 512) rfl)
  refine Eq.trans ?_ (cast_512x256_64x8x256 y shapeCasts_S512x256_S64x8x256 q s c _ rfl)
  exact congrArg (shapeCast S64x8x256 y shapeCasts_S512x256_S64x8x256)
    (funext fun (a : Fin 3) => by match a with | ⟨0, _⟩ => rfl | ⟨1, _⟩ => rfl | ⟨2, _⟩ => rfl)

/-- One exponential of a block. -/
theorem eBlk_apply (c m : Vec Ideal S1x8x256 .f32) (y : Vec Ideal S1x512x256 .f32) (q : Fin 64) (s : Fin 8) (k : Fin 256)
    (r : Fin 512) (hr : r.val = 8 * q.val + s.val) :
    eBlk c m y (ix3 q s k)
      = Ideal.exp2 (y (ix3 (0 : Fin 1) r k) * c (ix3 (0 : Fin 1) s k) - m (ix3 (0 : Fin 1) s k)) := by
  unfold eBlk
  show Ideal.exp2 (_ * _ - _) = _
  rw [cast_512x256_64x8x256 _ _ q s k r hr, shapeCast_1ab_ab_apply, bcast_64x8x256, bcast_64x8x256,
    shapeCast_ab_1ab_apply, shapeCast_1ab_ab_apply, shapeCast_ab_1ab_apply, shapeCast_1ab_ab_apply]

/-- The sum of a block by sublane, at an index. -/
theorem colSum_apply (e : FVec Ideal S64x8x256 .f32) (g : ℕ → EReal) (s : Fin 8) (c : Fin 256)
    (h : ∀ q : Fin 64, e (ix3 q s c) = g q.val) :
    colSum e (ix2 s c) = ∑ q ∈ Finset.range 64, g q := by
  unfold colSum
  refine (Ideal.multiReduction_add_single _ _ _ _ _ _).trans ?_
  rw [Finset.sum_range]
  refine Finset.sum_congr rfl fun q _ => ?_
  refine Eq.trans ?_ (h q)
  exact congrArg e (funext fun (a : Fin 3) => by match a with | ⟨0, _⟩ => rfl | ⟨1, _⟩ => rfl | ⟨2, _⟩ => rfl)

theorem fmax_f32 : Ideal.ofBits .f32 0x43E00000#32 = 448 := by
  rw [show (448 : EReal) = ((448 : ℝ) : EReal) by norm_cast]
  simp [Ideal.ofBits, Ideal.ieee, -EReal.coe_mul]; norm_num

/-- The running product after a block, at an index. -/
theorem accStep_apply (vt : Vec Ideal S1x1x128x512 .fp8e4m3) (e : FVec Ideal S64x8x256 .f32) (old : Vec Ideal S128x256 .f32)
    (d : Fin 128) (c : Fin 256) (g : ℕ → EReal)
    (h : ∀ (q : Fin 64) (s : Fin 8), e (ix3 q s c) = g (8 * q.val + s.val)) :
    accStep vt e old (ix2 d c)
      = old (ix2 d c) + ∑ r : Fin 512, (vt (ix4 (0 : Fin 1) (0 : Fin 1) d r) : EReal) * min (g r.val) 448 := by
  unfold accStep
  rw [shapeCast_self, addf_apply]
  congr 1
  refine (Ideal.matmul_plain_apply (M := 128) (K := 512) (N := 256) none _ _ _ d c).trans ?_
  rw [constant_apply, zero_f32, zero_add]
  refine Finset.sum_congr rfl fun r _ => ?_
  rw [cast_11ab_ab, truncf_apply]
  have hr := r.isLt
  rw [cast_64x8x256_512x256 _ _ (⟨r.val / 8, by omega⟩ : Fin 64) (⟨r.val % 8, by omega⟩ : Fin 8) c r
    (by show r.val = 8 * (r.val / 8) + r.val % 8; omega), minimumf_apply, h]
  rw [broadcast_apply, show (8 * (r.val / 8) + r.val % 8) = r.val by omega]
  rw [show (Scalar.ofBits (F := Ideal) .f32 0x43E00000#32 : EReal) = 448 from fmax_f32]

end Cert.KernelIdeal.Hand
-- ==== Proof.KI.Spec.lean ====
module

public import proofs.«01_k».proof.Proof.KI.Ops
public import proofs.«01_k».proof.Proof.Words
public import Idealize.ShloMosaic.Lib.WordCmp
public import Idealize.ShloMosaic.Lib.WritesUnit
public import Idealize.ShloMosaic.Lib.Writes

/-! What the scratch arrays hold after the first blocks of keys, and how one more block carries it on. -/

@[expose] public section

noncomputable section

namespace Cert.KernelIdeal.Hand

open Cert.KernelIdeal.Gen Cert.Words Idealize.ShloMosaic.WordCmp
open Idealize.ShloMosaic Idealize.ShloMosaic.ValueIdx Idealize.ShloMosaic.View Idealize.ShloMosaic.Pipeline

/-- Row `j` of the 8192. -/
def row (j : ℕ) : Fin 8192 := ⟨j % 8192, Nat.mod_lt _ (by norm_num)⟩

/-- The lane of a column: the query within its tile. -/
def lane (c : Fin 512) : Fin 128 := ⟨c.val % 128, Nat.mod_lt _ (by norm_num)⟩

/-- Sublane of a row. -/
def subl (j : ℕ) : Fin 8 := ⟨j % 8, Nat.mod_lt _ (by norm_num)⟩

/-- Column `k` of half `h`. -/
def col (h : Fin 2) (k : Fin 256) : Fin 512 := ⟨256 * h.val + k.val, by omega⟩

theorem col_cases (c : Fin 512) : (∃ k, c = col 0 k) ∨ (∃ k, c = col 1 k) := by
  rcases Nat.lt_or_ge c.val 256 with h | h
  · exact .inl ⟨⟨c.val, h⟩, Fin.ext (by show c.val = 256 * 0 + c.val; omega)⟩
  · exact .inr ⟨⟨c.val - 256, by omega⟩, Fin.ext (by show c.val = 256 * 1 + (c.val - 256); omega)⟩

/-- The score of key `j` against column `c`, before the mask. -/
def rawS (x6 : Vec Ideal S1x8192x128 .fp8e4m3) (x12 : Vec Ideal S8192x128 .f32) (x13 : Vec Ideal S512x128 .fp8e4m3)
    (j : ℕ) (c : Fin 512) : EReal :=
  (∑ k : Fin 128, (x6 (ix3 (0 : Fin 1) (row j) k) : EReal) * x13 (ix2 c k)) * x12 (ix2 (row j) (lane c))

/-- The number of keys the query of column `c` sees. -/
def lim (plen t : ℕ) (c : Fin 512) : ℕ := max plen (t * 128 + c.val % 128 + 1)

/-- The score of key `j` against column `c`, `-∞` where the query does not see the key. -/
def mskS (plen t : ℕ) (x6 : Vec Ideal S1x8192x128 .fp8e4m3) (x12 : Vec Ideal S8192x128 .f32)
    (x13 : Vec Ideal S512x128 .fp8e4m3) (j : ℕ) (c : Fin 512) : EReal :=
  if j < lim plen t c then rawS x6 x12 x13 j c else ⊥

/-- The exponential of key `j` and column `c`, from the scores, the scales and the shifts of slot `p`. -/
def eOf (y : Vec Ideal S2x8192x512 .f32) (cc mm : Vec Ideal S2x8x512 .f32) (p : Fin 2) (j : ℕ) (c : Fin 512) : EReal :=
  Ideal.exp2 (y (ix3 p (row j) c) * cc (ix3 p (subl j) c) - mm (ix3 p (subl j) c))

/-- The running maximum after `B` blocks. -/
def MxAt (S : ℕ → Fin 512 → EReal) (B : ℕ) (mx : FVec Ideal S8x512 .f32) : Prop :=
  ∀ (s : Fin 8) (c : Fin 512), mx (ix2 s c) = (Finset.range (64 * B)).sup fun q => S (8 * q + s.val) c

/-- The scores held in slot `p` after `B` blocks. -/
def RowsAt (S : ℕ → Fin 512 → EReal) (B : ℕ) (p : Fin 2) (y : Vec Ideal S2x8192x512 .f32) : Prop :=
  ∀ j, j < 8192 → j < 512 * B → ∀ c : Fin 512, y (ix3 p (row j) c) = S j c

/-- Slot `p` is as in `y`. -/
def SameAt (p : Fin 2) (y y' : Vec Ideal S2x8192x512 .f32) : Prop :=
  ∀ (j : Fin 8192) (c : Fin 512), y' (ix3 p j c) = y (ix3 p j c)

/-- The running sum after `B` blocks. -/
def LAt (E : ℕ → Fin 512 → EReal) (B : ℕ) (l : FVec Ideal S8x512 .f32) : Prop :=
  ∀ (s : Fin 8) (c : Fin 512), l (ix2 s c) = ∑ q ∈ Finset.range (64 * B), E (8 * q + s.val) c

/-- The running product of values and probabilities after `B` blocks. -/
def AccAt (W : ℕ → Fin 128 → EReal) (E : ℕ → Fin 512 → EReal) (B : ℕ) (a : Vec Ideal S128x512 .f32) : Prop :=
  ∀ (d : Fin 128) (c : Fin 512), a (ix2 d c) = ∑ j ∈ Finset.range (512 * B), W j d * min (E j c) 448

/-- The value codes. -/
def vOf (x8 : Vec Ideal S1x1x128x8192 .fp8e4m3) (j : ℕ) (d : Fin 128) : EReal :=
  x8 (ix4 (0 : Fin 1) (0 : Fin 1) d (row j))

theorem sup_range_add (f : ℕ → EReal) (a b : ℕ) :
    (Finset.range (a + b)).sup f = max ((Finset.range a).sup f) ((Finset.range b).sup fun q => f (a + q)) := by
  induction b with
  | zero => simp
  | succ b ih =>
    rw [← Nat.add_assoc, Finset.range_add_one, Finset.sup_insert, ih, Finset.range_add_one, Finset.sup_insert]
    show max _ (max _ _) = max _ (max _ _)
    rw [max_left_comm]

/-- One more block, the maximum. -/
theorem mx_step (S : ℕ → Fin 512 → EReal) (b : ℕ) (mx : FVec Ideal S8x512 .f32) (y0 y1 : FVec Ideal S512x256 .f32)
    (h : MxAt S b mx) (h0 : ∀ r k, y0 (ix2 r k) = S (512 * b + r.val) (col 0 k))
    (h1 : ∀ r k, y1 (ix2 r k) = S (512 * b + r.val) (col 1 k)) : MxAt S (b + 1) (mxStep mx y0 y1) := by
  intro s c
  unfold mxStep
  rw [maximumf_apply, h s c, Nat.mul_add, sup_range_add]
  show max _ _ = max _ _
  congr 1
  rcases col_cases c with ⟨k, rfl⟩ | ⟨k, rfl⟩
  · rw [halves_left _ _ s _ k (by show 256 * 0 + k.val = _; omega)]
    exact colMax_apply y0 (fun q => S (8 * (64 * b + q) + s.val) (col 0 k)) s k fun q r hr => by
      rw [h0, hr]; congr 1; ring
  · rw [halves_right _ _ s _ k (by show 256 * 1 + k.val = _; omega)]
    exact colMax_apply y1 (fun q => S (8 * (64 * b + q) + s.val) (col 1 k)) s k fun q r hr => by
      rw [h1, hr]; congr 1; ring

/-- One more block, the sum. -/
theorem l_step (E : ℕ → Fin 512 → EReal) (b : ℕ) (l : FVec Ideal S8x512 .f32) (e0 e1 : FVec Ideal S64x8x256 .f32)
    (h : LAt E b l) (h0 : ∀ q s k, e0 (ix3 q s k) = E (512 * b + (8 * q.val + s.val)) (col 0 k))
    (h1 : ∀ q s k, e1 (ix3 q s k) = E (512 * b + (8 * q.val + s.val)) (col 1 k)) : LAt E (b + 1) (lStep l e0 e1) := by
  intro s c
  unfold lStep
  rw [addf_apply, h s c, Nat.mul_add, Finset.sum_range_add]
  congr 1
  rcases col_cases c with ⟨k, rfl⟩ | ⟨k, rfl⟩
  · rw [halves_left _ _ s _ k (by show 256 * 0 + k.val = _; omega)]
    exact colSum_apply e0 (fun q => E (8 * (64 * b + q) + s.val) (col 0 k)) s k fun q => by
      rw [h0]; congr 1; ring
  · rw [halves_right _ _ s _ k (by show 256 * 1 + k.val = _; omega)]
    exact colSum_apply e1 (fun q => E (8 * (64 * b + q) + s.val) (col 1 k)) s k fun q => by
      rw [h1]; congr 1; ring

variable (v11 : Memref sig .tc .vmem S2x8192x512 .f32) (v16 : Memref sig .tc .vmem S128x512 .f32)

/-- The two halves of a block's scores written to slot `p` from row `n * 512`. -/
abbrev rowPieces {o0 o1 : Fin 3 → ℕ} (i0 : ∀ a, o0 a + S1x512x256.size a ≤ S2x8192x512.size a)
    (i1 : ∀ a, o1 a + S1x512x256.size a ≤ S2x8192x512.size a) (y0 y1 : FVec Ideal S512x256 .f32) :
    List (View.Piece (Elt Ideal) S2x8192x512 .f32) :=
  [⟨Rect.unit (s := S2x8192x512) o1 S1x512x256.size i1, shapeCast S1x512x256 y1 shapeCasts_S512x256_S1x512x256⟩,
    ⟨Rect.unit (s := S2x8192x512) o0 S1x512x256.size i0, shapeCast S1x512x256 y0 shapeCasts_S512x256_S1x512x256⟩]

section

variable {o0 o1 : Fin 3 → ℕ} (i0 : ∀ a, o0 a + S1x512x256.size a ≤ S2x8192x512.size a)
    (i1 : ∀ a, o1 a + S1x512x256.size a ≤ S2x8192x512.size a) (y0 y1 : FVec Ideal S512x256 .f32)
    (f : BufTy.Contents (Elt Ideal) v11.view.ty) (p b : ℕ) (e0 : o0 = ![p, b * 512, 0]) (e1 : o1 = ![p, b * 512, 256])

include e0 e1

/-- What is written. -/
theorem rows_new (hp : p < 2) (r : Fin 512) (h : Fin 2) (k : Fin 256) (j : Fin 8192) (hj : j.val = b * 512 + r.val) :
    v11.view.read (Elt Ideal) (v11.view.writes (Elt Ideal) f (rowPieces i0 i1 y0 y1)) (ix3 (⟨p, hp⟩ : Fin 2) j (col h k))
      = (if h = 0 then y0 else y1) (ix2 r k) := by
  fin_cases h
  · rw [read_writes_cons_unit_of_not_mem _ _ _ _ _ _ e1 (2 : Fin 3) (.inl (by show 256 * 0 + k.val < 256; omega))]
    refine (read_writes_cons_unit_of_mem v11.view f i0 _ [] _ (ix3 (0 : Fin 1) r k) e0 fun a => ?_).trans ?_
    · match a with
      | ⟨0, _⟩ => rfl
      | ⟨1, _⟩ => exact hj
      | ⟨2, _⟩ => show 256 * 0 + k.val = 0 + k.val; omega
    · exact shapeCast_ab_1ab_apply _ _ _ _ _
  · refine (read_writes_cons_unit_of_mem v11.view f i1 _ _ _ (ix3 (0 : Fin 1) r k) e1 fun a => ?_).trans ?_
    · match a with
      | ⟨0, _⟩ => rfl
      | ⟨1, _⟩ => exact hj
      | ⟨2, _⟩ => show 256 * 1 + k.val = 256 + k.val; omega
    · exact shapeCast_ab_1ab_apply _ _ _ _ _

/-- What is not written: other rows and the other slot. -/
theorem rows_old (q : Fin 2) (j : Fin 8192) (c : Fin 512) (hq : q.val ≠ p ∨ j.val < b * 512) :
    v11.view.read (Elt Ideal) (v11.view.writes (Elt Ideal) f (rowPieces i0 i1 y0 y1)) (ix3 q j c)
      = v11.view.read (Elt Ideal) f (ix3 q j c) := by
  rcases hq with hq | hq
  · have : q.val < p ∨ p + 1 ≤ q.val := by omega
    rw [read_writes_cons_unit_of_not_mem _ _ _ _ _ _ e1 (0 : Fin 3) this,
      read_writes_cons_unit_of_not_mem _ _ _ _ _ _ e0 (0 : Fin 3) this]
    rfl
  · rw [read_writes_cons_unit_of_not_mem _ _ _ _ _ _ e1 (1 : Fin 3) (.inl hq),
      read_writes_cons_unit_of_not_mem _ _ _ _ _ _ e0 (1 : Fin 3) (.inl hq)]
    rfl

/-- One more block, the scores. -/
theorem rows_step (S : ℕ → Fin 512 → EReal) (hp : p < 2) (hb : b < 16)
    (h : RowsAt S b ⟨p, hp⟩ (v11.view.read (Elt Ideal) f))
    (h0 : ∀ r k, y0 (ix2 r k) = S (512 * b + r.val) (col 0 k)) (h1 : ∀ r k, y1 (ix2 r k) = S (512 * b + r.val) (col 1 k)) :
    RowsAt S (b + 1) ⟨p, hp⟩ (v11.view.read (Elt Ideal) (v11.view.writes (Elt Ideal) f (rowPieces i0 i1 y0 y1))) := by
  intro j hj hjb c
  have hr : (row j).val = j := Nat.mod_eq_of_lt hj
  rcases Nat.lt_or_ge j (b * 512) with h' | h'
  · rw [rows_old v11 i0 i1 y0 y1 f p b e0 e1 _ _ _ (.inr (hr.trans_lt h'))]
    exact h j hj (by omega) c
  · have hjj : j = 512 * b + (j - b * 512) := by omega
    rcases col_cases c with ⟨k, rfl⟩ | ⟨k, rfl⟩
    · rw [rows_new v11 i0 i1 y0 y1 f p b e0 e1 hp (⟨j - b * 512, by omega⟩ : Fin 512) 0 k _ (by rw [hr]; show j = b * 512 + (j - b * 512); omega)]
      refine (h0 _ _).trans ?_
      show S (512 * b + (j - b * 512)) _ = _
      rw [← hjj]
    · rw [rows_new v11 i0 i1 y0 y1 f p b e0 e1 hp (⟨j - b * 512, by omega⟩ : Fin 512) 1 k _ (by rw [hr]; show j = b * 512 + (j - b * 512); omega)]
      refine (h1 _ _).trans ?_
      show S (512 * b + (j - b * 512)) _ = _
      rw [← hjj]

/-- One more block leaves the other slot. -/
theorem same_step (y : Vec Ideal S2x8192x512 .f32) (q : Fin 2) (hq : q.val ≠ p)
    (h : SameAt q y (v11.view.read (Elt Ideal) f)) :
    SameAt q y (v11.view.read (Elt Ideal) (v11.view.writes (Elt Ideal) f (rowPieces i0 i1 y0 y1))) := fun j c => by
  rw [rows_old v11 i0 i1 y0 y1 f p b e0 e1 _ _ _ (.inl hq)]; exact h j c

end

/-- A read of a rectangle, at an index. -/
theorem readAt_at {s : Shape} {e : EltTy} (v : Memref sig .tc .vmem s e) {off size : Fin s.rank → ℕ}
    (inb : ∀ a, off a + size a ≤ s.size a) (f : BufTy.Contents (Elt Ideal) v.view.ty)
    (x : (Rect.unit off size inb).shape.Idx) (y : s.Idx) {off' : Fin s.rank → ℕ} (heq : off = off')
    (hy : ∀ a, (y a).val = off' a + (x a).val) :
    View.readAt (Elt Ideal) v.view (Rect.unit off size inb).toLoadRect f x = v.view.read (Elt Ideal) f y := by
  subst heq
  rw [View.readAt_apply]
  exact congrArg (v.view.read (Elt Ideal) f) (funext fun a => Fin.ext (by
    show off a + 1 * (x a).val = (y a).val
    rw [hy a, Nat.one_mul]))

/-- One more block, the product of values and probabilities. -/
theorem acc_step (W : ℕ → Fin 128 → EReal) (E : ℕ → Fin 512 → EReal) (b : ℕ) (f : BufTy.Contents (Elt Ideal) v16.view.ty)
    (vt : Vec Ideal S1x1x128x512 .fp8e4m3) (e0 e1 : FVec Ideal S64x8x256 .f32)
    (i0 : ∀ a, (![0, 0] : Fin 2 → ℕ) a + S128x256.size a ≤ S128x512.size a)
    (i1 : ∀ a, (![0, 256] : Fin 2 → ℕ) a + S128x256.size a ≤ S128x512.size a)
    (h : AccAt W E b (v16.view.read (Elt Ideal) f))
    (h0 : ∀ q s k, e0 (ix3 q s k) = E (512 * b + (8 * q.val + s.val)) (col 0 k))
    (h1 : ∀ q s k, e1 (ix3 q s k) = E (512 * b + (8 * q.val + s.val)) (col 1 k))
    (hv : ∀ d (r : Fin 512), vt (ix4 (0 : Fin 1) (0 : Fin 1) d r) = W (512 * b + r.val) d) :
    AccAt W E (b + 1) (v16.view.read (Elt Ideal) (v16.view.writes (Elt Ideal) f
      [⟨Rect.unit (s := S128x512) ![0, 256] S128x256.size i1,
          accStep vt e1 (View.readAt (Elt Ideal) v16.view (Rect.unit (s := S128x512) ![0, 256] S128x256.size i1).toLoadRect f)⟩,
        ⟨Rect.unit (s := S128x512) ![0, 0] S128x256.size i0,
          accStep vt e0 (View.readAt (Elt Ideal) v16.view (Rect.unit (s := S128x512) ![0, 0] S128x256.size i0).toLoadRect f)⟩])) := by
  intro d c
  rw [Nat.mul_add, Finset.sum_range_add, ← h d c]
  rcases col_cases c with ⟨k, rfl⟩ | ⟨k, rfl⟩
  · rw [read_writes_cons_unit_of_not_mem _ _ _ _ _ _ rfl (1 : Fin 2) (.inl (by show 256 * 0 + k.val < 256; omega))]
    refine (read_writes_cons_unit_of_mem v16.view f i0 _ [] _ (ix2 d k) rfl fun a => ?_).trans ?_
    · match a with
      | ⟨0, _⟩ => show d.val = 0 + d.val; omega
      | ⟨1, _⟩ => show 256 * 0 + k.val = 0 + k.val; omega
    · rw [accStep_apply vt e0 _ d k (fun r => E (512 * b + r) (col 0 k)) (fun q s => h0 q s k)]
      rw [readAt_at v16 i0 f (ix2 d k) (ix2 d (col 0 k)) rfl (fun a => by
        match a with
        | ⟨0, _⟩ => show d.val = 0 + d.val; omega
        | ⟨1, _⟩ => show 256 * 0 + k.val = 0 + k.val; omega)]
      rw [Finset.sum_range]
      congr 1
      exact Finset.sum_congr rfl fun r _ => by rw [hv]
  · refine (read_writes_cons_unit_of_mem v16.view f i1 _ _ _ (ix2 d k) rfl fun a => ?_).trans ?_
    · match a with
      | ⟨0, _⟩ => show d.val = 0 + d.val; omega
      | ⟨1, _⟩ => show 256 * 1 + k.val = 256 + k.val; omega
    · rw [accStep_apply vt e1 _ d k (fun r => E (512 * b + r) (col 1 k)) (fun q s => h1 q s k)]
      rw [readAt_at v16 i1 f (ix2 d k) (ix2 d (col 1 k)) rfl (fun a => by
        match a with
        | ⟨0, _⟩ => show d.val = 0 + d.val; omega
        | ⟨1, _⟩ => show 256 * 1 + k.val = 256 + k.val; omega)]
      rw [Finset.sum_range]
      congr 1
      exact Finset.sum_congr rfl fun r _ => by rw [hv]

/-- A block of scores before the mask, read from the arrays. -/
theorem sBlk_read (v6 : Memref sig .tc .vmem S1x8192x128 .fp8e4m3) (v12 : Memref sig .tc .vmem S8192x128 .f32)
    (v13 : Memref sig .tc .vmem S512x128 .fp8e4m3) (X6 : BufTy.Contents (Elt Ideal) v6.view.ty)
    (X12 : BufTy.Contents (Elt Ideal) v12.view.ty) (X13 : BufTy.Contents (Elt Ideal) v13.view.ty)
    {o2 : Fin 3 → ℕ} {o3 o13 : Fin 2 → ℕ} (i2 : ∀ a, o2 a + S1x512x128.size a ≤ S1x8192x128.size a)
    (i3 : ∀ a, o3 a + S512x128.size a ≤ S8192x128.size a) (i13 : ∀ a, o13 a + S256x128.size a ≤ S512x128.size a)
    (b : ℕ) (h : Fin 2) (hb : b < 16) (e2 : o2 = ![0, b * 512, 0]) (e3 : o3 = ![b * 512, 0]) (e13 : o13 = ![256 * h.val, 0])
    (r : Fin 512) (k : Fin 256) :
    sBlk (View.readAt (Elt Ideal) v6.view (Rect.unit (s := S1x8192x128) o2 S1x512x128.size i2).toLoadRect X6)
        (View.readAt (Elt Ideal) v12.view (Rect.unit (s := S8192x128) o3 S512x128.size i3).toLoadRect X12)
        (View.readAt (Elt Ideal) v13.view (Rect.unit (s := S512x128) o13 S256x128.size i13).toLoadRect X13) (ix2 r k)
      = rawS (v6.view.read (Elt Ideal) X6) (v12.view.read (Elt Ideal) X12) (v13.view.read (Elt Ideal) X13)
          (512 * b + r.val) (col h k) := by
  have hrow : (row (512 * b + r.val)).val = b * 512 + r.val := by
    show (512 * b + r.val) % 8192 = _
    rw [Nat.mod_eq_of_lt (by omega)]; omega
  rw [sBlk_apply]
  unfold rawS
  congr 1
  · refine Finset.sum_congr rfl fun d _ => ?_
    congr 1
    · exact readAt_at v6 i2 X6 (ix3 (0 : Fin 1) r d) _ e2 fun a => by
        match a with
        | ⟨0, _⟩ => rfl
        | ⟨1, _⟩ => exact hrow
        | ⟨2, _⟩ => show d.val = 0 + d.val; omega
    · exact readAt_at v13 i13 X13 (ix2 k d) _ e13 fun a => by
        match a with
        | ⟨0, _⟩ => rfl
        | ⟨1, _⟩ => show d.val = 0 + d.val; omega
  · exact readAt_at v12 i3 X12 (ix2 r (⟨k.val % 128, Nat.mod_lt _ (by decide)⟩ : Fin 128)) _ e3 fun a => by
        match a with
        | ⟨0, _⟩ => exact hrow
        | ⟨1, _⟩ => show (256 * h.val + k.val) % 128 = 0 + k.val % 128; omega

/-- A block of exponentials, read from the arrays. -/
theorem eBlk_read (v14 v15 : Memref sig .tc .vmem S2x8x512 .f32)
    (X11 : BufTy.Contents (Elt Ideal) v11.view.ty) (y : Vec Ideal S2x8192x512 .f32)
    (X14 : BufTy.Contents (Elt Ideal) v14.view.ty) (X15 : BufTy.Contents (Elt Ideal) v15.view.ty)
    {oc os : Fin 3 → ℕ} (ic : ∀ a, oc a + S1x8x256.size a ≤ S2x8x512.size a)
    (is : ∀ a, os a + S1x512x256.size a ≤ S2x8192x512.size a)
    (b : ℕ) (h p : Fin 2) (hb : b < 16) (ec : oc = ![p.val, 0, 256 * h.val]) (es : os = ![p.val, b * 512, 256 * h.val])
    (hy : SameAt p y (v11.view.read (Elt Ideal) X11))
    (q : Fin 64) (s : Fin 8) (k : Fin 256) :
    eBlk (View.readAt (Elt Ideal) v14.view (Rect.unit (s := S2x8x512) oc S1x8x256.size ic).toLoadRect X14)
        (View.readAt (Elt Ideal) v15.view (Rect.unit (s := S2x8x512) oc S1x8x256.size ic).toLoadRect X15)
        (View.readAt (Elt Ideal) v11.view (Rect.unit (s := S2x8192x512) os S1x512x256.size is).toLoadRect X11) (ix3 q s k)
      = eOf y (v14.view.read (Elt Ideal) X14) (v15.view.read (Elt Ideal) X15) p
          (512 * b + (8 * q.val + s.val)) (col h k) := by
  have hrow : (row (512 * b + (8 * q.val + s.val))).val = b * 512 + (8 * q.val + s.val) := by
    show (512 * b + (8 * q.val + s.val)) % 8192 = _
    rw [Nat.mod_eq_of_lt (by omega)]; omega
  have hs : subl (512 * b + (8 * q.val + s.val)) = s := Fin.ext (by
    show (512 * b + (8 * q.val + s.val)) % 8 = s.val
    omega)
  rw [eBlk_apply _ _ _ q s k (⟨8 * q.val + s.val, by omega⟩ : Fin 512) rfl]
  unfold eOf
  rw [hs, ← hy]
  have ha : ∀ (v : Memref sig .tc .vmem S2x8x512 .f32) (X : BufTy.Contents (Elt Ideal) v.view.ty),
      View.readAt (Elt Ideal) v.view (Rect.unit (s := S2x8x512) oc S1x8x256.size ic).toLoadRect X (ix3 (0 : Fin 1) s k)
        = v.view.read (Elt Ideal) X (ix3 p s (col h k)) := fun v X =>
    readAt_at v ic X (ix3 (0 : Fin 1) s k) _ ec fun a => by
      match a with
      | ⟨0, _⟩ => rfl
      | ⟨1, _⟩ => show s.val = 0 + s.val; omega
      | ⟨2, _⟩ => rfl
  have hb : View.readAt (Elt Ideal) v11.view (Rect.unit (s := S2x8192x512) os S1x512x256.size is).toLoadRect X11
      (ix3 (0 : Fin 1) (⟨8 * q.val + s.val, by omega⟩ : Fin 512) k)
      = v11.view.read (Elt Ideal) X11 (ix3 p (row (512 * b + (8 * q.val + s.val))) (col h k)) :=
    readAt_at v11 is X11 (ix3 (0 : Fin 1) (⟨8 * q.val + s.val, by omega⟩ : Fin 512) k) _ es fun a => by
      match a with
      | ⟨0, _⟩ => rfl
      | ⟨1, _⟩ => exact hrow
      | ⟨2, _⟩ => rfl
  rw [ha v14 X14, ha v15 X15, hb]

/-- A block of value codes, read from the array. -/
theorem vt_read (v8 : Memref sig .tc .vmem S1x1x128x8192 .fp8e4m3) (X8 : BufTy.Contents (Elt Ideal) v8.view.ty)
    {o : Fin 4 → ℕ} (i : ∀ a, o a + S1x1x128x512.size a ≤ S1x1x128x8192.size a) (b : ℕ) (hb : b < 16)
    (e : o = ![0, 0, 0, b * 512]) (d : Fin 128) (r : Fin 512) :
    View.readAt (Elt Ideal) v8.view (Rect.unit (s := S1x1x128x8192) o S1x1x128x512.size i).toLoadRect X8
        (ix4 (0 : Fin 1) (0 : Fin 1) d r)
      = vOf (v8.view.read (Elt Ideal) X8) (512 * b + r.val) d := by
  unfold vOf
  exact readAt_at v8 i X8 (ix4 (0 : Fin 1) (0 : Fin 1) d r) _ e fun a => by
    match a with
    | ⟨0, _⟩ => rfl
    | ⟨1, _⟩ => rfl
    | ⟨2, _⟩ => show d.val = 0 + d.val; omega
    | ⟨3, _⟩ =>
      show (512 * b + r.val) % 8192 = b * 512 + r.val
      rw [Nat.mod_eq_of_lt (by omega)]; omega

/-- The low seven bits. -/
theorem mask127 {n : ℕ} (hn : n < 512) : BitVec.ofNat 32 n &&& 127#32 = BitVec.ofNat 32 (n % 128) := by
  apply BitVec.eq_of_toNat_eq
  rw [BitVec.toNat_and, BitVec.toNat_ofNat, BitVec.toNat_ofNat, BitVec.toNat_ofNat]
  show (n % 2 ^ 32) &&& 127 = _
  rw [show (127 : ℕ) = 2 ^ 7 - 1 by norm_num, Nat.and_two_pow_sub_one_eq_mod]
  simp only [Nat.reducePow]
  omega

/-- Signed comparison of two natural numbers. -/
theorem slt_ofNat {x y : ℕ} (hx : x < 2 ^ 31) (hy : y < 2 ^ 31) :
    IntOp.cmpi .slt (BitVec.ofNat 32 x) (BitVec.ofNat 32 y) = BitVec.ofBool (decide (x < y)) := by
  show BitVec.ofBool ((BitVec.ofNat 32 x).slt (BitVec.ofNat 32 y)) = _
  rw [BitVec.slt_eq_decide, toInt_ofNat_of_lt hx, toInt_ofNat_of_lt hy]
  simp

/-- The mask, at an index. -/
theorem sMask_apply (k0 arg2 v1 : BitVec 32) (y : FVec Ideal S512x256 .f32) (b t : ℕ) (hb : b < 16) (ht : t < 65)
    (hk : k0 = BitVec.ofNat 32 (b * 512)) (ha : arg2 = BitVec.ofNat 32 t) (hv : v1.toInt ≤ 8192) (h : Fin 2)
    (r : Fin 512) (k : Fin 256) :
    sMask k0 arg2 v1 y (ix2 r k) = if 512 * b + r.val < lim (len v1) t (col h k) then y (ix2 r k) else ⊥ := by
  subst hk ha
  unfold sMask
  rw [select_apply]
  show Scalar.select (IntOp.cmpi .slt (BitVec.ofNat 32 (b * 512) + BitVec.ofNat 32 (0 + r.val))
    (Scalar.maxsi v1 (BitVec.ofNat 32 t * 128#32 + (BitVec.ofNat 32 (0 + k.val) &&& 127#32) + 1#32))) (y (ix2 r k)) (Ideal.ofBits .f32 0xFF800000#32) = _
  have hlen : len v1 ≤ 8192 := by unfold len; omega
  have hc : (col h k).val % 128 = k.val % 128 := by show (256 * h.val + k.val) % 128 = _; omega
  rw [ninf_f32, Nat.zero_add, Nat.zero_add, mask127 (by omega), show BitVec.ofNat 32 t * 128#32 = BitVec.ofNat 32 (t * 128) from muli_ofNat t 128,
    show BitVec.ofNat 32 (t * 128) + BitVec.ofNat 32 (k.val % 128) = BitVec.ofNat 32 (t * 128 + k.val % 128) from addi_ofNat _ _,
    show BitVec.ofNat 32 (t * 128 + k.val % 128) + 1#32 = BitVec.ofNat 32 (t * 128 + k.val % 128 + 1) from addi_ofNat _ _,
    show BitVec.ofNat 32 (b * 512) + BitVec.ofNat 32 r.val = BitVec.ofNat 32 (b * 512 + r.val) from addi_ofNat _ _,
    maxsi_ofNat v1 (by omega)]
  rw [slt_ofNat (by omega) (by omega), ← hc]
  unfold Scalar.select
  by_cases hlt : 512 * b + r.val < lim (len v1) t (col h k)
  · have : b * 512 + r.val < max (len v1) (t * 128 + (col h k).val % 128 + 1) := by unfold lim at hlt; omega
    rw [if_pos hlt, decide_eq_true this]; rfl
  · have : ¬ b * 512 + r.val < max (len v1) (t * 128 + (col h k).val % 128 + 1) := by unfold lim at hlt; omega
    rw [if_neg hlt, decide_eq_false this]; rfl

end Cert.KernelIdeal.Hand
-- ==== Proof.KI.Trips.lean ====
module

public import proofs.«01_k».proof.Proof.KI.Ops

/-! What one trip of each loop carries on and writes, in terms of the operations of one block. -/

@[expose] public section

set_option maxRecDepth 16384

noncomputable section

namespace Cert.KernelIdeal.Hand

open Cert.KernelIdeal.Gen
open Idealize.ShloMosaic Idealize.ShloMosaic.Pipeline

theorem inb_0_0 : ∀ a, (![0, 0] : Fin 2 → ℕ) a + S256x128.size a ≤ S512x128.size a := by decide
theorem inb_256_0 : ∀ a, (![256, 0] : Fin 2 → ℕ) a + S256x128.size a ≤ S512x128.size a := by decide
theorem inb_0_0' : ∀ a, (![0, 0] : Fin 2 → ℕ) a + S128x256.size a ≤ S128x512.size a := by decide
theorem inb_0_256 : ∀ a, (![0, 256] : Fin 2 → ℕ) a + S128x256.size a ≤ S128x512.size a := by decide

/-- Loop 1 (scores of this tile and probabilities of the one before): the state after a trip from the state before it. -/
theorem trip1_eq (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (X_arg6 : BufTy.Contents (Elt Ideal) arg6.view.ty) (X_arg8 : BufTy.Contents (Elt Ideal) arg8.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg11 : BufTy.Contents (Elt Ideal) arg11.view.ty) (G_arg16 : BufTy.Contents (Elt Ideal) arg16.view.ty) (init : FVec Ideal S8x512 .f32 × FVec Ideal S8x512 .f32) (k : Fin (k0_t1_loop i v1).trips) :
    (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init (k.val + 1)) =
      ((mxStep (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).1.1 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![0, 0] S256x128.size inb_0_0).toLoadRect X_arg13)) (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![256, 0] S256x128.size inb_256_0).toLoadRect X_arg13)), lStep (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).1.2 (eBlk (View.readAt (Elt Ideal) arg14.view (Rect.unit (s := S2x8x512) (k0_off7 i) S1x8x256.size (k0_off7_inb i)).toLoadRect X_arg14) (View.readAt (Elt Ideal) arg15.view (Rect.unit (s := S2x8x512) (k0_off7 i) S1x8x256.size (k0_off7_inb i)).toLoadRect X_arg15) (View.readAt (Elt Ideal) arg11.view (Rect.unit (s := S2x8192x512) (k0_off8 i v1 k) S1x512x256.size (k0_off8_inb i v1 k0_hw1 k)).toLoadRect (arg11.view.writes (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.1) [⟨Rect.unit (s := S2x8192x512) (k0_off5 i v1 k) S1x512x256.size (k0_off5_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![256, 0] S256x128.size inb_256_0).toLoadRect X_arg13)) shapeCasts_S512x256_S1x512x256⟩,
        ⟨Rect.unit (s := S2x8192x512) (k0_off4 i v1 k) S1x512x256.size (k0_off4_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![0, 0] S256x128.size inb_0_0).toLoadRect X_arg13)) shapeCasts_S512x256_S1x512x256⟩]))) (eBlk (View.readAt (Elt Ideal) arg14.view (Rect.unit (s := S2x8x512) (k0_off9 i) S1x8x256.size (k0_off9_inb i)).toLoadRect X_arg14) (View.readAt (Elt Ideal) arg15.view (Rect.unit (s := S2x8x512) (k0_off9 i) S1x8x256.size (k0_off9_inb i)).toLoadRect X_arg15) (View.readAt (Elt Ideal) arg11.view (Rect.unit (s := S2x8192x512) (k0_off10 i v1 k) S1x512x256.size (k0_off10_inb i v1 k0_hw1 k)).toLoadRect (arg11.view.writes (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.1) [⟨Rect.unit (s := S2x8192x512) (k0_off5 i v1 k) S1x512x256.size (k0_off5_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![256, 0] S256x128.size inb_256_0).toLoadRect X_arg13)) shapeCasts_S512x256_S1x512x256⟩,
        ⟨Rect.unit (s := S2x8192x512) (k0_off4 i v1 k) S1x512x256.size (k0_off4_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![0, 0] S256x128.size inb_0_0).toLoadRect X_arg13)) shapeCasts_S512x256_S1x512x256⟩])))),
        [⟨Rect.unit (s := S2x8192x512) (k0_off5 i v1 k) S1x512x256.size (k0_off5_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![256, 0] S256x128.size inb_256_0).toLoadRect X_arg13)) shapeCasts_S512x256_S1x512x256⟩,
        ⟨Rect.unit (s := S2x8192x512) (k0_off4 i v1 k) S1x512x256.size (k0_off4_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![0, 0] S256x128.size inb_0_0).toLoadRect X_arg13)) shapeCasts_S512x256_S1x512x256⟩] ++ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.1,
        [⟨Rect.unit (s := S128x512) ![0, 256] S128x256.size inb_0_256, accStep (View.readAt (Elt Ideal) arg8.view (Rect.unit (s := S1x1x128x8192) (k0_off6 i v1 k) S1x1x128x512.size (k0_off6_inb i v1 k0_hw1 k)).toLoadRect X_arg8) (eBlk (View.readAt (Elt Ideal) arg14.view (Rect.unit (s := S2x8x512) (k0_off9 i) S1x8x256.size (k0_off9_inb i)).toLoadRect X_arg14) (View.readAt (Elt Ideal) arg15.view (Rect.unit (s := S2x8x512) (k0_off9 i) S1x8x256.size (k0_off9_inb i)).toLoadRect X_arg15) (View.readAt (Elt Ideal) arg11.view (Rect.unit (s := S2x8192x512) (k0_off10 i v1 k) S1x512x256.size (k0_off10_inb i v1 k0_hw1 k)).toLoadRect (arg11.view.writes (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.1) [⟨Rect.unit (s := S2x8192x512) (k0_off5 i v1 k) S1x512x256.size (k0_off5_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![256, 0] S256x128.size inb_256_0).toLoadRect X_arg13)) shapeCasts_S512x256_S1x512x256⟩,
        ⟨Rect.unit (s := S2x8192x512) (k0_off4 i v1 k) S1x512x256.size (k0_off4_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![0, 0] S256x128.size inb_0_0).toLoadRect X_arg13)) shapeCasts_S512x256_S1x512x256⟩]))) (View.readAt (Elt Ideal) arg16.view (Rect.unit (s := S128x512) ![0, 256] S128x256.size inb_0_256).toLoadRect (arg16.view.writes (Elt Ideal) G_arg16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.2))⟩,
        ⟨Rect.unit (s := S128x512) ![0, 0] S128x256.size inb_0_0', accStep (View.readAt (Elt Ideal) arg8.view (Rect.unit (s := S1x1x128x8192) (k0_off6 i v1 k) S1x1x128x512.size (k0_off6_inb i v1 k0_hw1 k)).toLoadRect X_arg8) (eBlk (View.readAt (Elt Ideal) arg14.view (Rect.unit (s := S2x8x512) (k0_off7 i) S1x8x256.size (k0_off7_inb i)).toLoadRect X_arg14) (View.readAt (Elt Ideal) arg15.view (Rect.unit (s := S2x8x512) (k0_off7 i) S1x8x256.size (k0_off7_inb i)).toLoadRect X_arg15) (View.readAt (Elt Ideal) arg11.view (Rect.unit (s := S2x8192x512) (k0_off8 i v1 k) S1x512x256.size (k0_off8_inb i v1 k0_hw1 k)).toLoadRect (arg11.view.writes (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.1) [⟨Rect.unit (s := S2x8192x512) (k0_off5 i v1 k) S1x512x256.size (k0_off5_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![256, 0] S256x128.size inb_256_0).toLoadRect X_arg13)) shapeCasts_S512x256_S1x512x256⟩,
        ⟨Rect.unit (s := S2x8192x512) (k0_off4 i v1 k) S1x512x256.size (k0_off4_inb i v1 k0_hw1 k), shapeCast S1x512x256 (sBlk (View.readAt (Elt Ideal) arg6.view (Rect.unit (s := S1x8192x128) (k0_off2 i v1 k) S1x512x128.size (k0_off2_inb i v1 k0_hw1 k)).toLoadRect X_arg6) (View.readAt (Elt Ideal) arg12.view (Rect.unit (s := S8192x128) (k0_off3 i v1 k) S512x128.size (k0_off3_inb i v1 k0_hw1 k)).toLoadRect X_arg12) (View.readAt (Elt Ideal) arg13.view (Rect.unit (s := S512x128) ![0, 0] S256x128.size inb_0_0).toLoadRect X_arg13)) shapeCasts_S512x256_S1x512x256⟩]))) (View.readAt (Elt Ideal) arg16.view (Rect.unit (s := S128x512) ![0, 0] S128x256.size inb_0_0').toLoadRect (arg16.view.writes (Elt Ideal) G_arg16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.2))⟩] ++ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init k.val).2.2) := by
  rw [st_k0_t1_succ]; unfold tripR_k0_t1 tripL_k0_t1 trip_k0_t1; rfl

/-- Loop 3 (scores no query of the tile masks): the state after a trip from the state before it. -/
theorem trip3_eq (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 : BitVec 32) (v42 : BitVec 32) (v44 : BitVec 32) (v51 : BitVec 32) (v58_0 : FVec Ideal S8x512 .f32) (v58_1 : FVec Ideal S8x512 .f32) (v59 : BitVec 32) (c1_i32_36 : BitVec 32) (X_arg6 : BufTy.Contents (Elt Ideal) arg6.view.ty) (X_arg12 : BufTy.Contents (Elt Ideal) arg12.view.ty) (X_arg13 : BufTy.Contents (Elt Ideal) arg13.view.ty) (init : FVec Ideal S8x512 .f32) (k : Fin (k0_t3_loop i v1).trips) :
    (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init (k.val + 1)) =
      (mxStep (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init k.val).1 (sBlk (View.readAt (Elt Ideal) arg6.view (Rect.unit (s := S1x8192x128) (k0_off20 i v1 k) S1x512x128.size (k0_off20_inb i v1 k0_hw1 k)).toLoadRect X_arg6) (View.readAt (Elt Ideal) arg12.view (Rect.unit (s := S8192x128) (k0_off21 i v1 k) S512x128.size (k0_off21_inb i v1 k0_hw1 k)).toLoadRect X_arg12) (View.readAt (Elt Ideal) arg13.view (Rect.unit (s := S512x128) ![0, 0] S256x128.size inb_0_0).toLoadRect X_arg13)) (sBlk (View.readAt (Elt Ideal) arg6.view (Rect.unit (s := S1x8192x128) (k0_off20 i v1 k) S1x512x128.size (k0_off20_inb i v1 k0_hw1 k)).toLoadRect X_arg6) (View.readAt (Elt Ideal) arg12.view (Rect.unit (s := S8192x128) (k0_off21 i v1 k) S512x128.size (k0_off21_inb i v1 k0_hw1 k)).toLoadRect X_arg12) (View.readAt (Elt Ideal) arg13.view (Rect.unit (s := S512x128) ![256, 0] S256x128.size inb_256_0).toLoadRect X_arg13)), [⟨Rect.unit (s := S2x8192x512) (k0_off23 i v1 k) S1x512x256.size (k0_off23_inb i v1 k0_hw1 k), shapeCast S1x512x256 (sBlk (View.readAt (Elt Ideal) arg6.view (Rect.unit (s := S1x8192x128) (k0_off20 i v1 k) S1x512x128.size (k0_off20_inb i v1 k0_hw1 k)).toLoadRect X_arg6) (View.readAt (Elt Ideal) arg12.view (Rect.unit (s := S8192x128) (k0_off21 i v1 k) S512x128.size (k0_off21_inb i v1 k0_hw1 k)).toLoadRect X_arg12) (View.readAt (Elt Ideal) arg13.view (Rect.unit (s := S512x128) ![256, 0] S256x128.size inb_256_0).toLoadRect X_arg13)) shapeCasts_S512x256_S1x512x256⟩,
        ⟨Rect.unit (s := S2x8192x512) (k0_off22 i v1 k) S1x512x256.size (k0_off22_inb i v1 k0_hw1 k), shapeCast S1x512x256 (sBlk (View.readAt (Elt Ideal) arg6.view (Rect.unit (s := S1x8192x128) (k0_off20 i v1 k) S1x512x128.size (k0_off20_inb i v1 k0_hw1 k)).toLoadRect X_arg6) (View.readAt (Elt Ideal) arg12.view (Rect.unit (s := S8192x128) (k0_off21 i v1 k) S512x128.size (k0_off21_inb i v1 k0_hw1 k)).toLoadRect X_arg12) (View.readAt (Elt Ideal) arg13.view (Rect.unit (s := S512x128) ![0, 0] S256x128.size inb_0_0).toLoadRect X_arg13)) shapeCasts_S512x256_S1x512x256⟩] ++ (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init k.val).2) := by
  rw [st_k0_t3_succ]; unfold tripR_k0_t3 tripL_k0_t3 trip_k0_t3; rfl

/-- Loop 5 (masked scores): the state after a trip from the state before it. -/
theorem trip5_eq (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 : BitVec 32) (v42 : BitVec 32) (v44 : BitVec 32) (v51 : BitVec 32) (v58_0 : FVec Ideal S8x512 .f32) (v58_1 : FVec Ideal S8x512 .f32) (v59 : BitVec 32) (c1_i32_36 : BitVec 32) (X_arg6 : BufTy.Contents (Elt Ideal) arg6.view.ty) (X_arg12 : BufTy.Contents (Elt Ideal) arg12.view.ty) (X_arg13 : BufTy.Contents (Elt Ideal) arg13.view.ty) (init : FVec Ideal S8x512 .f32) (k : Fin (k0_t5_loop i v1).trips) :
    (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init (k.val + 1)) =
      (mxStep (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init k.val).1 (sMask (Scalar.muli (Scf.iv v40 1#32 k) 512#32) arg2 v1 (sBlk (View.readAt (Elt Ideal) arg6.view (Rect.unit (s := S1x8192x128) (k0_off28 i v1 k) S1x512x128.size (k0_off28_inb i v1 k0_hw1 k)).toLoadRect X_arg6) (View.readAt (Elt Ideal) arg12.view (Rect.unit (s := S8192x128) (k0_off29 i v1 k) S512x128.size (k0_off29_inb i v1 k0_hw1 k)).toLoadRect X_arg12) (View.readAt (Elt Ideal) arg13.view (Rect.unit (s := S512x128) ![0, 0] S256x128.size inb_0_0).toLoadRect X_arg13))) (sMask (Scalar.muli (Scf.iv v40 1#32 k) 512#32) arg2 v1 (sBlk (View.readAt (Elt Ideal) arg6.view (Rect.unit (s := S1x8192x128) (k0_off28 i v1 k) S1x512x128.size (k0_off28_inb i v1 k0_hw1 k)).toLoadRect X_arg6) (View.readAt (Elt Ideal) arg12.view (Rect.unit (s := S8192x128) (k0_off29 i v1 k) S512x128.size (k0_off29_inb i v1 k0_hw1 k)).toLoadRect X_arg12) (View.readAt (Elt Ideal) arg13.view (Rect.unit (s := S512x128) ![256, 0] S256x128.size inb_256_0).toLoadRect X_arg13))), [⟨Rect.unit (s := S2x8192x512) (k0_off31 i v1 k) S1x512x256.size (k0_off31_inb i v1 k0_hw1 k), shapeCast S1x512x256 (sMask (Scalar.muli (Scf.iv v40 1#32 k) 512#32) arg2 v1 (sBlk (View.readAt (Elt Ideal) arg6.view (Rect.unit (s := S1x8192x128) (k0_off28 i v1 k) S1x512x128.size (k0_off28_inb i v1 k0_hw1 k)).toLoadRect X_arg6) (View.readAt (Elt Ideal) arg12.view (Rect.unit (s := S8192x128) (k0_off29 i v1 k) S512x128.size (k0_off29_inb i v1 k0_hw1 k)).toLoadRect X_arg12) (View.readAt (Elt Ideal) arg13.view (Rect.unit (s := S512x128) ![256, 0] S256x128.size inb_256_0).toLoadRect X_arg13))) shapeCasts_S512x256_S1x512x256⟩,
        ⟨Rect.unit (s := S2x8192x512) (k0_off30 i v1 k) S1x512x256.size (k0_off30_inb i v1 k0_hw1 k), shapeCast S1x512x256 (sMask (Scalar.muli (Scf.iv v40 1#32 k) 512#32) arg2 v1 (sBlk (View.readAt (Elt Ideal) arg6.view (Rect.unit (s := S1x8192x128) (k0_off28 i v1 k) S1x512x128.size (k0_off28_inb i v1 k0_hw1 k)).toLoadRect X_arg6) (View.readAt (Elt Ideal) arg12.view (Rect.unit (s := S8192x128) (k0_off29 i v1 k) S512x128.size (k0_off29_inb i v1 k0_hw1 k)).toLoadRect X_arg12) (View.readAt (Elt Ideal) arg13.view (Rect.unit (s := S512x128) ![0, 0] S256x128.size inb_0_0).toLoadRect X_arg13))) shapeCasts_S512x256_S1x512x256⟩] ++ (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init k.val).2) := by
  rw [st_k0_t5_succ]; unfold tripR_k0_t5 tripL_k0_t5 trip_k0_t5; rfl

/-- Loop 7 (probabilities of the tile before): the state after a trip from the state before it. -/
theorem trip7_eq (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 : BitVec 32) (v42 : BitVec 32) (v44 : BitVec 32) (v51 : BitVec 32) (v58_0 : FVec Ideal S8x512 .f32) (v58_1 : FVec Ideal S8x512 .f32) (v59 : BitVec 32) (c1_i32_36 : BitVec 32) (X_arg8 : BufTy.Contents (Elt Ideal) arg8.view.ty) (X_arg11 : BufTy.Contents (Elt Ideal) arg11.view.ty) (X_arg14 : BufTy.Contents (Elt Ideal) arg14.view.ty) (X_arg15 : BufTy.Contents (Elt Ideal) arg15.view.ty) (G_arg16 : BufTy.Contents (Elt Ideal) arg16.view.ty) (init : FVec Ideal S8x512 .f32) (k : Fin (k0_t7_loop i v1).trips) :
    (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init (k.val + 1)) =
      (lStep (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init k.val).1 (eBlk (View.readAt (Elt Ideal) arg14.view (Rect.unit (s := S2x8x512) (k0_off37 i) S1x8x256.size (k0_off37_inb i)).toLoadRect X_arg14) (View.readAt (Elt Ideal) arg15.view (Rect.unit (s := S2x8x512) (k0_off37 i) S1x8x256.size (k0_off37_inb i)).toLoadRect X_arg15) (View.readAt (Elt Ideal) arg11.view (Rect.unit (s := S2x8192x512) (k0_off38 i v1 k) S1x512x256.size (k0_off38_inb i v1 k0_hw1 k)).toLoadRect X_arg11)) (eBlk (View.readAt (Elt Ideal) arg14.view (Rect.unit (s := S2x8x512) (k0_off39 i) S1x8x256.size (k0_off39_inb i)).toLoadRect X_arg14) (View.readAt (Elt Ideal) arg15.view (Rect.unit (s := S2x8x512) (k0_off39 i) S1x8x256.size (k0_off39_inb i)).toLoadRect X_arg15) (View.readAt (Elt Ideal) arg11.view (Rect.unit (s := S2x8192x512) (k0_off40 i v1 k) S1x512x256.size (k0_off40_inb i v1 k0_hw1 k)).toLoadRect X_arg11)), [⟨Rect.unit (s := S128x512) ![0, 256] S128x256.size inb_0_256, accStep (View.readAt (Elt Ideal) arg8.view (Rect.unit (s := S1x1x128x8192) (k0_off36 i v1 k) S1x1x128x512.size (k0_off36_inb i v1 k0_hw1 k)).toLoadRect X_arg8) (eBlk (View.readAt (Elt Ideal) arg14.view (Rect.unit (s := S2x8x512) (k0_off39 i) S1x8x256.size (k0_off39_inb i)).toLoadRect X_arg14) (View.readAt (Elt Ideal) arg15.view (Rect.unit (s := S2x8x512) (k0_off39 i) S1x8x256.size (k0_off39_inb i)).toLoadRect X_arg15) (View.readAt (Elt Ideal) arg11.view (Rect.unit (s := S2x8192x512) (k0_off40 i v1 k) S1x512x256.size (k0_off40_inb i v1 k0_hw1 k)).toLoadRect X_arg11)) (View.readAt (Elt Ideal) arg16.view (Rect.unit (s := S128x512) ![0, 256] S128x256.size inb_0_256).toLoadRect (arg16.view.writes (Elt Ideal) G_arg16 (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init k.val).2))⟩,
        ⟨Rect.unit (s := S128x512) ![0, 0] S128x256.size inb_0_0', accStep (View.readAt (Elt Ideal) arg8.view (Rect.unit (s := S1x1x128x8192) (k0_off36 i v1 k) S1x1x128x512.size (k0_off36_inb i v1 k0_hw1 k)).toLoadRect X_arg8) (eBlk (View.readAt (Elt Ideal) arg14.view (Rect.unit (s := S2x8x512) (k0_off37 i) S1x8x256.size (k0_off37_inb i)).toLoadRect X_arg14) (View.readAt (Elt Ideal) arg15.view (Rect.unit (s := S2x8x512) (k0_off37 i) S1x8x256.size (k0_off37_inb i)).toLoadRect X_arg15) (View.readAt (Elt Ideal) arg11.view (Rect.unit (s := S2x8192x512) (k0_off38 i v1 k) S1x512x256.size (k0_off38_inb i v1 k0_hw1 k)).toLoadRect X_arg11)) (View.readAt (Elt Ideal) arg16.view (Rect.unit (s := S128x512) ![0, 0] S128x256.size inb_0_0').toLoadRect (arg16.view.writes (Elt Ideal) G_arg16 (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init k.val).2))⟩] ++ (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init k.val).2) := by
  rw [st_k0_t7_succ]; unfold tripR_k0_t7 tripL_k0_t7 trip_k0_t7; rfl

end Cert.KernelIdeal.Hand
-- ==== Proof.KI.Loops.lean ====
module

public import proofs.«01_k».proof.Proof.KI.Spec
public import proofs.«01_k».proof.Proof.KI.Trips
public import proofs.«01_k».proof.Proof.KI.Bounds

/-! What each loop of the body carries: the scores of this tile, their maximum by sublane, and the sums and products of the
tile before. -/

@[expose] public section

set_option maxRecDepth 16384

noncomputable section

namespace Cert.KernelIdeal.Hand

open Cert.KernelIdeal.Gen Cert.Words
open Idealize.ShloMosaic Idealize.ShloMosaic.ValueIdx Idealize.ShloMosaic.Pipeline Idealize.ShloMosaic.View

/-- The slot of the tile. -/
def cur (i : grid0.Coords) : Fin 2 := ⟨(i 2).val % 2, Nat.mod_lt _ (by norm_num)⟩
/-- The slot of the tile before. -/
def prv (i : grid0.Coords) : Fin 2 := ⟨1 - (i 2).val % 2, by omega⟩

theorem prv_ne (i : grid0.Coords) : (prv i).val ≠ (i 2).val % 2 := by
  show 1 - (i 2).val % 2 ≠ (i 2).val % 2
  omega

/-- In a block below `full` every query sees every key. -/
theorem mskS_of_full (i : grid0.Coords) (v1 : BitVec 32) (b : ℕ) (hb : b < full i v1) (r : Fin 512) (c : Fin 512)
    (x6 : Vec Ideal S1x8192x128 .fp8e4m3) (x12 : Vec Ideal S8192x128 .f32) (x13 : Vec Ideal S512x128 .fp8e4m3) :
    mskS (len v1) (i 2).val x6 x12 x13 (512 * b + r.val) c = rawS x6 x12 x13 (512 * b + r.val) c := by
  unfold mskS
  rw [if_pos]
  unfold full at hb
  unfold lim
  split_ifs at hb <;> omega

set_option maxHeartbeats 1000000 in
/-- The invariant of loop 1. -/
theorem loop1 (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (X_arg6 : BufTy.Contents (Elt Ideal) arg6.view.ty) (X_arg8 : BufTy.Contents (Elt Ideal) arg8.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (G_arg11 : BufTy.Contents (Elt Ideal) arg11.view.ty) (G_arg16 : BufTy.Contents (Elt Ideal) arg16.view.ty) (init : FVec Ideal S8x512 .f32 × FVec Ideal S8x512 .f32) (hv : v1.toInt ≤ 8192) (hmx : MxAt (mskS (len v1) (i 2).val (arg6.view.read (Elt Ideal) X_arg6) (arg12.view.read (Elt Ideal) X_arg12) (arg13.view.read (Elt Ideal) X_arg13)) (0) init.1) (hl : LAt (eOf (arg11.view.read (Elt Ideal) G_arg11) (arg14.view.read (Elt Ideal) X_arg14) (arg15.view.read (Elt Ideal) X_arg15) (prv i)) (0) init.2) (hacc : AccAt (vOf (arg8.view.read (Elt Ideal) X_arg8)) (eOf (arg11.view.read (Elt Ideal) G_arg11) (arg14.view.read (Elt Ideal) X_arg14) (arg15.view.read (Elt Ideal) X_arg15) (prv i)) (0) (arg16.view.read (Elt Ideal) G_arg16)) :
    ∀ n, n ≤ (k0_t1_loop i v1).trips →
      MxAt (mskS (len v1) (i 2).val (arg6.view.read (Elt Ideal) X_arg6) (arg12.view.read (Elt Ideal) X_arg12) (arg13.view.read (Elt Ideal) X_arg13)) (0 + n) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init n).1.1 ∧
      RowsAt (mskS (len v1) (i 2).val (arg6.view.read (Elt Ideal) X_arg6) (arg12.view.read (Elt Ideal) X_arg12) (arg13.view.read (Elt Ideal) X_arg13)) (0 + n) (cur i) (arg11.view.read (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init n).2.1)) ∧
      SameAt (prv i) (arg11.view.read (Elt Ideal) G_arg11) (arg11.view.read (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init n).2.1)) ∧
      LAt (eOf (arg11.view.read (Elt Ideal) G_arg11) (arg14.view.read (Elt Ideal) X_arg14) (arg15.view.read (Elt Ideal) X_arg15) (prv i)) (0 + n) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init n).1.2 ∧
      AccAt (vOf (arg8.view.read (Elt Ideal) X_arg8)) (eOf (arg11.view.read (Elt Ideal) G_arg11) (arg14.view.read (Elt Ideal) X_arg14) (arg15.view.read (Elt Ideal) X_arg15) (prv i)) (0 + n) (arg16.view.read (Elt Ideal) (arg16.view.writes (Elt Ideal) G_arg16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init n).2.2)) := by
  intro n
  induction n with
  | zero => intro _; exact ⟨hmx, fun j _ h _ => absurd h (by omega), fun _ _ => rfl, hl, hacc⟩
  | succ n ih =>
    intro hn
    obtain ⟨imx, irows, isame, il, iacc⟩ := ih (Nat.le_of_lt hn)
    have hb : 0 + n < 16 := t1_lt i hv (⟨n, hn⟩ : Fin (k0_t1_loop i v1).trips)
    have hn' : n < (k0_t1_loop i v1).trips := hn
    have hf : 0 + n < full i v1 := by
      have h1 := hn'.trans_eq (t1_trips i hv)
      have h2 := both_le_full i (v := v1)
      omega
    have h0 := fun (r : Fin 512) (k : Fin 256) => sBlk_read arg6 arg12 arg13 X_arg6 X_arg12 X_arg13 (k0_off2_inb i v1 k0_hw1 (⟨n, hn⟩ : Fin (k0_t1_loop i v1).trips)) (k0_off3_inb i v1 k0_hw1 (⟨n, hn⟩ : Fin (k0_t1_loop i v1).trips)) inb_0_0 (0 + n) 0 hb (off2_eq i hv (⟨n, hn⟩ : Fin (k0_t1_loop i v1).trips)) (off3_eq i hv (⟨n, hn⟩ : Fin (k0_t1_loop i v1).trips)) rfl r k
    have g0 := fun (r : Fin 512) (k : Fin 256) => (h0 r k).trans (mskS_of_full i v1 (0 + n) hf r (col 0 k) _ _ _).symm
    have h1 := fun (r : Fin 512) (k : Fin 256) => sBlk_read arg6 arg12 arg13 X_arg6 X_arg12 X_arg13 (k0_off2_inb i v1 k0_hw1 (⟨n, hn⟩ : Fin (k0_t1_loop i v1).trips)) (k0_off3_inb i v1 k0_hw1 (⟨n, hn⟩ : Fin (k0_t1_loop i v1).trips)) inb_256_0 (0 + n) 1 hb (off2_eq i hv (⟨n, hn⟩ : Fin (k0_t1_loop i v1).trips)) (off3_eq i hv (⟨n, hn⟩ : Fin (k0_t1_loop i v1).trips)) rfl r k
    have g1 := fun (r : Fin 512) (k : Fin 256) => (h1 r k).trans (mskS_of_full i v1 (0 + n) hf r (col 1 k) _ _ _).symm
    have same2 := same_step arg11 (k0_off4_inb i v1 k0_hw1 (⟨n, hn⟩ : Fin (k0_t1_loop i v1).trips)) (k0_off5_inb i v1 k0_hw1 (⟨n, hn⟩ : Fin (k0_t1_loop i v1).trips)) (sBlk (View.readAt (Elt Ideal) arg6.view (Rect.unit (s := S1x8192x128) (k0_off2 i v1 (⟨n, hn⟩ : Fin (k0_t1_loop i v1).trips)) S1x512x128.size (k0_off2_inb i v1 k0_hw1 (⟨n, hn⟩ : Fin (k0_t1_loop i v1).trips))).toLoadRect X_arg6) (View.readAt (Elt Ideal) arg12.view (Rect.unit (s := S8192x128) (k0_off3 i v1 (⟨n, hn⟩ : Fin (k0_t1_loop i v1).trips)) S512x128.size (k0_off3_inb i v1 k0_hw1 (⟨n, hn⟩ : Fin (k0_t1_loop i v1).trips))).toLoadRect X_arg12) (View.readAt (Elt Ideal) arg13.view (Rect.unit (s := S512x128) ![0, 0] S256x128.size inb_0_0).toLoadRect X_arg13)) (sBlk (View.readAt (Elt Ideal) arg6.view (Rect.unit (s := S1x8192x128) (k0_off2 i v1 (⟨n, hn⟩ : Fin (k0_t1_loop i v1).trips)) S1x512x128.size (k0_off2_inb i v1 k0_hw1 (⟨n, hn⟩ : Fin (k0_t1_loop i v1).trips))).toLoadRect X_arg6) (View.readAt (Elt Ideal) arg12.view (Rect.unit (s := S8192x128) (k0_off3 i v1 (⟨n, hn⟩ : Fin (k0_t1_loop i v1).trips)) S512x128.size (k0_off3_inb i v1 k0_hw1 (⟨n, hn⟩ : Fin (k0_t1_loop i v1).trips))).toLoadRect X_arg12) (View.readAt (Elt Ideal) arg13.view (Rect.unit (s := S512x128) ![256, 0] S256x128.size inb_256_0).toLoadRect X_arg13)) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init n).2.1) (cur i).val (0 + n) (off4_eq i hv (⟨n, hn⟩ : Fin (k0_t1_loop i v1).trips)) (off5_eq i hv (⟨n, hn⟩ : Fin (k0_t1_loop i v1).trips)) (arg11.view.read (Elt Ideal) G_arg11) (prv i) (prv_ne i) isame
    have k0 := fun (q : Fin 64) (s : Fin 8) (k : Fin 256) => eBlk_read arg11 arg14 arg15 _ (arg11.view.read (Elt Ideal) G_arg11) X_arg14 X_arg15 (k0_off7_inb i) (k0_off8_inb i v1 k0_hw1 (⟨n, hn⟩ : Fin (k0_t1_loop i v1).trips)) (0 + n) 0 (prv i) hb (off7_eq i) (off8_eq i hv (⟨n, hn⟩ : Fin (k0_t1_loop i v1).trips)) same2 q s k
    have k1 := fun (q : Fin 64) (s : Fin 8) (k : Fin 256) => eBlk_read arg11 arg14 arg15 _ (arg11.view.read (Elt Ideal) G_arg11) X_arg14 X_arg15 (k0_off9_inb i) (k0_off10_inb i v1 k0_hw1 (⟨n, hn⟩ : Fin (k0_t1_loop i v1).trips)) (0 + n) 1 (prv i) hb (off9_eq i) (off10_eq i hv (⟨n, hn⟩ : Fin (k0_t1_loop i v1).trips)) same2 q s k
    have kv := fun (d : Fin 128) (r : Fin 512) => vt_read arg8 X_arg8 (k0_off6_inb i v1 k0_hw1 (⟨n, hn⟩ : Fin (k0_t1_loop i v1).trips)) (0 + n) hb (off6_eq i hv (⟨n, hn⟩ : Fin (k0_t1_loop i v1).trips)) d r
    rw [trip1_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X_arg6 X_arg8 X_arg12 X_arg13 X_arg14 X_arg15 G_arg11 G_arg16 init (⟨n, hn⟩ : Fin (k0_t1_loop i v1).trips)]
    refine ⟨?_, ?_, ?_, ?_, ?_⟩
    · exact mx_step (mskS (len v1) (i 2).val (arg6.view.read (Elt Ideal) X_arg6) (arg12.view.read (Elt Ideal) X_arg12) (arg13.view.read (Elt Ideal) X_arg13)) (0 + n) _ _ _ imx g0 g1
    · rw [writes_append]
      exact rows_step arg11 _ _ _ _ _ (cur i).val (0 + n) (off4_eq i hv (⟨n, hn⟩ : Fin (k0_t1_loop i v1).trips)) (off5_eq i hv (⟨n, hn⟩ : Fin (k0_t1_loop i v1).trips)) (mskS (len v1) (i 2).val (arg6.view.read (Elt Ideal) X_arg6) (arg12.view.read (Elt Ideal) X_arg12) (arg13.view.read (Elt Ideal) X_arg13)) (cur i).isLt hb irows g0 g1
    · rw [writes_append]
      exact same_step arg11 _ _ _ _ _ (cur i).val (0 + n) (off4_eq i hv (⟨n, hn⟩ : Fin (k0_t1_loop i v1).trips)) (off5_eq i hv (⟨n, hn⟩ : Fin (k0_t1_loop i v1).trips)) (arg11.view.read (Elt Ideal) G_arg11) (prv i) (prv_ne i) isame
    · exact l_step (eOf (arg11.view.read (Elt Ideal) G_arg11) (arg14.view.read (Elt Ideal) X_arg14) (arg15.view.read (Elt Ideal) X_arg15) (prv i)) (0 + n) _ _ _ il k0 k1
    · rw [writes_append]
      exact acc_step arg16 (vOf (arg8.view.read (Elt Ideal) X_arg8)) (eOf (arg11.view.read (Elt Ideal) G_arg11) (arg14.view.read (Elt Ideal) X_arg14) (arg15.view.read (Elt Ideal) X_arg15) (prv i)) (0 + n) _ _ _ _ _ _ iacc k0 k1 kv

set_option maxHeartbeats 1000000 in
/-- The invariant of loop 3. -/
theorem loop3 (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 : BitVec 32) (v42 : BitVec 32) (v44 : BitVec 32) (v51 : BitVec 32) (v58_0 : FVec Ideal S8x512 .f32) (v58_1 : FVec Ideal S8x512 .f32) (v59 : BitVec 32) (c1_i32_36 : BitVec 32) (X_arg6 : BufTy.Contents (Elt Ideal) arg6.view.ty) (X_arg12 : BufTy.Contents (Elt Ideal) arg12.view.ty) (X_arg13 : BufTy.Contents (Elt Ideal) arg13.view.ty) (init : FVec Ideal S8x512 .f32) (G_arg11 : BufTy.Contents (Elt Ideal) arg11.view.ty) (y : Vec Ideal S2x8192x512 .f32) (hv : v1.toInt ≤ 8192) (hmx : MxAt (mskS (len v1) (i 2).val (arg6.view.read (Elt Ideal) X_arg6) (arg12.view.read (Elt Ideal) X_arg12) (arg13.view.read (Elt Ideal) X_arg13)) (both i v1) init) (hrows : RowsAt (mskS (len v1) (i 2).val (arg6.view.read (Elt Ideal) X_arg6) (arg12.view.read (Elt Ideal) X_arg12) (arg13.view.read (Elt Ideal) X_arg13)) (both i v1) (cur i) (arg11.view.read (Elt Ideal) G_arg11)) (hsame : SameAt (prv i) y (arg11.view.read (Elt Ideal) G_arg11)) :
    ∀ n, n ≤ (k0_t3_loop i v1).trips →
      MxAt (mskS (len v1) (i 2).val (arg6.view.read (Elt Ideal) X_arg6) (arg12.view.read (Elt Ideal) X_arg12) (arg13.view.read (Elt Ideal) X_arg13)) (both i v1 + n) (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init n).1 ∧
      RowsAt (mskS (len v1) (i 2).val (arg6.view.read (Elt Ideal) X_arg6) (arg12.view.read (Elt Ideal) X_arg12) (arg13.view.read (Elt Ideal) X_arg13)) (both i v1 + n) (cur i) (arg11.view.read (Elt Ideal) (arg11.view.writes (Elt Ideal) G_arg11 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init n).2)) ∧
      SameAt (prv i) y (arg11.view.read (Elt Ideal) (arg11.view.writes (Elt Ideal) G_arg11 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init n).2)) := by
  intro n
  induction n with
  | zero => intro _; exact ⟨hmx, hrows, hsame⟩
  | succ n ih =>
    intro hn
    obtain ⟨imx, irows, isame⟩ := ih (Nat.le_of_lt hn)
    have hb : both i v1 + n < 16 := t3_lt i hv (⟨n, hn⟩ : Fin (k0_t3_loop i v1).trips)
    have hn' : n < (k0_t3_loop i v1).trips := hn
    have hf : both i v1 + n < full i v1 := by
      have h1 := hn'.trans_eq (t3_trips i hv)
      have h2 := both_le_full i (v := v1)
      omega
    have h0 := fun (r : Fin 512) (k : Fin 256) => sBlk_read arg6 arg12 arg13 X_arg6 X_arg12 X_arg13 (k0_off20_inb i v1 k0_hw1 (⟨n, hn⟩ : Fin (k0_t3_loop i v1).trips)) (k0_off21_inb i v1 k0_hw1 (⟨n, hn⟩ : Fin (k0_t3_loop i v1).trips)) inb_0_0 (both i v1 + n) 0 hb (off20_eq i hv (⟨n, hn⟩ : Fin (k0_t3_loop i v1).trips)) (off21_eq i hv (⟨n, hn⟩ : Fin (k0_t3_loop i v1).trips)) rfl r k
    have g0 := fun (r : Fin 512) (k : Fin 256) => (h0 r k).trans (mskS_of_full i v1 (both i v1 + n) hf r (col 0 k) _ _ _).symm
    have h1 := fun (r : Fin 512) (k : Fin 256) => sBlk_read arg6 arg12 arg13 X_arg6 X_arg12 X_arg13 (k0_off20_inb i v1 k0_hw1 (⟨n, hn⟩ : Fin (k0_t3_loop i v1).trips)) (k0_off21_inb i v1 k0_hw1 (⟨n, hn⟩ : Fin (k0_t3_loop i v1).trips)) inb_256_0 (both i v1 + n) 1 hb (off20_eq i hv (⟨n, hn⟩ : Fin (k0_t3_loop i v1).trips)) (off21_eq i hv (⟨n, hn⟩ : Fin (k0_t3_loop i v1).trips)) rfl r k
    have g1 := fun (r : Fin 512) (k : Fin 256) => (h1 r k).trans (mskS_of_full i v1 (both i v1 + n) hf r (col 1 k) _ _ _).symm
    rw [trip3_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init (⟨n, hn⟩ : Fin (k0_t3_loop i v1).trips)]
    refine ⟨?_, ?_, ?_⟩
    · exact mx_step (mskS (len v1) (i 2).val (arg6.view.read (Elt Ideal) X_arg6) (arg12.view.read (Elt Ideal) X_arg12) (arg13.view.read (Elt Ideal) X_arg13)) (both i v1 + n) _ _ _ imx g0 g1
    · rw [writes_append]
      exact rows_step arg11 _ _ _ _ _ (cur i).val (both i v1 + n) (off22_eq i hv (⟨n, hn⟩ : Fin (k0_t3_loop i v1).trips)) (off23_eq i hv (⟨n, hn⟩ : Fin (k0_t3_loop i v1).trips)) (mskS (len v1) (i 2).val (arg6.view.read (Elt Ideal) X_arg6) (arg12.view.read (Elt Ideal) X_arg12) (arg13.view.read (Elt Ideal) X_arg13)) (cur i).isLt hb irows g0 g1
    · rw [writes_append]
      exact same_step arg11 _ _ _ _ _ (cur i).val (both i v1 + n) (off22_eq i hv (⟨n, hn⟩ : Fin (k0_t3_loop i v1).trips)) (off23_eq i hv (⟨n, hn⟩ : Fin (k0_t3_loop i v1).trips)) y (prv i) (prv_ne i) isame

set_option maxHeartbeats 1000000 in
/-- The invariant of loop 5. -/
theorem loop5 (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 : BitVec 32) (v42 : BitVec 32) (v44 : BitVec 32) (v51 : BitVec 32) (v58_0 : FVec Ideal S8x512 .f32) (v58_1 : FVec Ideal S8x512 .f32) (v59 : BitVec 32) (c1_i32_36 : BitVec 32) (X_arg6 : BufTy.Contents (Elt Ideal) arg6.view.ty) (X_arg12 : BufTy.Contents (Elt Ideal) arg12.view.ty) (X_arg13 : BufTy.Contents (Elt Ideal) arg13.view.ty) (init : FVec Ideal S8x512 .f32) (G_arg11 : BufTy.Contents (Elt Ideal) arg11.view.ty) (y : Vec Ideal S2x8192x512 .f32) (ha : arg2 = BitVec.ofNat 32 (i 2).val) (hv40 : v40 = BitVec.ofNat 32 (full i v1)) (hv : v1.toInt ≤ 8192) (hmx : MxAt (mskS (len v1) (i 2).val (arg6.view.read (Elt Ideal) X_arg6) (arg12.view.read (Elt Ideal) X_arg12) (arg13.view.read (Elt Ideal) X_arg13)) (full i v1) init) (hrows : RowsAt (mskS (len v1) (i 2).val (arg6.view.read (Elt Ideal) X_arg6) (arg12.view.read (Elt Ideal) X_arg12) (arg13.view.read (Elt Ideal) X_arg13)) (full i v1) (cur i) (arg11.view.read (Elt Ideal) G_arg11)) (hsame : SameAt (prv i) y (arg11.view.read (Elt Ideal) G_arg11)) :
    ∀ n, n ≤ (k0_t5_loop i v1).trips →
      MxAt (mskS (len v1) (i 2).val (arg6.view.read (Elt Ideal) X_arg6) (arg12.view.read (Elt Ideal) X_arg12) (arg13.view.read (Elt Ideal) X_arg13)) (full i v1 + n) (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init n).1 ∧
      RowsAt (mskS (len v1) (i 2).val (arg6.view.read (Elt Ideal) X_arg6) (arg12.view.read (Elt Ideal) X_arg12) (arg13.view.read (Elt Ideal) X_arg13)) (full i v1 + n) (cur i) (arg11.view.read (Elt Ideal) (arg11.view.writes (Elt Ideal) G_arg11 (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init n).2)) ∧
      SameAt (prv i) y (arg11.view.read (Elt Ideal) (arg11.view.writes (Elt Ideal) G_arg11 (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init n).2)) := by
  intro n
  induction n with
  | zero => intro _; exact ⟨hmx, hrows, hsame⟩
  | succ n ih =>
    intro hn
    obtain ⟨imx, irows, isame⟩ := ih (Nat.le_of_lt hn)
    have hb : full i v1 + n < 16 := t5_lt i hv (⟨n, hn⟩ : Fin (k0_t5_loop i v1).trips)
    have hn' : n < (k0_t5_loop i v1).trips := hn
    have h0 := fun (r : Fin 512) (k : Fin 256) => sBlk_read arg6 arg12 arg13 X_arg6 X_arg12 X_arg13 (k0_off28_inb i v1 k0_hw1 (⟨n, hn⟩ : Fin (k0_t5_loop i v1).trips)) (k0_off29_inb i v1 k0_hw1 (⟨n, hn⟩ : Fin (k0_t5_loop i v1).trips)) inb_0_0 (full i v1 + n) 0 hb (off28_eq i hv (⟨n, hn⟩ : Fin (k0_t5_loop i v1).trips)) (off29_eq i hv (⟨n, hn⟩ : Fin (k0_t5_loop i v1).trips)) rfl r k
    have g0 := fun (y0 : FVec Ideal S512x256 .f32) (e : ∀ r k, y0 (ix2 r k) = rawS (arg6.view.read (Elt Ideal) X_arg6) (arg12.view.read (Elt Ideal) X_arg12) (arg13.view.read (Elt Ideal) X_arg13) (512 * (full i v1 + n) + r.val) (col 0 k)) (r : Fin 512) (k : Fin 256) => (sMask_apply (Scalar.muli (Scf.iv v40 1#32 n) 512#32) arg2 v1 y0 (full i v1 + n) (i 2).val hb (i 2).isLt (by rw [hv40, iv_ofNat]; exact smuli_ofNat _ 512) ha hv 0 r k).trans (congrArg (fun z => if 512 * (full i v1 + n) + r.val < lim (len v1) (i 2).val (col 0 k) then z else ⊥) (e r k))
    have h1 := fun (r : Fin 512) (k : Fin 256) => sBlk_read arg6 arg12 arg13 X_arg6 X_arg12 X_arg13 (k0_off28_inb i v1 k0_hw1 (⟨n, hn⟩ : Fin (k0_t5_loop i v1).trips)) (k0_off29_inb i v1 k0_hw1 (⟨n, hn⟩ : Fin (k0_t5_loop i v1).trips)) inb_256_0 (full i v1 + n) 1 hb (off28_eq i hv (⟨n, hn⟩ : Fin (k0_t5_loop i v1).trips)) (off29_eq i hv (⟨n, hn⟩ : Fin (k0_t5_loop i v1).trips)) rfl r k
    have g1 := fun (y0 : FVec Ideal S512x256 .f32) (e : ∀ r k, y0 (ix2 r k) = rawS (arg6.view.read (Elt Ideal) X_arg6) (arg12.view.read (Elt Ideal) X_arg12) (arg13.view.read (Elt Ideal) X_arg13) (512 * (full i v1 + n) + r.val) (col 1 k)) (r : Fin 512) (k : Fin 256) => (sMask_apply (Scalar.muli (Scf.iv v40 1#32 n) 512#32) arg2 v1 y0 (full i v1 + n) (i 2).val hb (i 2).isLt (by rw [hv40, iv_ofNat]; exact smuli_ofNat _ 512) ha hv 1 r k).trans (congrArg (fun z => if 512 * (full i v1 + n) + r.val < lim (len v1) (i 2).val (col 1 k) then z else ⊥) (e r k))
    rw [trip5_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg6 X_arg12 X_arg13 init (⟨n, hn⟩ : Fin (k0_t5_loop i v1).trips)]
    refine ⟨?_, ?_, ?_⟩
    · exact mx_step (mskS (len v1) (i 2).val (arg6.view.read (Elt Ideal) X_arg6) (arg12.view.read (Elt Ideal) X_arg12) (arg13.view.read (Elt Ideal) X_arg13)) (full i v1 + n) _ _ _ imx (g0 _ h0) (g1 _ h1)
    · rw [writes_append]
      exact rows_step arg11 _ _ _ _ _ (cur i).val (full i v1 + n) (off30_eq i hv (⟨n, hn⟩ : Fin (k0_t5_loop i v1).trips)) (off31_eq i hv (⟨n, hn⟩ : Fin (k0_t5_loop i v1).trips)) (mskS (len v1) (i 2).val (arg6.view.read (Elt Ideal) X_arg6) (arg12.view.read (Elt Ideal) X_arg12) (arg13.view.read (Elt Ideal) X_arg13)) (cur i).isLt hb irows (g0 _ h0) (g1 _ h1)
    · rw [writes_append]
      exact same_step arg11 _ _ _ _ _ (cur i).val (full i v1 + n) (off30_eq i hv (⟨n, hn⟩ : Fin (k0_t5_loop i v1).trips)) (off31_eq i hv (⟨n, hn⟩ : Fin (k0_t5_loop i v1).trips)) y (prv i) (prv_ne i) isame

set_option maxHeartbeats 1000000 in
/-- The invariant of loop 7. -/
theorem loop7 (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 : BitVec 32) (v42 : BitVec 32) (v44 : BitVec 32) (v51 : BitVec 32) (v58_0 : FVec Ideal S8x512 .f32) (v58_1 : FVec Ideal S8x512 .f32) (v59 : BitVec 32) (c1_i32_36 : BitVec 32) (X_arg8 : BufTy.Contents (Elt Ideal) arg8.view.ty) (X_arg11 : BufTy.Contents (Elt Ideal) arg11.view.ty) (X_arg14 : BufTy.Contents (Elt Ideal) arg14.view.ty) (X_arg15 : BufTy.Contents (Elt Ideal) arg15.view.ty) (G_arg16 : BufTy.Contents (Elt Ideal) arg16.view.ty) (init : FVec Ideal S8x512 .f32) (y : Vec Ideal S2x8192x512 .f32) (hv : v1.toInt ≤ 8192) (hsame : SameAt (prv i) y (arg11.view.read (Elt Ideal) X_arg11)) (hl : LAt (eOf y (arg14.view.read (Elt Ideal) X_arg14) (arg15.view.read (Elt Ideal) X_arg15) (prv i)) (both i v1) init) (hacc : AccAt (vOf (arg8.view.read (Elt Ideal) X_arg8)) (eOf y (arg14.view.read (Elt Ideal) X_arg14) (arg15.view.read (Elt Ideal) X_arg15) (prv i)) (both i v1) (arg16.view.read (Elt Ideal) G_arg16)) :
    ∀ n, n ≤ (k0_t7_loop i v1).trips →
      LAt (eOf y (arg14.view.read (Elt Ideal) X_arg14) (arg15.view.read (Elt Ideal) X_arg15) (prv i)) (both i v1 + n) (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init n).1 ∧
      AccAt (vOf (arg8.view.read (Elt Ideal) X_arg8)) (eOf y (arg14.view.read (Elt Ideal) X_arg14) (arg15.view.read (Elt Ideal) X_arg15) (prv i)) (both i v1 + n) (arg16.view.read (Elt Ideal) (arg16.view.writes (Elt Ideal) G_arg16 (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init n).2)) := by
  intro n
  induction n with
  | zero => intro _; exact ⟨hl, hacc⟩
  | succ n ih =>
    intro hn
    obtain ⟨il, iacc⟩ := ih (Nat.le_of_lt hn)
    have hb : both i v1 + n < 16 := t7_lt i hv (⟨n, hn⟩ : Fin (k0_t7_loop i v1).trips)
    have hn' : n < (k0_t7_loop i v1).trips := hn
    have k0 := fun (q : Fin 64) (s : Fin 8) (k : Fin 256) => eBlk_read arg11 arg14 arg15 _ y X_arg14 X_arg15 (k0_off37_inb i) (k0_off38_inb i v1 k0_hw1 (⟨n, hn⟩ : Fin (k0_t7_loop i v1).trips)) (both i v1 + n) 0 (prv i) hb (off37_eq i) (off38_eq i hv (⟨n, hn⟩ : Fin (k0_t7_loop i v1).trips)) hsame q s k
    have k1 := fun (q : Fin 64) (s : Fin 8) (k : Fin 256) => eBlk_read arg11 arg14 arg15 _ y X_arg14 X_arg15 (k0_off39_inb i) (k0_off40_inb i v1 k0_hw1 (⟨n, hn⟩ : Fin (k0_t7_loop i v1).trips)) (both i v1 + n) 1 (prv i) hb (off39_eq i) (off40_eq i hv (⟨n, hn⟩ : Fin (k0_t7_loop i v1).trips)) hsame q s k
    have kv := fun (d : Fin 128) (r : Fin 512) => vt_read arg8 X_arg8 (k0_off36_inb i v1 k0_hw1 (⟨n, hn⟩ : Fin (k0_t7_loop i v1).trips)) (both i v1 + n) hb (off36_eq i hv (⟨n, hn⟩ : Fin (k0_t7_loop i v1).trips)) d r
    rw [trip7_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X_arg8 X_arg11 X_arg14 X_arg15 G_arg16 init (⟨n, hn⟩ : Fin (k0_t7_loop i v1).trips)]
    refine ⟨?_, ?_⟩
    · exact l_step (eOf y (arg14.view.read (Elt Ideal) X_arg14) (arg15.view.read (Elt Ideal) X_arg15) (prv i)) (both i v1 + n) _ _ _ il k0 k1
    · rw [writes_append]
      exact acc_step arg16 (vOf (arg8.view.read (Elt Ideal) X_arg8)) (eOf y (arg14.view.read (Elt Ideal) X_arg14) (arg15.view.read (Elt Ideal) X_arg15) (prv i)) (both i v1 + n) _ _ _ _ _ _ iacc k0 k1 kv

end Cert.KernelIdeal.Hand
-- ==== Proof.KI.Chain.lean ====
module

public import proofs.«01_k».proof.Proof.KI.Loops

/-! What the eight loops of the body leave together. -/

@[expose] public section

set_option maxRecDepth 16384

noncomputable section

namespace Cert.KernelIdeal.Hand

open Cert.KernelIdeal.Gen Cert.Words
open Idealize.ShloMosaic Idealize.ShloMosaic.ValueIdx Idealize.ShloMosaic.Pipeline Idealize.ShloMosaic.View

theorem mx_zero (S : ℕ → Fin 512 → EReal) : MxAt S 0 (k0_pay125 (F := Ideal)) := fun s c => by
  unfold k0_pay125
  refine (show _ = Ideal.ofBits .f32 0xFF800000#32 from rfl).trans ?_
  simp [ninf_f32]

theorem l_zero (E : ℕ → Fin 512 → EReal) : LAt E 0 (k0_pay126 (F := Ideal)) := fun s c => by
  unfold k0_pay126
  refine (show _ = Ideal.ofBits .f32 0x00000000#32 from rfl).trans ?_
  simp [zero_f32]

set_option maxHeartbeats 1000000 in
/-- After the loops, from any contents of the scores: the scores of this tile and their maximum over all blocks, and the sum
and the product of the tile before over its blocks. -/
theorem chain (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 v42 v44 v51 v56 v59 c1_i32_36 v70 v77 : BitVec 32) (v58_0 v58_1 : FVec Ideal S8x512 .f32) (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (f11 : BufTy.Contents (Elt Ideal) arg11.view.ty) (f16 : BufTy.Contents (Elt Ideal) arg16.view.ty) (p16 : List (View.Piece (Elt Ideal) S128x512 .f32)) (mx0 l0 : FVec Ideal S8x512 .f32)
    (s1 s2 : (FVec Ideal S8x512 .f32 × FVec Ideal S8x512 .f32) × List (View.Piece (Elt Ideal) S2x8192x512 .f32) × List (View.Piece (Elt Ideal) S128x512 .f32)) (s3 s4 s5 s6 : FVec Ideal S8x512 .f32 × List (View.Piece (Elt Ideal) S2x8192x512 .f32)) (s7 s8 : FVec Ideal S8x512 .f32 × List (View.Piece (Elt Ideal) S128x512 .f32))
    (h1 : s1 = st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X6 X8 X12 X13 X14 X15 f11 (arg16.view.writes (Elt Ideal) f16 p16) (mx0, l0) (k0_t1_loop i v1).trips)
    (h2 : s2 = st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v56 X6 X8 X12 X13 X14 X15 (arg11.view.writes (Elt Ideal) f11 s1.2.1) (arg16.view.writes (Elt Ideal) f16 (s1.2.2 ++ p16)) s1.1 (k0_t2_loop i v1).trips)
    (h3 : s3 = st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s2.1.1 (k0_t3_loop i v1).trips)
    (h4 : s4 = st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s3.1 (k0_t4_loop i v1).trips)
    (h5 : s5 = st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s4.1 (k0_t5_loop i v1).trips)
    (h6 : s6 = st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v70 X6 X12 X13 s5.1 (k0_t6_loop i v1).trips)
    (h7 : s7 = st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X8 (arg11.view.writes (Elt Ideal) f11 (s6.2 ++ (s5.2 ++ (s4.2 ++ (s3.2 ++ (s2.2.1 ++ s1.2.1)))))) X14 X15 (arg16.view.writes (Elt Ideal) f16 (s2.2.2 ++ (s1.2.2 ++ p16))) s2.1.2 (k0_t7_loop i v1).trips)
    (h8 : s8 = st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v77 X8 (arg11.view.writes (Elt Ideal) f11 (s6.2 ++ (s5.2 ++ (s4.2 ++ (s3.2 ++ (s2.2.1 ++ s1.2.1)))))) X14 X15 (arg16.view.writes (Elt Ideal) f16 (s7.2 ++ (s2.2.2 ++ (s1.2.2 ++ p16)))) s7.1 (k0_t8_loop i v1).trips)
    (x6 : Vec Ideal S1x8192x128 .fp8e4m3) (x8 : Vec Ideal S1x1x128x8192 .fp8e4m3) (x12 : Vec Ideal S8192x128 .f32) (x13 : Vec Ideal S512x128 .fp8e4m3) (y : Vec Ideal S2x8192x512 .f32) (y14 y15 : Vec Ideal S2x8x512 .f32)
    (e6 : arg6.view.read (Elt Ideal) X6 = x6) (e8 : arg8.view.read (Elt Ideal) X8 = x8) (e12 : arg12.view.read (Elt Ideal) X12 = x12) (e13 : arg13.view.read (Elt Ideal) X13 = x13) (e14 : arg14.view.read (Elt Ideal) X14 = y14) (e15 : arg15.view.read (Elt Ideal) X15 = y15) (e11 : arg11.view.read (Elt Ideal) f11 = y)
    (ha : arg2 = BitVec.ofNat 32 (i 2).val) (hv40 : v40 = BitVec.ofNat 32 (full i v1)) (hv : v1.toInt ≤ 8192)
    (hmx : mx0 = k0_pay125) (hl : l0 = k0_pay126) (hacc : ∀ z, arg16.view.read (Elt Ideal) (arg16.view.writes (Elt Ideal) f16 p16) z = (0 : EReal)) :
    MxAt (mskS (len v1) (i 2).val x6 x12 x13) (all i v1) s6.1 ∧
    RowsAt (mskS (len v1) (i 2).val x6 x12 x13) (all i v1) (cur i) (arg11.view.read (Elt Ideal) (arg11.view.writes (Elt Ideal) f11 (s6.2 ++ (s5.2 ++ (s4.2 ++ (s3.2 ++ (s2.2.1 ++ s1.2.1))))))) ∧
    LAt (eOf y y14 y15 (prv i)) (old i v1) s8.1 ∧
    AccAt (vOf x8) (eOf y y14 y15 (prv i)) (old i v1) (arg16.view.read (Elt Ideal) (arg16.view.writes (Elt Ideal) f16 (s8.2 ++ (s7.2 ++ (s2.2.2 ++ (s1.2.2 ++ p16)))))) := by
  subst e6 e8 e12 e13 e14 e15 e11 hmx hl
  rw [t2_trips i hv] at h2
  rw [t4_trips i hv] at h4
  rw [t6_trips i hv] at h6
  rw [t8_trips i hv] at h8
  have a2 : s2 = (s1.1, [], []) := h2
  have a4 : s4 = (s3.1, []) := h4
  have a6 : s6 = (s5.1, []) := h6
  have a8 : s8 = (s7.1, []) := h8
  clear h2 h4 h6 h8
  subst a2 a4 a6 a8
  simp only [List.nil_append, writes_append] at *
  have q1 : (0 : ℕ) + (k0_t1_loop i v1).trips = both i v1 := by rw [t1_trips i hv]; omega
  have q3 : both i v1 + (k0_t3_loop i v1).trips = full i v1 := by
    rw [t3_trips i hv]; exact Nat.add_sub_cancel' (both_le_full i)
  have q5 : full i v1 + (k0_t5_loop i v1).trips = all i v1 := by
    rw [t5_trips i hv]; exact Nat.add_sub_cancel' (full_le_all i)
  have q7 : both i v1 + (k0_t7_loop i v1).trips = old i v1 := by
    rw [t7_trips i hv]; exact Nat.add_sub_cancel' (both_le_old i)
  obtain ⟨m1, r1, u1, l1, c1⟩ := loop1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X6 X8 X12 X13 X14 X15 f11 (arg16.view.writes (Elt Ideal) f16 p16) (k0_pay125, k0_pay126) hv (mx_zero _) (l_zero _) (fun d k => by rw [hacc]; simp) _ le_rfl
  rw [← h1, q1] at m1 r1 l1 c1
  rw [← h1] at u1
  obtain ⟨m3, r3, u3⟩ := loop3 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s1.1.1 _ _ hv m1 r1 u1 _ le_rfl
  rw [← h3, q3] at m3 r3
  rw [← h3] at u3
  obtain ⟨m5, r5, u5⟩ := loop5 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s3.1 _ _ ha hv40 hv m3 r3 u3 _ le_rfl
  rw [← h5, q5] at m5 r5
  rw [← h5] at u5
  obtain ⟨l7, c7⟩ := loop7 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X8 _ X14 X15 _ s1.1.2 _ hv u5 l1 c1 _ le_rfl
  rw [← h7, q7] at l7 c7
  exact ⟨m5, r5, l7, c7⟩

/-- `chain`, one conclusion: the maximum; the prefix length named on its own. -/
theorem chain_mx (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 v42 v44 v51 v56 v59 c1_i32_36 v70 v77 : BitVec 32) (v58_0 v58_1 : FVec Ideal S8x512 .f32) (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (f11 : BufTy.Contents (Elt Ideal) arg11.view.ty) (f16 : BufTy.Contents (Elt Ideal) arg16.view.ty) (p16 : List (View.Piece (Elt Ideal) S128x512 .f32)) (mx0 l0 : FVec Ideal S8x512 .f32)
    (s1 s2 : (FVec Ideal S8x512 .f32 × FVec Ideal S8x512 .f32) × List (View.Piece (Elt Ideal) S2x8192x512 .f32) × List (View.Piece (Elt Ideal) S128x512 .f32)) (s3 s4 s5 s6 : FVec Ideal S8x512 .f32 × List (View.Piece (Elt Ideal) S2x8192x512 .f32)) (s7 s8 : FVec Ideal S8x512 .f32 × List (View.Piece (Elt Ideal) S128x512 .f32))
    (h1 : s1 = st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X6 X8 X12 X13 X14 X15 f11 (arg16.view.writes (Elt Ideal) f16 p16) (mx0, l0) (k0_t1_loop i v1).trips)
    (h2 : s2 = st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v56 X6 X8 X12 X13 X14 X15 (arg11.view.writes (Elt Ideal) f11 s1.2.1) (arg16.view.writes (Elt Ideal) f16 (s1.2.2 ++ p16)) (s1.1.1, s1.1.2) (k0_t2_loop i v1).trips)
    (h3 : s3 = st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s2.1.1 (k0_t3_loop i v1).trips)
    (h4 : s4 = st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s3.1 (k0_t4_loop i v1).trips)
    (h5 : s5 = st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s4.1 (k0_t5_loop i v1).trips)
    (h6 : s6 = st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v70 X6 X12 X13 s5.1 (k0_t6_loop i v1).trips)
    (h7 : s7 = st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X8 (arg11.view.writes (Elt Ideal) f11 (s6.2 ++ (s5.2 ++ (s4.2 ++ (s3.2 ++ (s2.2.1 ++ s1.2.1)))))) X14 X15 (arg16.view.writes (Elt Ideal) f16 (s2.2.2 ++ (s1.2.2 ++ p16))) s2.1.2 (k0_t7_loop i v1).trips)
    (h8 : s8 = st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v77 X8 (arg11.view.writes (Elt Ideal) f11 (s6.2 ++ (s5.2 ++ (s4.2 ++ (s3.2 ++ (s2.2.1 ++ s1.2.1)))))) X14 X15 (arg16.view.writes (Elt Ideal) f16 (s7.2 ++ (s2.2.2 ++ (s1.2.2 ++ p16)))) s7.1 (k0_t8_loop i v1).trips)
    (x6 : Vec Ideal S1x8192x128 .fp8e4m3) (x8 : Vec Ideal S1x1x128x8192 .fp8e4m3) (x12 : Vec Ideal S8192x128 .f32) (x13 : Vec Ideal S512x128 .fp8e4m3) (y : Vec Ideal S2x8192x512 .f32) (y14 y15 : Vec Ideal S2x8x512 .f32)
    (e6 : arg6.view.read (Elt Ideal) X6 = x6) (e8 : arg8.view.read (Elt Ideal) X8 = x8) (e12 : arg12.view.read (Elt Ideal) X12 = x12) (e13 : arg13.view.read (Elt Ideal) X13 = x13) (e14 : arg14.view.read (Elt Ideal) X14 = y14) (e15 : arg15.view.read (Elt Ideal) X15 = y15) (e11 : arg11.view.read (Elt Ideal) f11 = y)
    (ha : arg2 = BitVec.ofNat 32 (i 2).val) (hv40 : v40 = BitVec.ofNat 32 (full i v1)) (w : BitVec 32) (hw : v1 = w) (hv : w.toInt ≤ 8192)
    (hmx : mx0 = k0_pay125) (hl : l0 = k0_pay126) (hacc : ∀ z, arg16.view.read (Elt Ideal) (arg16.view.writes (Elt Ideal) f16 p16) z = (0 : EReal)) :
    MxAt (mskS (len w) (i 2).val x6 x12 x13) (all i w) s6.1 := by
  subst hw
  exact (chain 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v56 v59 c1_i32_36 v70 v77 v58_0 v58_1 X6 X8 X12 X13 X14 X15 f11 f16 p16 mx0 l0 s1 s2 s3 s4 s5 s6 s7 s8 h1 h2 h3 h4 h5 h6 h7 h8 x6 x8 x12 x13 y y14 y15 e6 e8 e12 e13 e14 e15 e11 ha hv40 hv hmx hl hacc).1

/-- `chain`, one conclusion: the scores; the prefix length named on its own. -/
theorem chain_rows (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 v42 v44 v51 v56 v59 c1_i32_36 v70 v77 : BitVec 32) (v58_0 v58_1 : FVec Ideal S8x512 .f32) (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (f11 : BufTy.Contents (Elt Ideal) arg11.view.ty) (f16 : BufTy.Contents (Elt Ideal) arg16.view.ty) (p16 : List (View.Piece (Elt Ideal) S128x512 .f32)) (mx0 l0 : FVec Ideal S8x512 .f32)
    (s1 s2 : (FVec Ideal S8x512 .f32 × FVec Ideal S8x512 .f32) × List (View.Piece (Elt Ideal) S2x8192x512 .f32) × List (View.Piece (Elt Ideal) S128x512 .f32)) (s3 s4 s5 s6 : FVec Ideal S8x512 .f32 × List (View.Piece (Elt Ideal) S2x8192x512 .f32)) (s7 s8 : FVec Ideal S8x512 .f32 × List (View.Piece (Elt Ideal) S128x512 .f32))
    (h1 : s1 = st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X6 X8 X12 X13 X14 X15 f11 (arg16.view.writes (Elt Ideal) f16 p16) (mx0, l0) (k0_t1_loop i v1).trips)
    (h2 : s2 = st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v56 X6 X8 X12 X13 X14 X15 (arg11.view.writes (Elt Ideal) f11 s1.2.1) (arg16.view.writes (Elt Ideal) f16 (s1.2.2 ++ p16)) (s1.1.1, s1.1.2) (k0_t2_loop i v1).trips)
    (h3 : s3 = st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s2.1.1 (k0_t3_loop i v1).trips)
    (h4 : s4 = st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s3.1 (k0_t4_loop i v1).trips)
    (h5 : s5 = st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s4.1 (k0_t5_loop i v1).trips)
    (h6 : s6 = st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v70 X6 X12 X13 s5.1 (k0_t6_loop i v1).trips)
    (h7 : s7 = st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X8 (arg11.view.writes (Elt Ideal) f11 (s6.2 ++ (s5.2 ++ (s4.2 ++ (s3.2 ++ (s2.2.1 ++ s1.2.1)))))) X14 X15 (arg16.view.writes (Elt Ideal) f16 (s2.2.2 ++ (s1.2.2 ++ p16))) s2.1.2 (k0_t7_loop i v1).trips)
    (h8 : s8 = st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v77 X8 (arg11.view.writes (Elt Ideal) f11 (s6.2 ++ (s5.2 ++ (s4.2 ++ (s3.2 ++ (s2.2.1 ++ s1.2.1)))))) X14 X15 (arg16.view.writes (Elt Ideal) f16 (s7.2 ++ (s2.2.2 ++ (s1.2.2 ++ p16)))) s7.1 (k0_t8_loop i v1).trips)
    (x6 : Vec Ideal S1x8192x128 .fp8e4m3) (x8 : Vec Ideal S1x1x128x8192 .fp8e4m3) (x12 : Vec Ideal S8192x128 .f32) (x13 : Vec Ideal S512x128 .fp8e4m3) (y : Vec Ideal S2x8192x512 .f32) (y14 y15 : Vec Ideal S2x8x512 .f32)
    (e6 : arg6.view.read (Elt Ideal) X6 = x6) (e8 : arg8.view.read (Elt Ideal) X8 = x8) (e12 : arg12.view.read (Elt Ideal) X12 = x12) (e13 : arg13.view.read (Elt Ideal) X13 = x13) (e14 : arg14.view.read (Elt Ideal) X14 = y14) (e15 : arg15.view.read (Elt Ideal) X15 = y15) (e11 : arg11.view.read (Elt Ideal) f11 = y)
    (ha : arg2 = BitVec.ofNat 32 (i 2).val) (hv40 : v40 = BitVec.ofNat 32 (full i v1)) (w : BitVec 32) (hw : v1 = w) (hv : w.toInt ≤ 8192)
    (hmx : mx0 = k0_pay125) (hl : l0 = k0_pay126) (hacc : ∀ z, arg16.view.read (Elt Ideal) (arg16.view.writes (Elt Ideal) f16 p16) z = (0 : EReal)) :
    RowsAt (mskS (len w) (i 2).val x6 x12 x13) (all i w) (cur i) (arg11.view.read (Elt Ideal) (arg11.view.writes (Elt Ideal) f11 (s6.2 ++ (s5.2 ++ (s4.2 ++ (s3.2 ++ (s2.2.1 ++ s1.2.1))))))) := by
  subst hw
  exact (chain 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v56 v59 c1_i32_36 v70 v77 v58_0 v58_1 X6 X8 X12 X13 X14 X15 f11 f16 p16 mx0 l0 s1 s2 s3 s4 s5 s6 s7 s8 h1 h2 h3 h4 h5 h6 h7 h8 x6 x8 x12 x13 y y14 y15 e6 e8 e12 e13 e14 e15 e11 ha hv40 hv hmx hl hacc).2.1

/-- `chain`, one conclusion: the sum; the prefix length named on its own. -/
theorem chain_l (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 v42 v44 v51 v56 v59 c1_i32_36 v70 v77 : BitVec 32) (v58_0 v58_1 : FVec Ideal S8x512 .f32) (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (f11 : BufTy.Contents (Elt Ideal) arg11.view.ty) (f16 : BufTy.Contents (Elt Ideal) arg16.view.ty) (p16 : List (View.Piece (Elt Ideal) S128x512 .f32)) (mx0 l0 : FVec Ideal S8x512 .f32)
    (s1 s2 : (FVec Ideal S8x512 .f32 × FVec Ideal S8x512 .f32) × List (View.Piece (Elt Ideal) S2x8192x512 .f32) × List (View.Piece (Elt Ideal) S128x512 .f32)) (s3 s4 s5 s6 : FVec Ideal S8x512 .f32 × List (View.Piece (Elt Ideal) S2x8192x512 .f32)) (s7 s8 : FVec Ideal S8x512 .f32 × List (View.Piece (Elt Ideal) S128x512 .f32))
    (h1 : s1 = st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X6 X8 X12 X13 X14 X15 f11 (arg16.view.writes (Elt Ideal) f16 p16) (mx0, l0) (k0_t1_loop i v1).trips)
    (h2 : s2 = st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v56 X6 X8 X12 X13 X14 X15 (arg11.view.writes (Elt Ideal) f11 s1.2.1) (arg16.view.writes (Elt Ideal) f16 (s1.2.2 ++ p16)) (s1.1.1, s1.1.2) (k0_t2_loop i v1).trips)
    (h3 : s3 = st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s2.1.1 (k0_t3_loop i v1).trips)
    (h4 : s4 = st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s3.1 (k0_t4_loop i v1).trips)
    (h5 : s5 = st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s4.1 (k0_t5_loop i v1).trips)
    (h6 : s6 = st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v70 X6 X12 X13 s5.1 (k0_t6_loop i v1).trips)
    (h7 : s7 = st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X8 (arg11.view.writes (Elt Ideal) f11 (s6.2 ++ (s5.2 ++ (s4.2 ++ (s3.2 ++ (s2.2.1 ++ s1.2.1)))))) X14 X15 (arg16.view.writes (Elt Ideal) f16 (s2.2.2 ++ (s1.2.2 ++ p16))) s2.1.2 (k0_t7_loop i v1).trips)
    (h8 : s8 = st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v77 X8 (arg11.view.writes (Elt Ideal) f11 (s6.2 ++ (s5.2 ++ (s4.2 ++ (s3.2 ++ (s2.2.1 ++ s1.2.1)))))) X14 X15 (arg16.view.writes (Elt Ideal) f16 (s7.2 ++ (s2.2.2 ++ (s1.2.2 ++ p16)))) s7.1 (k0_t8_loop i v1).trips)
    (x6 : Vec Ideal S1x8192x128 .fp8e4m3) (x8 : Vec Ideal S1x1x128x8192 .fp8e4m3) (x12 : Vec Ideal S8192x128 .f32) (x13 : Vec Ideal S512x128 .fp8e4m3) (y : Vec Ideal S2x8192x512 .f32) (y14 y15 : Vec Ideal S2x8x512 .f32)
    (e6 : arg6.view.read (Elt Ideal) X6 = x6) (e8 : arg8.view.read (Elt Ideal) X8 = x8) (e12 : arg12.view.read (Elt Ideal) X12 = x12) (e13 : arg13.view.read (Elt Ideal) X13 = x13) (e14 : arg14.view.read (Elt Ideal) X14 = y14) (e15 : arg15.view.read (Elt Ideal) X15 = y15) (e11 : arg11.view.read (Elt Ideal) f11 = y)
    (ha : arg2 = BitVec.ofNat 32 (i 2).val) (hv40 : v40 = BitVec.ofNat 32 (full i v1)) (w : BitVec 32) (hw : v1 = w) (hv : w.toInt ≤ 8192)
    (hmx : mx0 = k0_pay125) (hl : l0 = k0_pay126) (hacc : ∀ z, arg16.view.read (Elt Ideal) (arg16.view.writes (Elt Ideal) f16 p16) z = (0 : EReal)) :
    LAt (eOf y y14 y15 (prv i)) (old i w) s8.1 := by
  subst hw
  exact (chain 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v56 v59 c1_i32_36 v70 v77 v58_0 v58_1 X6 X8 X12 X13 X14 X15 f11 f16 p16 mx0 l0 s1 s2 s3 s4 s5 s6 s7 s8 h1 h2 h3 h4 h5 h6 h7 h8 x6 x8 x12 x13 y y14 y15 e6 e8 e12 e13 e14 e15 e11 ha hv40 hv hmx hl hacc).2.2.1

/-- `chain`, one conclusion: the product; the prefix length named on its own. -/
theorem chain_acc (𝒱 : Variants) (c : Dev nD) (bd : Option 𝒱.V) (i : grid0.Coords) (arg3 : Memref sig .tc .smem S3 .i32) (harg3 : arg3.IsWhole) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (arg2 : BitVec 32) (v1 : Elt Ideal .i32) (k0_hw1 : k0_chk1 i v1) (v2 : BitVec 32) (v3 : BitVec 32) (v40 v42 v44 v51 v56 v59 c1_i32_36 v70 v77 : BitVec 32) (v58_0 v58_1 : FVec Ideal S8x512 .f32) (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (f11 : BufTy.Contents (Elt Ideal) arg11.view.ty) (f16 : BufTy.Contents (Elt Ideal) arg16.view.ty) (p16 : List (View.Piece (Elt Ideal) S128x512 .f32)) (mx0 l0 : FVec Ideal S8x512 .f32)
    (s1 s2 : (FVec Ideal S8x512 .f32 × FVec Ideal S8x512 .f32) × List (View.Piece (Elt Ideal) S2x8192x512 .f32) × List (View.Piece (Elt Ideal) S128x512 .f32)) (s3 s4 s5 s6 : FVec Ideal S8x512 .f32 × List (View.Piece (Elt Ideal) S2x8192x512 .f32)) (s7 s8 : FVec Ideal S8x512 .f32 × List (View.Piece (Elt Ideal) S128x512 .f32))
    (h1 : s1 = st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 X6 X8 X12 X13 X14 X15 f11 (arg16.view.writes (Elt Ideal) f16 p16) (mx0, l0) (k0_t1_loop i v1).trips)
    (h2 : s2 = st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v56 X6 X8 X12 X13 X14 X15 (arg11.view.writes (Elt Ideal) f11 s1.2.1) (arg16.view.writes (Elt Ideal) f16 (s1.2.2 ++ p16)) (s1.1.1, s1.1.2) (k0_t2_loop i v1).trips)
    (h3 : s3 = st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s2.1.1 (k0_t3_loop i v1).trips)
    (h4 : s4 = st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s3.1 (k0_t4_loop i v1).trips)
    (h5 : s5 = st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X6 X12 X13 s4.1 (k0_t5_loop i v1).trips)
    (h6 : s6 = st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v70 X6 X12 X13 s5.1 (k0_t6_loop i v1).trips)
    (h7 : s7 = st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 X8 (arg11.view.writes (Elt Ideal) f11 (s6.2 ++ (s5.2 ++ (s4.2 ++ (s3.2 ++ (s2.2.1 ++ s1.2.1)))))) X14 X15 (arg16.view.writes (Elt Ideal) f16 (s2.2.2 ++ (s1.2.2 ++ p16))) s2.1.2 (k0_t7_loop i v1).trips)
    (h8 : s8 = st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v58_0 v58_1 v59 c1_i32_36 v77 X8 (arg11.view.writes (Elt Ideal) f11 (s6.2 ++ (s5.2 ++ (s4.2 ++ (s3.2 ++ (s2.2.1 ++ s1.2.1)))))) X14 X15 (arg16.view.writes (Elt Ideal) f16 (s7.2 ++ (s2.2.2 ++ (s1.2.2 ++ p16)))) s7.1 (k0_t8_loop i v1).trips)
    (x6 : Vec Ideal S1x8192x128 .fp8e4m3) (x8 : Vec Ideal S1x1x128x8192 .fp8e4m3) (x12 : Vec Ideal S8192x128 .f32) (x13 : Vec Ideal S512x128 .fp8e4m3) (y : Vec Ideal S2x8192x512 .f32) (y14 y15 : Vec Ideal S2x8x512 .f32)
    (e6 : arg6.view.read (Elt Ideal) X6 = x6) (e8 : arg8.view.read (Elt Ideal) X8 = x8) (e12 : arg12.view.read (Elt Ideal) X12 = x12) (e13 : arg13.view.read (Elt Ideal) X13 = x13) (e14 : arg14.view.read (Elt Ideal) X14 = y14) (e15 : arg15.view.read (Elt Ideal) X15 = y15) (e11 : arg11.view.read (Elt Ideal) f11 = y)
    (ha : arg2 = BitVec.ofNat 32 (i 2).val) (hv40 : v40 = BitVec.ofNat 32 (full i v1)) (w : BitVec 32) (hw : v1 = w) (hv : w.toInt ≤ 8192)
    (hmx : mx0 = k0_pay125) (hl : l0 = k0_pay126) (hacc : ∀ z, arg16.view.read (Elt Ideal) (arg16.view.writes (Elt Ideal) f16 p16) z = (0 : EReal)) :
    AccAt (vOf x8) (eOf y y14 y15 (prv i)) (old i w) (arg16.view.read (Elt Ideal) (arg16.view.writes (Elt Ideal) f16 (s8.2 ++ (s7.2 ++ (s2.2.2 ++ (s1.2.2 ++ p16)))))) := by
  subst hw
  exact (chain 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v1 k0_hw1 v2 v3 v40 v42 v44 v51 v56 v59 c1_i32_36 v70 v77 v58_0 v58_1 X6 X8 X12 X13 X14 X15 f11 f16 p16 mx0 l0 s1 s2 s3 s4 s5 s6 s7 s8 h1 h2 h3 h4 h5 h6 h7 h8 x6 x8 x12 x13 y y14 y15 e6 e8 e12 e13 e14 e15 e11 ha hv40 hv hmx hl hacc).2.2.2

end Cert.KernelIdeal.Hand

end
-- ==== Proof.KI.Facts.lean ====
module

public import proofs.«01_k».proof.Proof.KI.Spec
public import Idealize.ShloMosaic.Lib.ValueLayout

/-! What the body stores after its loops: the scales, the shifts and the rows of the output; and what it stores before them:
the queries of the four heads under each other and the scales of the keys along the lanes. -/

@[expose] public section

noncomputable section

namespace Cert.KernelIdeal.Hand

open Cert.KernelIdeal.Gen Cert.Words
open Idealize.ShloMosaic Idealize.ShloMosaic.ValueIdx Idealize.ShloMosaic.View Idealize.ShloMosaic.Pipeline

/-- The query head of a column. -/
def head (c : Fin 512) : Fin 4 := ⟨c.val / 128, by omega⟩

/-- Column `k` of head `h`. -/
def hcol (h : Fin 4) (k : Fin 128) : Fin 512 := ⟨128 * h.val + k.val, by omega⟩

theorem hcol_cases (c : Fin 512) : c = hcol (head c) (lane c) :=
  Fin.ext (by show c.val = 128 * (c.val / 128) + c.val % 128; omega)

theorem head_hcol (h : Fin 4) (k : Fin 128) : head (hcol h k) = h := Fin.ext (by show (128 * h.val + k.val) / 128 = h.val; omega)

theorem lane_hcol (h : Fin 4) (k : Fin 128) : lane (hcol h k) = k := Fin.ext (by show (128 * h.val + k.val) % 128 = k.val; omega)

/-- The constant the scales of the queries are multiplied by. -/
def cC : EReal := (Named.named κ "c" 0x3E0293EE#32 : Ideal .f32)

/-- The scale of column `c`. -/
def cOf (x5 : Vec Ideal S1x1x4x128 .f32) (c : Fin 512) : EReal := x5 (ix4 (0 : Fin 1) (0 : Fin 1) (head c) (lane c)) * cC

/-- The queries of the four heads under each other. -/
def qtOf (x4 : Vec Ideal S1x128x512 .fp8e4m3) : Vec Ideal S512x128 .fp8e4m3 := fun z =>
  x4 (ix3 (0 : Fin 1) (lane (z 0)) (hcol (head (z 0)) (z 1)))

/-- The scales of the keys along the lanes. -/
def KslAt (x7 : Vec Ideal S1x1x1x8192 .f32) (y : Vec Ideal S8192x128 .f32) : Prop :=
  ∀ (j : Fin 8192) (k : Fin 128), y (ix2 j k) = x7 (ix4 (0 : Fin 1) (0 : Fin 1) (0 : Fin 1) j)

/-- The scales in slot `p`. -/
def CAt (x5 : Vec Ideal S1x1x4x128 .f32) (p : Fin 2) (y : Vec Ideal S2x8x512 .f32) : Prop :=
  ∀ (s : Fin 8) (c : Fin 512), y (ix3 p s c) = cOf x5 c

/-- The shift of column `c` after `B` blocks. -/
def mOf (S : ℕ → Fin 512 → EReal) (B : ℕ) (x5 : Vec Ideal S1x1x4x128 .f32) (c : Fin 512) : EReal :=
  ((Finset.range (512 * B)).sup fun j => S j c) * cOf x5 c - 8

/-- The shifts in slot `p`. -/
def MAt (S : ℕ → Fin 512 → EReal) (B : ℕ) (x5 : Vec Ideal S1x1x4x128 .f32) (p : Fin 2) (y : Vec Ideal S2x8x512 .f32) : Prop :=
  ∀ (s : Fin 8) (c : Fin 512), y (ix3 p s c) = mOf S B x5 c

/-- One output. -/
def oOf (W : ℕ → Fin 128 → EReal) (E : ℕ → Fin 512 → EReal) (B : ℕ) (x9 : Vec Ideal S1x1x1x128 .f32) (h : Fin 4)
    (a d : Fin 128) : EReal :=
  Ideal.div (∑ j ∈ Finset.range (512 * B), W j d * min (E j (hcol h a)) 448) (∑ j ∈ Finset.range (512 * B), E j (hcol h a))
    * x9 (ix4 (0 : Fin 1) (0 : Fin 1) (0 : Fin 1) d)

/-- The output block. -/
def OutAt (W : ℕ → Fin 128 → EReal) (E : ℕ → Fin 512 → EReal) (B : ℕ) (x9 : Vec Ideal S1x1x1x128 .f32)
    (y : Vec Ideal S1x128x512 .bf16) : Prop :=
  ∀ (h : Fin 4) (a d : Fin 128), y (ix3 (0 : Fin 1) a (hcol h d)) = oOf W E B x9 h a d

theorem eight_f32 : Ideal.ofBits .f32 0x41000000#32 = 8 := by
  rw [show (8 : EReal) = ((8 : ℝ) : EReal) by norm_cast]
  simp [Ideal.ofBits, Ideal.ieee, -EReal.coe_mul]; norm_num

/-- A sum by sublanes is the sum. -/
theorem sum_subl (f : ℕ → EReal) (n : ℕ) :
    ∑ s ∈ Finset.range 8, ∑ q ∈ Finset.range n, f (8 * q + s) = ∑ j ∈ Finset.range (8 * n), f j := by
  induction n with
  | zero => simp
  | succ n ih =>
    simp only [Finset.sum_range_succ _ n, Finset.sum_add_distrib, ih, Nat.mul_succ, Finset.sum_range_add]

/-- A greatest by sublanes is the greatest. -/
theorem sup_subl (f : ℕ → EReal) (n : ℕ) :
    ((Finset.range 8).sup fun s => (Finset.range n).sup fun q => f (8 * q + s)) = (Finset.range (8 * n)).sup f := by
  apply le_antisymm
  · refine Finset.sup_le fun s hs => Finset.sup_le fun q hq => ?_
    rw [Finset.mem_range] at hs hq
    exact Finset.le_sup (f := f) (Finset.mem_range.mpr (by omega))
  · refine Finset.sup_le fun j hj => ?_
    rw [Finset.mem_range] at hj
    refine le_trans ?_ (Finset.le_sup (b := j % 8) (Finset.mem_range.mpr (by omega)))
    refine le_trans (le_of_eq ?_) (Finset.le_sup (b := j / 8) (Finset.mem_range.mpr (by omega)))
    show f j = f (8 * (j / 8) + j % 8)
    rw [Nat.div_add_mod]

/-- A row of 128 read out of a row of four unit axes. -/
theorem cast_111a_1a (x : Vec Ideal S1x1x1x128 .f32) (h : S1x1x1x128.ShapeCasts S1x128) (u : Fin 1) (k : Fin 128) :
    shapeCast S1x128 x h (ix2 u k) = x (ix4 (0 : Fin 1) (0 : Fin 1) (0 : Fin 1) k) :=
  shapeCast_apply x h _ _ (by
    have hu : u.val = 0 := by omega
    rw [Shape.rowMajor_val_four, Shape.rowMajor_val_two]
    show ((0 * 1 + 0) * 1 + 0) * 128 + k.val = u.val * 128 + k.val
    rw [hu])

/-- The scales of one head. -/
theorem c_apply (v : Vec Ideal S1x1x1x128 .f32) (s : Fin 8) (k : Fin 128) :
    k0_pay2 v (ix2 s k) = v (ix4 (0 : Fin 1) (0 : Fin 1) (0 : Fin 1) k) * cC := by
  unfold k0_pay2
  refine (broadcastTo_1b_ab_apply _ _ s k).trans ?_
  rw [shapeCast_self, mulf_apply, cast_111a_1a]
  rfl

theorem cRow_apply (v : Vec Ideal S1x1x1x128 .f32) (s : Fin 8) (k : Fin 128) :
    k0_pay3 v (ix3 (0 : Fin 1) s k) = v (ix4 (0 : Fin 1) (0 : Fin 1) (0 : Fin 1) k) * cC := by
  unfold k0_pay3
  exact (shapeCast_ab_1ab_apply _ _ _ _ _).trans (c_apply v s k)

/-- The shifts of one head. -/
def mRow (o : ℕ) (h : S8x512.Slices ![0, o] S8x128) (mx : FVec Ideal S8x512 .f32) (v : Vec Ideal S1x1x1x128 .f32) :
    FVec Ideal S1x8x128 .f32 :=
  shapeCast S1x8x128 (subf (mulf (broadcastTo S8x128 (shapeCast S1x128 (multiReduction .maximumf [0] S128
    (extractStridedSlice S8x128 ![0, o] mx h) 0xFF800000#32 reduces_S8x128_S128 (.inl rfl) rfl) shapeCasts_S128_S1x128)
    broadcasts_S1x128_S8x128) (k0_pay2 v)) (broadcast S8x128 (Scalar.ofBits .f32 0x41000000#32))) shapeCasts_S8x128_S1x8x128

theorem mRow_apply (S : ℕ → Fin 512 → EReal) (B o : ℕ) (h : S8x512.Slices ![0, o] S8x128) (mx : FVec Ideal S8x512 .f32)
    (hmx : MxAt S B mx) (v : Vec Ideal S1x1x1x128 .f32) (s : Fin 8) (k : Fin 128) (c : Fin 512) (hc : c.val = o + k.val) :
    mRow o h mx v (ix3 (0 : Fin 1) s k)
      = ((Finset.range (512 * B)).sup fun j => S j c) * (v (ix4 (0 : Fin 1) (0 : Fin 1) (0 : Fin 1) k) * cC) - 8 := by
  unfold mRow
  refine (shapeCast_ab_1ab_apply _ _ _ _ _).trans ?_
  rw [subf_apply, mulf_apply, c_apply, broadcast_apply]
  rw [show (Scalar.ofBits (F := Ideal) .f32 0x41000000#32 : EReal) = 8 from eight_f32]
  congr 2
  refine (broadcastTo_1b_ab_apply _ _ s k).trans ?_
  refine (shapeCast_a_1a_apply _ _ _ _).trans ?_
  refine (Ideal.multiReduction_maximumf_single _ _ _ _ _ _).trans ?_
  rw [show (FloatOps.ofBits (F := Ideal) .f32 0xFF800000#32) = (⊥ : EReal) from ninf_f32]
  rw [show 512 * B = 8 * (64 * B) by ring, ← sup_subl]
  refine fold_max_bot (n := 8) _ _ fun (q : Fin 8) => ?_
  refine Eq.trans ?_ (hmx q c)
  refine Eq.trans ?_ (slice2_axis1_apply (n0 := 8) (n1 := 512) (m := 128) o mx h q k c hc)
  show (extractStridedSlice S8x128 ![0, o] mx h) _ = (extractStridedSlice S8x128 ![0, o] mx h) (ix2 q k : S8x128.Idx)
  have e : reduces_S8x128_S128.lift (ix1 k) q = (ix2 q k : S8x128.Idx) :=
    funext fun (a : Fin 2) => by match a with | ⟨0, _⟩ => rfl | ⟨1, _⟩ => rfl
  exact congrArg (extractStridedSlice S8x128 ![0, o] mx h) e

/-- The output rows of one head. -/
def oRow (o : ℕ) (h : S8x512.Slices ![0, o] S8x128) (l : FVec Ideal S8x512 .f32) (acc : Vec Ideal S128x128 .f32)
    (v : Vec Ideal S1x1x1x128 .f32) : FVec Ideal S1x128x128 .bf16 :=
  shapeCast S1x128x128 (truncf .bf16 (mulf (transpose S128x128 [1, 0] (divf acc (broadcastTo S128x128 (shapeCast S1x128
    (multiReduction .add [0] S128 (extractStridedSlice S8x128 ![0, o] l h) 0x00000000#32 reduces_S8x128_S128 (.inl rfl) rfl)
    shapeCasts_S128_S1x128) broadcasts_S1x128_S128x128)) transposes_S128x128_p1_0_S128x128)
    (broadcastTo S128x128 (shapeCast S1x128 v shapeCasts_S1x1x1x128_S1x128) broadcasts_S1x128_S128x128)) bitsLt_bf16_f32)
    shapeCasts_S128x128_S1x128x128

theorem oRow_apply (E : ℕ → Fin 512 → EReal) (B o : ℕ) (h : S8x512.Slices ![0, o] S8x128) (l : FVec Ideal S8x512 .f32)
    (hl : LAt E B l) (acc : Vec Ideal S128x128 .f32) (v : Vec Ideal S1x1x1x128 .f32) (a d : Fin 128) (c : Fin 512)
    (hc : c.val = o + a.val) :
    oRow o h l acc v (ix3 (0 : Fin 1) a d)
      = Ideal.div (acc (ix2 d a)) (∑ j ∈ Finset.range (512 * B), E j c) * v (ix4 (0 : Fin 1) (0 : Fin 1) (0 : Fin 1) d) := by
  unfold oRow
  refine (shapeCast_ab_1ab_apply _ _ _ _ _).trans ?_
  rw [truncf_apply, mulf_apply]
  congr 1
  · refine (transpose_ix2_apply _ _ _ _).trans ?_
    rw [divf_apply]
    refine congrArg (Ideal.div _) ?_
    refine (broadcastTo_1b_ab_apply _ _ d a).trans ?_
    refine (shapeCast_a_1a_apply _ _ _ _).trans ?_
    refine (Ideal.multiReduction_add_single _ _ _ _ _ _).trans ?_
    rw [show 512 * B = 8 * (64 * B) by ring, ← sum_subl, Finset.sum_range]
    refine Finset.sum_congr rfl fun (q : Fin 8) _ => ?_
    refine Eq.trans ?_ (hl q c)
    refine Eq.trans ?_ (slice2_axis1_apply (n0 := 8) (n1 := 512) (m := 128) o l h q a c hc)
    show (extractStridedSlice S8x128 ![0, o] l h) _ = (extractStridedSlice S8x128 ![0, o] l h) (ix2 q a : S8x128.Idx)
    have e : reduces_S8x128_S128.lift (ix1 a) q = (ix2 q a : S8x128.Idx) :=
      funext fun (a : Fin 2) => by match a with | ⟨0, _⟩ => rfl | ⟨1, _⟩ => rfl
    exact congrArg (extractStridedSlice S8x128 ![0, o] l h) e
  · exact (broadcastTo_1b_ab_apply _ _ a d).trans (cast_111a_1a _ _ _ _)

section

variable (v14 : Memref sig .tc .vmem S2x8x512 .f32) (v10 : Memref sig .tc .vmem S1x128x512 .bf16)
  (v13 : Memref sig .tc .vmem S512x128 .fp8e4m3) (v12 : Memref sig .tc .vmem S8192x128 .f32)

/-- Four rows stored side by side in a slot. -/
theorem store4 (f : BufTy.Contents (Elt Ideal) v14.view.ty) {o0 o1 o2 o3 : Fin 3 → ℕ}
    (i0 : ∀ a, o0 a + S1x8x128.size a ≤ S2x8x512.size a) (i1 : ∀ a, o1 a + S1x8x128.size a ≤ S2x8x512.size a)
    (i2 : ∀ a, o2 a + S1x8x128.size a ≤ S2x8x512.size a) (i3 : ∀ a, o3 a + S1x8x128.size a ≤ S2x8x512.size a)
    (w0 w1 w2 w3 : FVec Ideal S1x8x128 .f32) (p : Fin 2) (e0 : o0 = ![p.val, 0, 0]) (e1 : o1 = ![p.val, 0, 128])
    (e2 : o2 = ![p.val, 0, 256]) (e3 : o3 = ![p.val, 0, 384]) (g : Fin 8 → Fin 512 → EReal)
    (h0 : ∀ s k, w0 (ix3 (0 : Fin 1) s k) = g s (hcol 0 k)) (h1 : ∀ s k, w1 (ix3 (0 : Fin 1) s k) = g s (hcol 1 k))
    (h2 : ∀ s k, w2 (ix3 (0 : Fin 1) s k) = g s (hcol 2 k)) (h3 : ∀ s k, w3 (ix3 (0 : Fin 1) s k) = g s (hcol 3 k))
    (s : Fin 8) (c : Fin 512) :
    v14.view.read (Elt Ideal) (v14.view.writes (Elt Ideal) f [⟨Rect.unit (s := S2x8x512) o3 S1x8x128.size i3, w3⟩,
      ⟨Rect.unit (s := S2x8x512) o2 S1x8x128.size i2, w2⟩, ⟨Rect.unit (s := S2x8x512) o1 S1x8x128.size i1, w1⟩,
      ⟨Rect.unit (s := S2x8x512) o0 S1x8x128.size i0, w0⟩]) (ix3 p s c) = g s c := by
  rw [hcol_cases c]
  generalize head c = h
  generalize lane c = k
  have hk := k.isLt
  have key : ∀ (b : ℕ) (a : Fin 3), b = 128 * h.val →
      ((ix3 p s (hcol h k) : S2x8x512.Idx) a).val = (![p.val, 0, b] : Fin 3 → ℕ) a + ((ix3 (0 : Fin 1) s k : S1x8x128.Idx) a).val := by
    intro b a hb
    match a with
    | ⟨0, _⟩ => rfl
    | ⟨1, _⟩ => exact (Nat.zero_add _).symm
    | ⟨2, _⟩ => subst hb; rfl
  fin_cases h
  · rw [read_writes_cons_unit_of_not_mem _ _ _ _ _ _ e3 (2 : Fin 3) (.inl (by show 128 * 0 + k.val < 384; omega)),
      read_writes_cons_unit_of_not_mem _ _ _ _ _ _ e2 (2 : Fin 3) (.inl (by show 128 * 0 + k.val < 256; omega)),
      read_writes_cons_unit_of_not_mem _ _ _ _ _ _ e1 (2 : Fin 3) (.inl (by show 128 * 0 + k.val < 128; omega))]
    exact (read_writes_cons_unit_of_mem v14.view f i0 w0 _ _ (ix3 (0 : Fin 1) s k) e0 fun a => key 0 a rfl).trans (h0 s k)
  · rw [read_writes_cons_unit_of_not_mem _ _ _ _ _ _ e3 (2 : Fin 3) (.inl (by show 128 * 1 + k.val < 384; omega)),
      read_writes_cons_unit_of_not_mem _ _ _ _ _ _ e2 (2 : Fin 3) (.inl (by show 128 * 1 + k.val < 256; omega))]
    exact (read_writes_cons_unit_of_mem v14.view f i1 w1 _ _ (ix3 (0 : Fin 1) s k) e1 fun a => key 128 a rfl).trans (h1 s k)
  · rw [read_writes_cons_unit_of_not_mem _ _ _ _ _ _ e3 (2 : Fin 3) (.inl (by show 128 * 2 + k.val < 384; omega))]
    exact (read_writes_cons_unit_of_mem v14.view f i2 w2 _ _ (ix3 (0 : Fin 1) s k) e2 fun a => key 256 a rfl).trans (h2 s k)
  · exact (read_writes_cons_unit_of_mem v14.view f i3 w3 _ _ (ix3 (0 : Fin 1) s k) e3 fun a => key 384 a rfl).trans (h3 s k)

/-- Four heads stored side by side in the output block. -/
theorem out4 (f : BufTy.Contents (Elt Ideal) v10.view.ty)
    (i0 : ∀ a, (![0, 0, 0] : Fin 3 → ℕ) a + S1x128x128.size a ≤ S1x128x512.size a)
    (i1 : ∀ a, (![0, 0, 128] : Fin 3 → ℕ) a + S1x128x128.size a ≤ S1x128x512.size a)
    (i2 : ∀ a, (![0, 0, 256] : Fin 3 → ℕ) a + S1x128x128.size a ≤ S1x128x512.size a)
    (i3 : ∀ a, (![0, 0, 384] : Fin 3 → ℕ) a + S1x128x128.size a ≤ S1x128x512.size a)
    (w0 w1 w2 w3 : FVec Ideal S1x128x128 .bf16) (g : Fin 4 → Fin 128 → Fin 128 → EReal)
    (h0 : ∀ a d, w0 (ix3 (0 : Fin 1) a d) = g 0 a d) (h1 : ∀ a d, w1 (ix3 (0 : Fin 1) a d) = g 1 a d)
    (h2 : ∀ a d, w2 (ix3 (0 : Fin 1) a d) = g 2 a d) (h3 : ∀ a d, w3 (ix3 (0 : Fin 1) a d) = g 3 a d)
    (h : Fin 4) (q d : Fin 128) :
    v10.view.read (Elt Ideal) (v10.view.writes (Elt Ideal) f
      [⟨Rect.unit (s := S1x128x512) ![0, 0, 384] S1x128x128.size i3, w3⟩,
        ⟨Rect.unit (s := S1x128x512) ![0, 0, 256] S1x128x128.size i2, w2⟩,
        ⟨Rect.unit (s := S1x128x512) ![0, 0, 128] S1x128x128.size i1, w1⟩,
        ⟨Rect.unit (s := S1x128x512) ![0, 0, 0] S1x128x128.size i0, w0⟩]) (ix3 (0 : Fin 1) q (hcol h d)) = g h q d := by
  have hk := d.isLt
  have key : ∀ (b : ℕ) (a : Fin 3), b = 128 * h.val →
      ((ix3 (0 : Fin 1) q (hcol h d) : S1x128x512.Idx) a).val
        = (![0, 0, b] : Fin 3 → ℕ) a + ((ix3 (0 : Fin 1) q d : S1x128x128.Idx) a).val := by
    intro b a hb
    match a with
    | ⟨0, _⟩ => rfl
    | ⟨1, _⟩ => exact (Nat.zero_add _).symm
    | ⟨2, _⟩ => subst hb; rfl
  fin_cases h
  · rw [read_writes_cons_unit_of_not_mem _ _ _ _ _ _ rfl (2 : Fin 3) (.inl (by show 128 * 0 + d.val < 384; omega)),
      read_writes_cons_unit_of_not_mem _ _ _ _ _ _ rfl (2 : Fin 3) (.inl (by show 128 * 0 + d.val < 256; omega)),
      read_writes_cons_unit_of_not_mem _ _ _ _ _ _ rfl (2 : Fin 3) (.inl (by show 128 * 0 + d.val < 128; omega))]
    exact (read_writes_cons_unit_of_mem v10.view f i0 w0 _ _ (ix3 (0 : Fin 1) q d) rfl fun a => key 0 a rfl).trans (h0 q d)
  · rw [read_writes_cons_unit_of_not_mem _ _ _ _ _ _ rfl (2 : Fin 3) (.inl (by show 128 * 1 + d.val < 384; omega)),
      read_writes_cons_unit_of_not_mem _ _ _ _ _ _ rfl (2 : Fin 3) (.inl (by show 128 * 1 + d.val < 256; omega))]
    exact (read_writes_cons_unit_of_mem v10.view f i1 w1 _ _ (ix3 (0 : Fin 1) q d) rfl fun a => key 128 a rfl).trans (h1 q d)
  · rw [read_writes_cons_unit_of_not_mem _ _ _ _ _ _ rfl (2 : Fin 3) (.inl (by show 128 * 2 + d.val < 384; omega))]
    exact (read_writes_cons_unit_of_mem v10.view f i2 w2 _ _ (ix3 (0 : Fin 1) q d) rfl fun a => key 256 a rfl).trans (h2 q d)
  · exact (read_writes_cons_unit_of_mem v10.view f i3 w3 _ _ (ix3 (0 : Fin 1) q d) rfl fun a => key 384 a rfl).trans (h3 q d)

/-- Four heads stored under each other. -/
theorem qt4 (f : BufTy.Contents (Elt Ideal) v13.view.ty)
    (i0 : ∀ a, (![0, 0] : Fin 2 → ℕ) a + S128x128.size a ≤ S512x128.size a)
    (i1 : ∀ a, (![128, 0] : Fin 2 → ℕ) a + S128x128.size a ≤ S512x128.size a)
    (i2 : ∀ a, (![256, 0] : Fin 2 → ℕ) a + S128x128.size a ≤ S512x128.size a)
    (i3 : ∀ a, (![384, 0] : Fin 2 → ℕ) a + S128x128.size a ≤ S512x128.size a)
    (w0 w1 w2 w3 : FVec Ideal S128x128 .fp8e4m3) (x4 : Vec Ideal S1x128x512 .fp8e4m3)
    (h0 : ∀ a d, w0 (ix2 a d) = x4 (ix3 (0 : Fin 1) a (hcol 0 d))) (h1 : ∀ a d, w1 (ix2 a d) = x4 (ix3 (0 : Fin 1) a (hcol 1 d)))
    (h2 : ∀ a d, w2 (ix2 a d) = x4 (ix3 (0 : Fin 1) a (hcol 2 d))) (h3 : ∀ a d, w3 (ix2 a d) = x4 (ix3 (0 : Fin 1) a (hcol 3 d))) :
    v13.view.read (Elt Ideal) (v13.view.writes (Elt Ideal) f
      [⟨Rect.unit (s := S512x128) ![384, 0] S128x128.size i3, w3⟩,
        ⟨Rect.unit (s := S512x128) ![256, 0] S128x128.size i2, w2⟩,
        ⟨Rect.unit (s := S512x128) ![128, 0] S128x128.size i1, w1⟩,
        ⟨Rect.unit (s := S512x128) ![0, 0] S128x128.size i0, w0⟩]) = qtOf x4 := by
  funext z
  obtain ⟨c, d, rfl⟩ : ∃ (c : Fin 512) (d : Fin 128), z = ix2 c d := ⟨z 0, z 1, eq_ix2 z⟩
  show _ = x4 (ix3 (0 : Fin 1) (lane c) (hcol (head c) d))
  obtain ⟨h, k, hh, hk', rfl⟩ : ∃ h k, head c = h ∧ lane c = k ∧ c = hcol h k := ⟨_, _, rfl, rfl, hcol_cases c⟩
  rw [hh, hk']
  clear hh hk'
  have hk := k.isLt
  have key : ∀ (b : ℕ) (a : Fin 2), b = 128 * h.val →
      ((ix2 (hcol h k) d : S512x128.Idx) a).val = (![b, 0] : Fin 2 → ℕ) a + ((ix2 k d : S128x128.Idx) a).val := by
    intro b a hb
    match a with
    | ⟨0, _⟩ => subst hb; rfl
    | ⟨1, _⟩ => exact (Nat.zero_add _).symm
  fin_cases h
  · rw [read_writes_cons_unit_of_not_mem _ _ _ _ _ _ rfl (0 : Fin 2) (.inl (by show 128 * 0 + k.val < 384; omega)),
      read_writes_cons_unit_of_not_mem _ _ _ _ _ _ rfl (0 : Fin 2) (.inl (by show 128 * 0 + k.val < 256; omega)),
      read_writes_cons_unit_of_not_mem _ _ _ _ _ _ rfl (0 : Fin 2) (.inl (by show 128 * 0 + k.val < 128; omega))]
    exact (read_writes_cons_unit_of_mem v13.view f i0 w0 _ _ (ix2 k d) rfl fun a => key 0 a rfl).trans (h0 k d)
  · rw [read_writes_cons_unit_of_not_mem _ _ _ _ _ _ rfl (0 : Fin 2) (.inl (by show 128 * 1 + k.val < 384; omega)),
      read_writes_cons_unit_of_not_mem _ _ _ _ _ _ rfl (0 : Fin 2) (.inl (by show 128 * 1 + k.val < 256; omega))]
    exact (read_writes_cons_unit_of_mem v13.view f i1 w1 _ _ (ix2 k d) rfl fun a => key 128 a rfl).trans (h1 k d)
  · rw [read_writes_cons_unit_of_not_mem _ _ _ _ _ _ rfl (0 : Fin 2) (.inl (by show 128 * 2 + k.val < 384; omega))]
    exact (read_writes_cons_unit_of_mem v13.view f i2 w2 _ _ (ix2 k d) rfl fun a => key 256 a rfl).trans (h2 k d)
  · exact (read_writes_cons_unit_of_mem v13.view f i3 w3 _ _ (ix2 k d) rfl fun a => key 384 a rfl).trans (h3 k d)

/-- One head of the queries, as loaded and stored. -/
theorem qPay_apply (v4 : Memref sig .tc .vmem S1x128x512 .fp8e4m3) (f : BufTy.Contents (Elt Ideal) v4.view.ty)
    (x4 : Vec Ideal S1x128x512 .fp8e4m3) (hx : v4.view.read (Elt Ideal) f = x4) (o : ℕ) (h : Fin 4) (ho : o = 128 * h.val)
    (inb : ∀ a, (![0, 0, o] : Fin 3 → ℕ) a + S1x128x128.size a ≤ S1x128x512.size a) (a d : Fin 128) :
    k0_pay120 (View.readAt (Elt Ideal) v4.view (Rect.unit (s := S1x128x512) ![0, 0, o] S1x128x128.size inb).toLoadRect f)
      (ix2 a d) = x4 (ix3 (0 : Fin 1) a (hcol h d)) := by
  unfold k0_pay120
  rw [shapeCast_self]
  refine (shapeCast_1ab_ab_apply _ _ _ _).trans ?_
  rw [← hx]
  refine readAt_at v4 inb f _ (ix3 (0 : Fin 1) a (hcol h d)) rfl fun x => ?_
  match x with
  | ⟨0, _⟩ => rfl
  | ⟨1, _⟩ => exact (Nat.zero_add _).symm
  | ⟨2, _⟩ => subst ho; rfl

/-- One head of the scales of the queries, as loaded. -/
theorem qs_read (v5 : Memref sig .tc .vmem S1x1x4x128 .f32) (f : BufTy.Contents (Elt Ideal) v5.view.ty)
    (x5 : Vec Ideal S1x1x4x128 .f32) (hx : v5.view.read (Elt Ideal) f = x5) (o : ℕ) (h : Fin 4) (ho : o = h.val)
    (inb : ∀ a, (![0, 0, o, 0] : Fin 4 → ℕ) a + S1x1x1x128.size a ≤ S1x1x4x128.size a) (k : Fin 128) :
    View.readAt (Elt Ideal) v5.view (Rect.unit (s := S1x1x4x128) ![0, 0, o, 0] S1x1x1x128.size inb).toLoadRect f
      (ix4 (0 : Fin 1) (0 : Fin 1) (0 : Fin 1) k) = x5 (ix4 (0 : Fin 1) (0 : Fin 1) h k) := by
  rw [← hx]
  refine readAt_at v5 inb f _ (ix4 (0 : Fin 1) (0 : Fin 1) h k) rfl fun x => ?_
  match x with
  | ⟨0, _⟩ => rfl
  | ⟨1, _⟩ => rfl
  | ⟨2, _⟩ => subst ho; rfl
  | ⟨3, _⟩ => exact (Nat.zero_add _).symm

/-- The scales of the values, as loaded. -/
theorem vs_read (v9 : Memref sig .tc .vmem S1x1x1x128 .f32) (f : BufTy.Contents (Elt Ideal) v9.view.ty)
    (x9 : Vec Ideal S1x1x1x128 .f32) (hx : v9.view.read (Elt Ideal) f = x9)
    (inb : ∀ a, (![0, 0, 0, 0] : Fin 4 → ℕ) a + S1x1x1x128.size a ≤ S1x1x1x128.size a) (k : Fin 128) :
    View.readAt (Elt Ideal) v9.view (Rect.unit (s := S1x1x1x128) ![0, 0, 0, 0] S1x1x1x128.size inb).toLoadRect f
      (ix4 (0 : Fin 1) (0 : Fin 1) (0 : Fin 1) k) = x9 (ix4 (0 : Fin 1) (0 : Fin 1) (0 : Fin 1) k) := by
  rw [← hx]
  refine readAt_at v9 inb f _ (ix4 (0 : Fin 1) (0 : Fin 1) (0 : Fin 1) k) rfl fun x => ?_
  match x with
  | ⟨0, _⟩ => rfl
  | ⟨1, _⟩ => rfl
  | ⟨2, _⟩ => rfl
  | ⟨3, _⟩ => exact (Nat.zero_add _).symm

/-- One head of the products, as loaded. -/
theorem acc_read (v16 : Memref sig .tc .vmem S128x512 .f32) (f : BufTy.Contents (Elt Ideal) v16.view.ty) (o : ℕ) (h : Fin 4)
    (ho : o = 128 * h.val) (inb : ∀ a, (![0, o] : Fin 2 → ℕ) a + S128x128.size a ≤ S128x512.size a) (d a : Fin 128) :
    View.readAt (Elt Ideal) v16.view (Rect.unit (s := S128x512) ![0, o] S128x128.size inb).toLoadRect f (ix2 d a)
      = v16.view.read (Elt Ideal) f (ix2 d (hcol h a)) := by
  refine readAt_at v16 inb f _ (ix2 d (hcol h a)) rfl fun x => ?_
  match x with
  | ⟨0, _⟩ => exact (Nat.zero_add _).symm
  | ⟨1, _⟩ => subst ho; rfl

/-- A block of the scales of the keys, as loaded and stored. -/
def kslPay (v7 : Memref sig .tc .vmem S1x1x1x8192 .f32) (f : BufTy.Contents (Elt Ideal) v7.view.ty) (i : Fin 64) :
    FVec Ideal S128x128 .f32 :=
  k0_pay7 (View.readAt (Elt Ideal) v7.view (Rect.unit (s := S1x1x1x8192) ![0, 0, 0, 128 * i.val] S1x1x1x128.size (fun a => by
    have := i.isLt
    match a with
    | ⟨0, _⟩ => exact Nat.le_refl _
    | ⟨1, _⟩ => exact Nat.le_refl _
    | ⟨2, _⟩ => exact Nat.le_refl _
    | ⟨3, _⟩ => show 128 * i.val + 128 ≤ 8192; omega)).toLoadRect f)

theorem kslPay_apply (v7 : Memref sig .tc .vmem S1x1x1x8192 .f32) (f : BufTy.Contents (Elt Ideal) v7.view.ty)
    (x7 : Vec Ideal S1x1x1x8192 .f32) (hx : v7.view.read (Elt Ideal) f = x7) (i : Fin 64) (r k : Fin 128) (j : Fin 8192)
    (hj : j.val = 128 * i.val + r.val) :
    kslPay v7 f i (ix2 r k) = x7 (ix4 (0 : Fin 1) (0 : Fin 1) (0 : Fin 1) j) := by
  unfold kslPay k0_pay7
  rw [shapeCast_self]
  refine (transpose_ix2_apply _ _ _ _).trans ?_
  refine (broadcastTo_1b_ab_apply _ _ k r).trans ?_
  rw [shapeCast_self, cast_111a_1a, ← hx]
  refine readAt_at v7 _ f _ (ix4 (0 : Fin 1) (0 : Fin 1) (0 : Fin 1) j) rfl fun x => ?_
  match x with
  | ⟨0, _⟩ => rfl
  | ⟨1, _⟩ => rfl
  | ⟨2, _⟩ => rfl
  | ⟨3, _⟩ => exact hj

/-- The 64 blocks stored. -/
abbrev kslPieces (v7 : Memref sig .tc .vmem S1x1x1x8192 .f32) (f : BufTy.Contents (Elt Ideal) v7.view.ty) :
    List (View.Piece (Elt Ideal) S8192x128 .f32) :=
  tilePieces (s := S8192x128) (NT := 64) S128x128.size (fun i => ![128 * i.val, 0]) (fun i a => by
    have := i.isLt
    match a with
    | ⟨0, _⟩ => show 128 * i.val + 128 ≤ 8192; omega
    | ⟨1, _⟩ => exact Nat.le_refl _) (kslPay v7 f) 64 le_rfl

theorem ksl_read (v7 : Memref sig .tc .vmem S1x1x1x8192 .f32) (f : BufTy.Contents (Elt Ideal) v7.view.ty)
    (x7 : Vec Ideal S1x1x1x8192 .f32) (hx : v7.view.read (Elt Ideal) f = x7) (f12 : BufTy.Contents (Elt Ideal) v12.view.ty) :
    KslAt x7 (v12.view.read (Elt Ideal) (v12.view.writes (Elt Ideal) f12 (kslPieces v7 f))) := by
  intro j k
  have hj := j.isLt
  refine (read_tilePieces v12.view f12 _ _ _ _ 64 le_rfl (ix2 j k) (⟨j.val / 128, by omega⟩ : Fin 64) (by show j.val / 128 < 64; omega)
    (ix2 (⟨j.val % 128, by omega⟩ : Fin 128) k) (fun a => ?_) (0 : Fin 2) fun i' hi' => ?_).trans ?_
  · match a with
    | ⟨0, _⟩ => show j.val = 128 * (j.val / 128) + j.val % 128; omega
    | ⟨1, _⟩ => exact (Nat.zero_add _).symm
  · show j.val < 128 * i'.val ∨ 128 * i'.val + 128 ≤ j.val
    have : i'.val ≠ j.val / 128 := fun h => hi' (Fin.ext h)
    omega
  · exact kslPay_apply v7 f x7 hx _ _ _ _ (by show j.val = 128 * (j.val / 128) + j.val % 128; omega)

/-- The four scales stored. -/
theorem c_all (v5 : Memref sig .tc .vmem S1x1x4x128 .f32) (f5 : BufTy.Contents (Elt Ideal) v5.view.ty)
    (x5 : Vec Ideal S1x1x4x128 .f32) (hx : v5.view.read (Elt Ideal) f5 = x5) (f : BufTy.Contents (Elt Ideal) v14.view.ty)
    {o0 o1 o2 o3 : Fin 3 → ℕ} (i0 : ∀ a, o0 a + S1x8x128.size a ≤ S2x8x512.size a)
    (i1 : ∀ a, o1 a + S1x8x128.size a ≤ S2x8x512.size a)
    (i2 : ∀ a, o2 a + S1x8x128.size a ≤ S2x8x512.size a)
    (i3 : ∀ a, o3 a + S1x8x128.size a ≤ S2x8x512.size a)
    (j0 : ∀ a, (![0, 0, 0, 0] : Fin 4 → ℕ) a + S1x1x1x128.size a ≤ S1x1x4x128.size a)
    (j1 : ∀ a, (![0, 0, 1, 0] : Fin 4 → ℕ) a + S1x1x1x128.size a ≤ S1x1x4x128.size a)
    (j2 : ∀ a, (![0, 0, 2, 0] : Fin 4 → ℕ) a + S1x1x1x128.size a ≤ S1x1x4x128.size a)
    (j3 : ∀ a, (![0, 0, 3, 0] : Fin 4 → ℕ) a + S1x1x1x128.size a ≤ S1x1x4x128.size a)
    (p : Fin 2) (e0 : o0 = ![p.val, 0, 0]) (e1 : o1 = ![p.val, 0, 128]) (e2 : o2 = ![p.val, 0, 256]) (e3 : o3 = ![p.val, 0, 384]) :
    CAt x5 p (v14.view.read (Elt Ideal) (v14.view.writes (Elt Ideal) f [⟨Rect.unit (s := S2x8x512) o3 S1x8x128.size i3, k0_pay3 (View.readAt (Elt Ideal) v5.view (Rect.unit (s := S1x1x4x128) ![0, 0, 3, 0] S1x1x1x128.size j3).toLoadRect f5)⟩,
      ⟨Rect.unit (s := S2x8x512) o2 S1x8x128.size i2, k0_pay164 (View.readAt (Elt Ideal) v5.view (Rect.unit (s := S1x1x4x128) ![0, 0, 2, 0] S1x1x1x128.size j2).toLoadRect f5)⟩,
      ⟨Rect.unit (s := S2x8x512) o1 S1x8x128.size i1, k0_pay161 (View.readAt (Elt Ideal) v5.view (Rect.unit (s := S1x1x4x128) ![0, 0, 1, 0] S1x1x1x128.size j1).toLoadRect f5)⟩,
      ⟨Rect.unit (s := S2x8x512) o0 S1x8x128.size i0, k0_pay158 (View.readAt (Elt Ideal) v5.view (Rect.unit (s := S1x1x4x128) ![0, 0, 0, 0] S1x1x1x128.size j0).toLoadRect f5)⟩])) := by
  intro s c
  refine store4 v14 f i0 i1 i2 i3 _ _ _ _ p e0 e1 e2 e3 (fun _ c => cOf x5 c) ?_ ?_ ?_ ?_ s c
  · intro s k
    refine (cRow_apply _ s k).trans ?_
    rw [qs_read v5 f5 x5 hx 0 0 rfl j0 k, cOf, head_hcol, lane_hcol]
  · intro s k
    refine (cRow_apply _ s k).trans ?_
    rw [qs_read v5 f5 x5 hx 1 1 rfl j1 k, cOf, head_hcol, lane_hcol]
  · intro s k
    refine (cRow_apply _ s k).trans ?_
    rw [qs_read v5 f5 x5 hx 2 2 rfl j2 k, cOf, head_hcol, lane_hcol]
  · intro s k
    refine (cRow_apply _ s k).trans ?_
    rw [qs_read v5 f5 x5 hx 3 3 rfl j3 k, cOf, head_hcol, lane_hcol]

/-- The four shifts stored. -/
theorem m_all (v5 : Memref sig .tc .vmem S1x1x4x128 .f32) (f5 : BufTy.Contents (Elt Ideal) v5.view.ty)
    (x5 : Vec Ideal S1x1x4x128 .f32) (hx : v5.view.read (Elt Ideal) f5 = x5) (f : BufTy.Contents (Elt Ideal) v14.view.ty)
    {o0 o1 o2 o3 : Fin 3 → ℕ} (i0 : ∀ a, o0 a + S1x8x128.size a ≤ S2x8x512.size a)
    (i1 : ∀ a, o1 a + S1x8x128.size a ≤ S2x8x512.size a)
    (i2 : ∀ a, o2 a + S1x8x128.size a ≤ S2x8x512.size a)
    (i3 : ∀ a, o3 a + S1x8x128.size a ≤ S2x8x512.size a)
    (j0 : ∀ a, (![0, 0, 0, 0] : Fin 4 → ℕ) a + S1x1x1x128.size a ≤ S1x1x4x128.size a)
    (j1 : ∀ a, (![0, 0, 1, 0] : Fin 4 → ℕ) a + S1x1x1x128.size a ≤ S1x1x4x128.size a)
    (j2 : ∀ a, (![0, 0, 2, 0] : Fin 4 → ℕ) a + S1x1x1x128.size a ≤ S1x1x4x128.size a)
    (j3 : ∀ a, (![0, 0, 3, 0] : Fin 4 → ℕ) a + S1x1x1x128.size a ≤ S1x1x4x128.size a)
    (p : Fin 2) (e0 : o0 = ![p.val, 0, 0]) (e1 : o1 = ![p.val, 0, 128]) (e2 : o2 = ![p.val, 0, 256]) (e3 : o3 = ![p.val, 0, 384]) (mx : FVec Ideal S8x512 .f32) (S : ℕ → Fin 512 → EReal) (B : ℕ) (hmx : MxAt S B mx) :
    MAt S B x5 p (v14.view.read (Elt Ideal) (v14.view.writes (Elt Ideal) f [⟨Rect.unit (s := S2x8x512) o3 S1x8x128.size i3, k0_pay4 mx (View.readAt (Elt Ideal) v5.view (Rect.unit (s := S1x1x4x128) ![0, 0, 3, 0] S1x1x1x128.size j3).toLoadRect f5)⟩,
      ⟨Rect.unit (s := S2x8x512) o2 S1x8x128.size i2, k0_pay1 (k0_pay165 mx (View.readAt (Elt Ideal) v5.view (Rect.unit (s := S1x1x4x128) ![0, 0, 2, 0] S1x1x1x128.size j2).toLoadRect f5)) (Scalar.ofBits .f32 0x41000000#32)⟩,
      ⟨Rect.unit (s := S2x8x512) o1 S1x8x128.size i1, k0_pay162 mx (View.readAt (Elt Ideal) v5.view (Rect.unit (s := S1x1x4x128) ![0, 0, 1, 0] S1x1x1x128.size j1).toLoadRect f5)⟩,
      ⟨Rect.unit (s := S2x8x512) o0 S1x8x128.size i0, k0_pay159 mx (View.readAt (Elt Ideal) v5.view (Rect.unit (s := S1x1x4x128) ![0, 0, 0, 0] S1x1x1x128.size j0).toLoadRect f5)⟩])) := by
  intro s c
  refine store4 v14 f i0 i1 i2 i3 _ _ _ _ p e0 e1 e2 e3 (fun _ c => mOf S B x5 c) ?_ ?_ ?_ ?_ s c
  · intro s k
    refine (mRow_apply S B 0 slices_S8x512_o0_0_S8x128 mx hmx _ s k (hcol 0 k) rfl).trans ?_
    rw [qs_read v5 f5 x5 hx 0 0 rfl j0 k, mOf, cOf, head_hcol, lane_hcol]
  · intro s k
    refine (mRow_apply S B 128 slices_S8x512_o0_128_S8x128 mx hmx _ s k (hcol 1 k) rfl).trans ?_
    rw [qs_read v5 f5 x5 hx 1 1 rfl j1 k, mOf, cOf, head_hcol, lane_hcol]
  · intro s k
    refine (mRow_apply S B 256 slices_S8x512_o0_256_S8x128 mx hmx _ s k (hcol 2 k) rfl).trans ?_
    rw [qs_read v5 f5 x5 hx 2 2 rfl j2 k, mOf, cOf, head_hcol, lane_hcol]
  · intro s k
    refine (mRow_apply S B 384 slices_S8x512_o0_384_S8x128 mx hmx _ s k (hcol 3 k) rfl).trans ?_
    rw [qs_read v5 f5 x5 hx 3 3 rfl j3 k, mOf, cOf, head_hcol, lane_hcol]

/-- The four heads of the output stored. -/
theorem out_all (v9 : Memref sig .tc .vmem S1x1x1x128 .f32) (f9 : BufTy.Contents (Elt Ideal) v9.view.ty)
    (x9 : Vec Ideal S1x1x1x128 .f32) (hx : v9.view.read (Elt Ideal) f9 = x9) (v16 : Memref sig .tc .vmem S128x512 .f32)
    (f16 : BufTy.Contents (Elt Ideal) v16.view.ty) (f : BufTy.Contents (Elt Ideal) v10.view.ty)
    (i0 : ∀ a, (![0, 0, 0] : Fin 3 → ℕ) a + S1x128x128.size a ≤ S1x128x512.size a)
    (i1 : ∀ a, (![0, 0, 128] : Fin 3 → ℕ) a + S1x128x128.size a ≤ S1x128x512.size a)
    (i2 : ∀ a, (![0, 0, 256] : Fin 3 → ℕ) a + S1x128x128.size a ≤ S1x128x512.size a)
    (i3 : ∀ a, (![0, 0, 384] : Fin 3 → ℕ) a + S1x128x128.size a ≤ S1x128x512.size a)
    (k0 : ∀ a, (![0, 0] : Fin 2 → ℕ) a + S128x128.size a ≤ S128x512.size a)
    (k1 : ∀ a, (![0, 128] : Fin 2 → ℕ) a + S128x128.size a ≤ S128x512.size a)
    (k2 : ∀ a, (![0, 256] : Fin 2 → ℕ) a + S128x128.size a ≤ S128x512.size a)
    (k3 : ∀ a, (![0, 384] : Fin 2 → ℕ) a + S128x128.size a ≤ S128x512.size a)
    (j0 : ∀ a, (![0, 0, 0, 0] : Fin 4 → ℕ) a + S1x1x1x128.size a ≤ S1x1x1x128.size a)
    (l : FVec Ideal S8x512 .f32) (W : ℕ → Fin 128 → EReal) (E : ℕ → Fin 512 → EReal) (B : ℕ) (hl : LAt E B l)
    (hacc : AccAt W E B (v16.view.read (Elt Ideal) f16)) :
    OutAt W E B x9 (v10.view.read (Elt Ideal) (v10.view.writes (Elt Ideal) f [⟨Rect.unit (s := S1x128x512) ![0, 0, 384] S1x128x128.size i3, k0_pay6 l (View.readAt (Elt Ideal) v16.view (Rect.unit (s := S128x512) ![0, 384] S128x128.size k3).toLoadRect f16) (View.readAt (Elt Ideal) v9.view (Rect.unit (s := S1x1x1x128) ![0, 0, 0, 0] S1x1x1x128.size j0).toLoadRect f9)⟩,
      ⟨Rect.unit (s := S1x128x512) ![0, 0, 256] S1x128x128.size i2, k0_pay5 (View.readAt (Elt Ideal) v16.view (Rect.unit (s := S128x512) ![0, 256] S128x128.size k2).toLoadRect f16) (k0_pay119 l) (View.readAt (Elt Ideal) v9.view (Rect.unit (s := S1x1x1x128) ![0, 0, 0, 0] S1x1x1x128.size j0).toLoadRect f9)⟩,
      ⟨Rect.unit (s := S1x128x512) ![0, 0, 128] S1x128x128.size i1, k0_pay118 l (View.readAt (Elt Ideal) v16.view (Rect.unit (s := S128x512) ![0, 128] S128x128.size k1).toLoadRect f16) (View.readAt (Elt Ideal) v9.view (Rect.unit (s := S1x1x1x128) ![0, 0, 0, 0] S1x1x1x128.size j0).toLoadRect f9)⟩,
      ⟨Rect.unit (s := S1x128x512) ![0, 0, 0] S1x128x128.size i0, k0_pay117 l (View.readAt (Elt Ideal) v16.view (Rect.unit (s := S128x512) ![0, 0] S128x128.size k0).toLoadRect f16) (View.readAt (Elt Ideal) v9.view (Rect.unit (s := S1x1x1x128) ![0, 0, 0, 0] S1x1x1x128.size j0).toLoadRect f9)⟩])) := by
  intro h a d
  refine out4 v10 f i0 i1 i2 i3 _ _ _ _ (oOf W E B x9) ?_ ?_ ?_ ?_ h a d
  · intro a d
    refine (oRow_apply E B 0 slices_S8x512_o0_0_S8x128 l hl _ _ a d (hcol 0 a) rfl).trans ?_
    rw [vs_read v9 f9 x9 hx j0 d, acc_read v16 f16 0 0 rfl k0 d a, hacc]
    rfl
  · intro a d
    refine (oRow_apply E B 128 slices_S8x512_o0_128_S8x128 l hl _ _ a d (hcol 1 a) rfl).trans ?_
    rw [vs_read v9 f9 x9 hx j0 d, acc_read v16 f16 128 1 rfl k1 d a, hacc]
    rfl
  · intro a d
    refine (oRow_apply E B 256 slices_S8x512_o0_256_S8x128 l hl _ _ a d (hcol 2 a) rfl).trans ?_
    rw [vs_read v9 f9 x9 hx j0 d, acc_read v16 f16 256 2 rfl k2 d a, hacc]
    rfl
  · intro a d
    refine (oRow_apply E B 384 slices_S8x512_o0_384_S8x128 l hl _ _ a d (hcol 3 a) rfl).trans ?_
    rw [vs_read v9 f9 x9 hx j0 d, acc_read v16 f16 384 3 rfl k3 d a, hacc]
    rfl

/-- The queries stored. -/
theorem qt_all (v4 : Memref sig .tc .vmem S1x128x512 .fp8e4m3) (f4 : BufTy.Contents (Elt Ideal) v4.view.ty)
    (x4 : Vec Ideal S1x128x512 .fp8e4m3) (hx : v4.view.read (Elt Ideal) f4 = x4) (f : BufTy.Contents (Elt Ideal) v13.view.ty)
    (i0 : ∀ a, (![0, 0, 0] : Fin 3 → ℕ) a + S1x128x128.size a ≤ S1x128x512.size a)
    (i1 : ∀ a, (![0, 0, 128] : Fin 3 → ℕ) a + S1x128x128.size a ≤ S1x128x512.size a)
    (i2 : ∀ a, (![0, 0, 256] : Fin 3 → ℕ) a + S1x128x128.size a ≤ S1x128x512.size a)
    (i3 : ∀ a, (![0, 0, 384] : Fin 3 → ℕ) a + S1x128x128.size a ≤ S1x128x512.size a)
    (n0 : ∀ a, (![0, 0] : Fin 2 → ℕ) a + S128x128.size a ≤ S512x128.size a)
    (n1 : ∀ a, (![128, 0] : Fin 2 → ℕ) a + S128x128.size a ≤ S512x128.size a)
    (n2 : ∀ a, (![256, 0] : Fin 2 → ℕ) a + S128x128.size a ≤ S512x128.size a)
    (n3 : ∀ a, (![384, 0] : Fin 2 → ℕ) a + S128x128.size a ≤ S512x128.size a) :
    v13.view.read (Elt Ideal) (v13.view.writes (Elt Ideal) f [⟨Rect.unit (s := S512x128) ![384, 0] S128x128.size n3, k0_pay123 (View.readAt (Elt Ideal) v4.view (Rect.unit (s := S1x128x512) ![0, 0, 384] S1x128x128.size i3).toLoadRect f4)⟩,
      ⟨Rect.unit (s := S512x128) ![256, 0] S128x128.size n2, k0_pay122 (View.readAt (Elt Ideal) v4.view (Rect.unit (s := S1x128x512) ![0, 0, 256] S1x128x128.size i2).toLoadRect f4)⟩,
      ⟨Rect.unit (s := S512x128) ![128, 0] S128x128.size n1, k0_pay121 (View.readAt (Elt Ideal) v4.view (Rect.unit (s := S1x128x512) ![0, 0, 128] S1x128x128.size i1).toLoadRect f4)⟩,
      ⟨Rect.unit (s := S512x128) ![0, 0] S128x128.size n0, k0_pay120 (View.readAt (Elt Ideal) v4.view (Rect.unit (s := S1x128x512) ![0, 0, 0] S1x128x128.size i0).toLoadRect f4)⟩]) = qtOf x4 :=
  qt4 v13 f n0 n1 n2 n3 _ _ _ _ x4 (qPay_apply v4 f4 x4 hx 0 0 rfl i0) (qPay_apply v4 f4 x4 hx 128 1 rfl i1)
    (qPay_apply v4 f4 x4 hx 256 2 rfl i2) (qPay_apply v4 f4 x4 hx 384 3 rfl i3)

/-- The products start at zero. -/
theorem acc_zero (v16 : Memref sig .tc .vmem S128x512 .f32) (f : BufTy.Contents (Elt Ideal) v16.view.ty)
    (inb : ∀ a, (![0, 0] : Fin 2 → ℕ) a + S128x512.size a ≤ S128x512.size a) (z : S128x512.Idx) :
    v16.view.read (Elt Ideal) (v16.view.writes (Elt Ideal) f [⟨Rect.unit (s := S128x512) ![0, 0] S128x512.size inb, k0_pay124 (F := Ideal)⟩]) z
      = (0 : EReal) := by
  refine (read_writes_cons_unit_of_mem v16.view f inb (k0_pay124 (F := Ideal)) [] z z rfl fun a => ?_).trans ?_
  · match a with
    | ⟨0, _⟩ => exact (Nat.zero_add _).symm
    | ⟨1, _⟩ => exact (Nat.zero_add _).symm
  · unfold k0_pay124
    rw [shapeCast_self, broadcast_apply]
    exact zero_f32

/-- The scales of the keys along the lanes. -/
def kslOf (x7 : Vec Ideal S1x1x1x8192 .f32) : Vec Ideal S8192x128 .f32 := fun z => x7 (ix4 (0 : Fin 1) (0 : Fin 1) (0 : Fin 1) (z 0))

theorem ksl_all (v7 : Memref sig .tc .vmem S1x1x1x8192 .f32) (f : BufTy.Contents (Elt Ideal) v7.view.ty)
    (x7 : Vec Ideal S1x1x1x8192 .f32) (hx : v7.view.read (Elt Ideal) f = x7) (f12 : BufTy.Contents (Elt Ideal) v12.view.ty) :
    v12.view.read (Elt Ideal) (v12.view.writes (Elt Ideal) f12 (kslPieces v7 f)) = kslOf x7 := by
  funext z
  obtain ⟨j, k, rfl⟩ : ∃ (j : Fin 8192) (k : Fin 128), z = ix2 j k := ⟨z 0, z 1, eq_ix2 z⟩
  exact ksl_read v12 v7 f x7 hx f12 j k

end

end Cert.KernelIdeal.Hand

end
-- ==== Proof.KI.ValueA.lean ====
module

public import proofs.«01_k».proof.Proof.KI.Kit
public import proofs.«01_k».proof.Proof.KI.Bounds
public import proofs.«01_k».proof.Proof.KI.Chain
public import proofs.«01_k».proof.Proof.KI.Facts

/-! The run of the body at the first tile of a row. -/

@[expose] public section

set_option maxRecDepth 16384

noncomputable section

namespace Cert.KernelIdeal.Hand

open Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 8000000 in
/-- What the idealized body computes at the first point of a row. On whole memrefs, the inputs at their contents, it runs to a
state in which: the inputs are as they were; the scores' buffer holds this tile's masked scores in its current half (`RowsAt`);
the keys' scales are laid out along the rows (`kslOf`); and the current halves of the two small buffers hold the rows' scales
(`CAt`) and their scaled maxima (`MAt`). -/
theorem valueRun0_A (c : Dev nD) (i : grid0.Coords) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (hc0 : cond0_0 i) (hc1 : ¬k0_cond2 i = 1#1)
    (x0 : Vec Ideal S1x128x512 .fp8e4m3) (x1 : Vec Ideal S1x1x4x128 .f32) (x2 : Vec Ideal S1x8192x128 .fp8e4m3) (x3 : Vec Ideal S1x1x1x8192 .f32) (x4 : Vec Ideal S1x1x128x8192 .fp8e4m3) (x5 : Vec Ideal S1x1x1x128 .f32) (xt0 : TbBuf0 (F := Ideal) c tbM0_0) (hw : k0_chk1 i (word c i xt0)) (hv : BitVec.toInt (word c i xt0) ≤ 8192) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, ⌜RowsAt (mskS (len (word c i xt0)) (i 2).val x2 (kslOf x3) (qtOf x0)) (all i (word c i xt0)) (cur i) d⌝ ∗ owns (c : Thread nD τ) arg11 fullShare d) ∗ (∃ d, ⌜d = kslOf x3⌝ ∗ owns (c : Thread nD τ) arg12 fullShare d) ∗ (∃ d, owns (c : Thread nD τ) arg13 fullShare d) ∗ (∃ d, ⌜CAt x1 (cur i) d⌝ ∗ owns (c : Thread nD τ) arg14 fullShare d) ∗ (∃ d, ⌜MAt (mskS (len (word c i xt0)) (i 2).val x2 (kslOf x3) (qtOf x0)) (all i (word c i xt0)) x1 (cur i) d⌝ ∗ owns (c : Thread nD τ) arg15 fullShare d) ∗ (∃ d, owns (c : Thread nD τ) arg16 fullShare d) ∗ tbPt0 c tbM0_0 xt0) -∗ K ⟨⟩))
          ⊢ wp frame (wpE (defs₀ (F := Ideal)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attention_eq_skeleton]; unfold cc0_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part26_eq_skeleton, k0_part27_eq_skeleton, k0_part28_eq_skeleton, k0_part29_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _; isplitr; swap; · (iexists _; isplitr; swap; · iexact HS0
                                   ipureintro; rfl)
      ipureintro
      try delta valueRun0_A.sl.r_5
      try delta valueRun0_A.sl.r_4
      try delta valueRun0_A.sl.r_3
      try delta valueRun0_A.sl.r_2
      try delta valueRun0_A.sl.r_1
      apply chain_rows
      case h1 => with_reducible exact rfl
      case h2 => with_reducible exact rfl
      case h3 => with_reducible exact rfl
      case h4 => with_reducible exact rfl
      case h5 => with_reducible exact rfl
      case h6 => with_reducible exact rfl
      case h7 => with_reducible exact rfl
      case h8 => with_reducible exact rfl
      case e6 => exact harg6.read_unread x2
      case e8 => exact harg8.read_unread x4
      case e12 => exact ksl_all arg12 arg7 _ x3 (harg7.read_unread x3) _
      case e13 => exact qt_all arg13 arg4 _ x0 (harg4.read_unread x0) _ _ _ _ _ _ _ _ _
      case e14 => first | (with_reducible exact rfl) | exact rfl
      case e15 => first | (with_reducible exact rfl) | exact rfl
      case e11 => first | (with_reducible exact rfl) | exact rfl
      case ha => first | (with_reducible exact rfl) | exact rfl
      case hv40 => exact wfull_eq i hv
      case hw => first | (with_reducible exact rfl) | exact rfl
      case hv => exact hv
      case hmx => first | (with_reducible exact rfl) | exact rfl
      case hl => first | (with_reducible exact rfl) | exact rfl
      case hacc => exact acc_zero arg16 _ _
      all_goals first | exact 0#32 | exact k0_pay125 | assumption
    isplitl [HS1]
    · iexists _; isplitr; swap; · (iexists _; isplitr; swap; · iexact HS1
                                   ipureintro; rfl)
      ipureintro
      exact ksl_all arg12 arg7 _ x3 (harg7.read_unread x3) _
    isplitl [HS2]
    · iexists _, _; isplitr; swap; · iexact HS2
      ipureintro; rfl
    isplitl [HS3]
    · iexists _; isplitr; swap; · (iexists _; isplitr; swap; · iexact HS3
                                   ipureintro; rfl)
      ipureintro
      exact c_all arg14 arg5 _ x1 (harg5.read_unread x1) _ _ _ _ _ _ _ _ _ (cur i) (off46_eq i) (off47_eq i) (off48_eq i) (off49_eq i)
    isplitl [HS4]
    · iexists _; isplitr; swap; · (iexists _; isplitr; swap; · iexact HS4
                                   ipureintro; rfl)
      ipureintro
      refine m_all arg15 arg5 _ x1 (harg5.read_unread x1) _ _ _ _ _ _ _ _ _ (cur i) (off46_eq i) (off47_eq i) (off48_eq i) (off49_eq i) _ _ _ ?_
      try delta valueRun0_A.sl.r_5
      try delta valueRun0_A.sl.r_4
      try delta valueRun0_A.sl.r_3
      try delta valueRun0_A.sl.r_2
      try delta valueRun0_A.sl.r_1
      apply chain_mx
      case h1 => with_reducible exact rfl
      case h2 => with_reducible exact rfl
      case h3 => with_reducible exact rfl
      case h4 => with_reducible exact rfl
      case h5 => with_reducible exact rfl
      case h6 => with_reducible exact rfl
      case h7 => with_reducible exact rfl
      case h8 => with_reducible exact rfl
      case e6 => exact harg6.read_unread x2
      case e8 => exact harg8.read_unread x4
      case e12 => exact ksl_all arg12 arg7 _ x3 (harg7.read_unread x3) _
      case e13 => exact qt_all arg13 arg4 _ x0 (harg4.read_unread x0) _ _ _ _ _ _ _ _ _
      case e14 => first | (with_reducible exact rfl) | exact rfl
      case e15 => first | (with_reducible exact rfl) | exact rfl
      case e11 => first | (with_reducible exact rfl) | exact rfl
      case ha => first | (with_reducible exact rfl) | exact rfl
      case hv40 => exact wfull_eq i hv
      case hw => first | (with_reducible exact rfl) | exact rfl
      case hv => exact hv
      case hmx => first | (with_reducible exact rfl) | exact rfl
      case hl => first | (with_reducible exact rfl) | exact rfl
      case hacc => exact acc_zero arg16 _ _
      all_goals first | exact 0#32 | exact k0_pay125 | assumption
    isplitl [HS5]
    · iexists _, _; isplitr; swap; · iexact HS5
      ipureintro; rfl
    iexact HT0

end Cert.KernelIdeal.Hand

end
-- ==== Proof.KI.ValueB.lean ====
module

public import proofs.«01_k».proof.Proof.KI.Kit
public import proofs.«01_k».proof.Proof.KI.Bounds
public import proofs.«01_k».proof.Proof.KI.Chain
public import proofs.«01_k».proof.Proof.KI.Facts

/-! The run of the body away from the first tile of a row. -/

@[expose] public section

set_option maxRecDepth 16384

noncomputable section

namespace Cert.KernelIdeal.Hand

open Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 8000000 in
/-- What the idealized body computes at a point that is not the first of its row. On whole memrefs, the inputs at their contents, it runs
to a state in which: the inputs and the keys' laid-out scales are as they were; the output block holds the previous tile's
attention (`OutAt`), read from the scores, the scales and the maxima left for it; the scores' buffer holds this tile's masked
scores in its current half (`RowsAt`); and the current halves of the two small buffers hold the rows' scales (`CAt`) and their
scaled maxima (`MAt`). -/
theorem valueRun0_B (c : Dev nD) (i : grid0.Coords) (arg4 : Memref sig .tc .vmem S1x128x512 .fp8e4m3) (harg4 : arg4.IsWhole) (arg5 : Memref sig .tc .vmem S1x1x4x128 .f32) (harg5 : arg5.IsWhole) (arg6 : Memref sig .tc .vmem S1x8192x128 .fp8e4m3) (harg6 : arg6.IsWhole) (arg7 : Memref sig .tc .vmem S1x1x1x8192 .f32) (harg7 : arg7.IsWhole) (arg8 : Memref sig .tc .vmem S1x1x128x8192 .fp8e4m3) (harg8 : arg8.IsWhole) (arg9 : Memref sig .tc .vmem S1x1x1x128 .f32) (harg9 : arg9.IsWhole) (arg10 : Memref sig .tc .vmem S1x128x512 .bf16) (harg10 : arg10.IsWhole) (arg11 : Memref sig .tc .vmem S2x8192x512 .f32) (harg11 : arg11.IsWhole) (arg12 : Memref sig .tc .vmem S8192x128 .f32) (harg12 : arg12.IsWhole) (arg13 : Memref sig .tc .vmem S512x128 .fp8e4m3) (harg13 : arg13.IsWhole) (arg14 : Memref sig .tc .vmem S2x8x512 .f32) (harg14 : arg14.IsWhole) (arg15 : Memref sig .tc .vmem S2x8x512 .f32) (harg15 : arg15.IsWhole) (arg16 : Memref sig .tc .vmem S128x512 .f32) (harg16 : arg16.IsWhole) (hc0 : ¬cond0_0 i) (hc1 : k0_cond2 i = 1#1)
    (x0 : Vec Ideal S1x128x512 .fp8e4m3) (x1 : Vec Ideal S1x1x4x128 .f32) (x2 : Vec Ideal S1x8192x128 .fp8e4m3) (x3 : Vec Ideal S1x1x1x8192 .f32) (x4 : Vec Ideal S1x1x128x8192 .fp8e4m3) (x5 : Vec Ideal S1x1x1x128 .f32) (xt0 : TbBuf0 (F := Ideal) c tbM0_0) (hw : k0_chk1 i (word c i xt0)) (hv : BitVec.toInt (word c i xt0) ≤ 8192) (d11 : Vec Ideal S2x8192x512 .f32) (d14 d15 : Vec Ideal S2x8x512 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare d11 ∗ owns (c : Thread nD τ) arg12 fullShare (kslOf x3) ∗ (∃ d, owns (c : Thread nD τ) arg13 fullShare d) ∗ owns (c : Thread nD τ) arg14 fullShare d14 ∗ owns (c : Thread nD τ) arg15 fullShare d15 ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, ⌜OutAt (vOf x4) (eOf d11 d14 d15 (prv i)) (old i (word c i xt0)) x5 d⌝ ∗ owns (c : Thread nD τ) arg10 fullShare d) ∗ (∃ d, ⌜RowsAt (mskS (len (word c i xt0)) (i 2).val x2 (kslOf x3) (qtOf x0)) (all i (word c i xt0)) (cur i) d⌝ ∗ owns (c : Thread nD τ) arg11 fullShare d) ∗ (∃ d, ⌜d = kslOf x3⌝ ∗ owns (c : Thread nD τ) arg12 fullShare d) ∗ (∃ d, owns (c : Thread nD τ) arg13 fullShare d) ∗ (∃ d, ⌜CAt x1 (cur i) d⌝ ∗ owns (c : Thread nD τ) arg14 fullShare d) ∗ (∃ d, ⌜MAt (mskS (len (word c i xt0)) (i 2).val x2 (kslOf x3) (qtOf x0)) (all i (word c i xt0)) x1 (cur i) d⌝ ∗ owns (c : Thread nD τ) arg15 fullShare d) ∗ (∃ d, owns (c : Thread nD τ) arg16 fullShare d) ∗ tbPt0 c tbM0_0 xt0) -∗ K ⟨⟩))
          ⊢ wp frame (wpE (defs₀ (F := Ideal)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attention_eq_skeleton]; unfold cc0_attention_skel
    simp only [k0_part26_eq_skeleton, k0_part27_eq_skeleton, k0_part28_eq_skeleton, k0_part29_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%ds2, %fs2, -, HS2⟩, ⟨%fs3, %hs3, HS3⟩, ⟨%fs4, %hs4, HS4⟩, ⟨%ds5, %fs5, -, HS5⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact hc0 | sl_exact hc1 | exact hw)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; swap; · (iexists _; isplitr; swap; · iexact H6
                                   ipureintro; rfl)
      ipureintro
      refine out_all arg10 arg9 _ x5 (harg9.read_unread x5) arg16 _ _ _ _ _ _ _ _ _ _ _ _ _ _ _ ?hl ?hacc16
      case hl =>
        try delta valueRun0_B.sl.r_5
        try delta valueRun0_B.sl.r_4
        try delta valueRun0_B.sl.r_3
        try delta valueRun0_B.sl.r_2
        try delta valueRun0_B.sl.r_1
        apply chain_l
        case h1 => with_reducible exact rfl
        case h2 => with_reducible exact rfl
        case h3 => with_reducible exact rfl
        case h4 => with_reducible exact rfl
        case h5 => with_reducible exact rfl
        case h6 => with_reducible exact rfl
        case h7 => with_reducible exact rfl
        case h8 => with_reducible exact rfl
        case e6 => exact harg6.read_unread x2
        case e8 => exact harg8.read_unread x4
        case e12 => exact hs1
        case e13 => exact qt_all arg13 arg4 _ x0 (harg4.read_unread x0) _ _ _ _ _ _ _ _ _
        case e14 => exact hs3
        case e15 => exact hs4
        case e11 => exact hs0
        case ha => first | (with_reducible exact rfl) | exact rfl
        case hv40 => exact wfull_eq i hv
        case hw => first | (with_reducible exact rfl) | exact rfl
        case hv => exact hv
        case hmx => first | (with_reducible exact rfl) | exact rfl
        case hl => first | (with_reducible exact rfl) | exact rfl
        case hacc => exact acc_zero arg16 _ _
        all_goals first | exact 0#32 | exact k0_pay125 | assumption
      case hacc16 =>
        try delta valueRun0_B.sl.r_5
        try delta valueRun0_B.sl.r_4
        try delta valueRun0_B.sl.r_3
        try delta valueRun0_B.sl.r_2
        try delta valueRun0_B.sl.r_1
        apply chain_acc
        case h1 => with_reducible exact rfl
        case h2 => with_reducible exact rfl
        case h3 => with_reducible exact rfl
        case h4 => with_reducible exact rfl
        case h5 => with_reducible exact rfl
        case h6 => with_reducible exact rfl
        case h7 => with_reducible exact rfl
        case h8 => with_reducible exact rfl
        case e6 => exact harg6.read_unread x2
        case e8 => exact harg8.read_unread x4
        case e12 => exact hs1
        case e13 => exact qt_all arg13 arg4 _ x0 (harg4.read_unread x0) _ _ _ _ _ _ _ _ _
        case e14 => exact hs3
        case e15 => exact hs4
        case e11 => exact hs0
        case ha => first | (with_reducible exact rfl) | exact rfl
        case hv40 => exact wfull_eq i hv
        case hw => first | (with_reducible exact rfl) | exact rfl
        case hv => exact hv
        case hmx => first | (with_reducible exact rfl) | exact rfl
        case hl => first | (with_reducible exact rfl) | exact rfl
        case hacc => exact acc_zero arg16 _ _
        all_goals first | exact 0#32 | exact k0_pay125 | assumption
    isplitl [HS0]
    · iexists _; isplitr; swap; · (iexists _; isplitr; swap; · iexact HS0
                                   ipureintro; rfl)
      ipureintro
      try delta valueRun0_B.sl.r_5
      try delta valueRun0_B.sl.r_4
      try delta valueRun0_B.sl.r_3
      try delta valueRun0_B.sl.r_2
      try delta valueRun0_B.sl.r_1
      apply chain_rows
      case h1 => with_reducible exact rfl
      case h2 => with_reducible exact rfl
      case h3 => with_reducible exact rfl
      case h4 => with_reducible exact rfl
      case h5 => with_reducible exact rfl
      case h6 => with_reducible exact rfl
      case h7 => with_reducible exact rfl
      case h8 => with_reducible exact rfl
      case e6 => exact harg6.read_unread x2
      case e8 => exact harg8.read_unread x4
      case e12 => exact hs1
      case e13 => exact qt_all arg13 arg4 _ x0 (harg4.read_unread x0) _ _ _ _ _ _ _ _ _
      case e14 => exact hs3
      case e15 => exact hs4
      case e11 => exact hs0
      case ha => first | (with_reducible exact rfl) | exact rfl
      case hv40 => exact wfull_eq i hv
      case hw => first | (with_reducible exact rfl) | exact rfl
      case hv => exact hv
      case hmx => first | (with_reducible exact rfl) | exact rfl
      case hl => first | (with_reducible exact rfl) | exact rfl
      case hacc => exact acc_zero arg16 _ _
      all_goals first | exact 0#32 | exact k0_pay125 | assumption
    isplitl [HS1]
    · iexists _; isplitr; swap; · (iexists _; isplitr; swap; · iexact HS1
                                   ipureintro; rfl)
      ipureintro
      exact hs1
    isplitl [HS2]
    · iexists _, _; isplitr; swap; · iexact HS2
      ipureintro; rfl
    isplitl [HS3]
    · iexists _; isplitr; swap; · (iexists _; isplitr; swap; · iexact HS3
                                   ipureintro; rfl)
      ipureintro
      exact c_all arg14 arg5 _ x1 (harg5.read_unread x1) _ _ _ _ _ _ _ _ _ (cur i) (off46_eq i) (off47_eq i) (off48_eq i) (off49_eq i)
    isplitl [HS4]
    · iexists _; isplitr; swap; · (iexists _; isplitr; swap; · iexact HS4
                                   ipureintro; rfl)
      ipureintro
      refine m_all arg15 arg5 _ x1 (harg5.read_unread x1) _ _ _ _ _ _ _ _ _ (cur i) (off46_eq i) (off47_eq i) (off48_eq i) (off49_eq i) _ _ _ ?_
      try delta valueRun0_B.sl.r_5
      try delta valueRun0_B.sl.r_4
      try delta valueRun0_B.sl.r_3
      try delta valueRun0_B.sl.r_2
      try delta valueRun0_B.sl.r_1
      apply chain_mx
      case h1 => with_reducible exact rfl
      case h2 => with_reducible exact rfl
      case h3 => with_reducible exact rfl
      case h4 => with_reducible exact rfl
      case h5 => with_reducible exact rfl
      case h6 => with_reducible exact rfl
      case h7 => with_reducible exact rfl
      case h8 => with_reducible exact rfl
      case e6 => exact harg6.read_unread x2
      case e8 => exact harg8.read_unread x4
      case e12 => exact hs1
      case e13 => exact qt_all arg13 arg4 _ x0 (harg4.read_unread x0) _ _ _ _ _ _ _ _ _
      case e14 => exact hs3
      case e15 => exact hs4
      case e11 => exact hs0
      case ha => first | (with_reducible exact rfl) | exact rfl
      case hv40 => exact wfull_eq i hv
      case hw => first | (with_reducible exact rfl) | exact rfl
      case hv => exact hv
      case hmx => first | (with_reducible exact rfl) | exact rfl
      case hl => first | (with_reducible exact rfl) | exact rfl
      case hacc => exact acc_zero arg16 _ _
      all_goals first | exact 0#32 | exact k0_pay125 | assumption
    isplitl [HS5]
    · iexists _, _; isplitr; swap; · iexact HS5
      ipureintro; rfl
    iexact HT0

end Cert.KernelIdeal.Hand

end
-- ==== Proof.KI.Blocks.lean ====
module

public import proofs.«01_k».proof.Proof.KI.Kit
public import proofs.«01_k».proof.Proof.KI.Facts
public import Idealize.ShloMosaic.Lib.Pipeline.ValueKit
public import Idealize.ShloMosaic.Lib.Pipeline.Covers

/-! The blocks of the windows as parts of the argument arrays, and the grid's points by their coordinates. -/

@[expose] public section

set_option maxRecDepth 16384

noncomputable section

namespace Cert.KernelIdeal.Hand

open Cert.KernelIdeal.Gen Cert.Words
open Idealize.ShloMosaic hiding ix1 ix2 ix3 ix4
open Idealize.ShloMosaic.TcCoe Idealize.ShloMosaic.Tactic
open Idealize.ShloMosaic.Pipeline
open Idealize.ShloMosaic.ValueIdx (ix1 ix2 ix3 ix4)

variable (m : (ℓ : Loc nD τ sig) → Buf (Elt Ideal) ℓ)

/-- The coordinates of a point. -/
theorem coord0 (t : Fin grid0.N) : (grid0.coords t 0).val = t.val / 520 % 3 := Grid.coords_val t 0 (by decide) rfl
theorem coord1 (t : Fin grid0.N) : (grid0.coords t 1).val = t.val / 65 % 8 := Grid.coords_val t 1 (by decide) rfl
theorem coord2 (t : Fin grid0.N) : (grid0.coords t 2).val = t.val % 65 := by
  have := Grid.coords_val t 2 (S := 1) (B := 65) (by decide) rfl
  rw [this, Nat.div_one]

theorem tix0_eq (i : grid0.Coords) : cc0_transform_0 i = ![(i 0).val, min (i 2).val 63, (i 1).val] := by
  have h0 : (i 0).val < 3 := (i 0).isLt
  have h1 : (i 1).val < 8 := (i 1).isLt
  have h2 : (i 2).val < 65 := (i 2).isLt
  unfold cc0_transform_0
  have e : (Scalar.minsi (BitVec.ofNat 32 (i 2).val) 63#32).toNat = min (i 2).val 63 := by
    generalize (i 2).val = n at h2
    unfold Scalar.minsi; interval_cases n <;> rfl
  simp only [e, BitVec.toNat_ofNat]
  rw [Nat.mod_eq_of_lt (a := (i 0).val) (by omega), Nat.mod_eq_of_lt (a := (i 1).val) (by omega)]

theorem tix1_eq (i : grid0.Coords) : cc0_transform_1 i = ![(i 0).val, (i 1).val, 0, min (i 2).val 63] := by
  have h0 : (i 0).val < 3 := (i 0).isLt
  have h1 : (i 1).val < 8 := (i 1).isLt
  have h2 : (i 2).val < 65 := (i 2).isLt
  unfold cc0_transform_1
  have e : (Scalar.minsi (BitVec.ofNat 32 (i 2).val) 63#32).toNat = min (i 2).val 63 := by
    generalize (i 2).val = n at h2
    unfold Scalar.minsi; interval_cases n <;> rfl
  simp only [e, BitVec.toNat_ofNat]
  rw [Nat.mod_eq_of_lt (a := (i 0).val) (by omega), Nat.mod_eq_of_lt (a := (i 1).val) (by omega)]

theorem tix2_eq (i : grid0.Coords) : cc0_transform_2 i = ![(i 0).val, 0, (i 1).val] := by
  have h0 : (i 0).val < 3 := (i 0).isLt
  have h1 : (i 1).val < 8 := (i 1).isLt
  have h2 : (i 2).val < 65 := (i 2).isLt
  unfold cc0_transform_2
  simp only [BitVec.toNat_ofNat]
  rw [Nat.mod_eq_of_lt (a := (i 0).val) (by omega), Nat.mod_eq_of_lt (a := (i 1).val) (by omega)]

theorem tix3_eq (i : grid0.Coords) : cc0_transform_3 i = ![(i 0).val, (i 1).val, 0, 0] := by
  have h0 : (i 0).val < 3 := (i 0).isLt
  have h1 : (i 1).val < 8 := (i 1).isLt
  have h2 : (i 2).val < 65 := (i 2).isLt
  unfold cc0_transform_3
  simp only [BitVec.toNat_ofNat]
  rw [Nat.mod_eq_of_lt (a := (i 0).val) (by omega), Nat.mod_eq_of_lt (a := (i 1).val) (by omega)]

theorem tix4_eq (i : grid0.Coords) : cc0_transform_4 i = ![(i 0).val, (i 1).val, 0, 0] := by
  have h0 : (i 0).val < 3 := (i 0).isLt
  have h1 : (i 1).val < 8 := (i 1).isLt
  have h2 : (i 2).val < 65 := (i 2).isLt
  unfold cc0_transform_4
  simp only [BitVec.toNat_ofNat]
  rw [Nat.mod_eq_of_lt (a := (i 0).val) (by omega), Nat.mod_eq_of_lt (a := (i 1).val) (by omega)]

theorem tix5_eq (i : grid0.Coords) : cc0_transform_5 i = ![(i 0).val, (i 1).val, 0, 0] := by
  have h0 : (i 0).val < 3 := (i 0).isLt
  have h1 : (i 1).val < 8 := (i 1).isLt
  have h2 : (i 2).val < 65 := (i 2).isLt
  unfold cc0_transform_5
  simp only [BitVec.toNat_ofNat]
  rw [Nat.mod_eq_of_lt (a := (i 0).val) (by omega), Nat.mod_eq_of_lt (a := (i 1).val) (by omega)]

theorem tix6_eq (i : grid0.Coords) : cc0_transform_6 i = ![(i 0).val, (i 2).val - 1, (i 1).val] := by
  have h0 : (i 0).val < 3 := (i 0).isLt
  have h1 : (i 1).val < 8 := (i 1).isLt
  have h2 : (i 2).val < 65 := (i 2).isLt
  unfold cc0_transform_6
  have e : (Scalar.maxsi (Scalar.subi (BitVec.ofNat 32 (i 2).val) 1#32) 0#32).toNat = (i 2).val - 1 := by
    generalize (i 2).val = n at h2
    unfold Scalar.maxsi Scalar.subi; interval_cases n <;> rfl
  simp only [e, BitVec.toNat_ofNat]
  rw [Nat.mod_eq_of_lt (a := (i 0).val) (by omega), Nat.mod_eq_of_lt (a := (i 1).val) (by omega)]

/-- A sequence row of a batch row's tile. -/
def tcoord (t : Fin grid0.N) : Fin 65 := ⟨(grid0.coords t 2).val, (grid0.coords t 2).isLt⟩
/-- The batch row of a point. -/
def bOf (t : Fin grid0.N) : Fin 3 := ⟨(grid0.coords t 0).val, (grid0.coords t 0).isLt⟩
/-- The key head of a point. -/
def gOf (t : Fin grid0.N) : Fin 8 := ⟨(grid0.coords t 1).val, (grid0.coords t 1).isLt⟩
/-- The position of row `a` of the tile that a point scores. -/
def pos (t : Fin grid0.N) (a : Fin 128) : Fin 8192 := ⟨min (grid0.coords t 2).val 63 * 128 + a.val, by omega⟩
/-- Column `c` of key head `g`'s four query heads. -/
def qcol (g : Fin 8) (c : Fin 512) : Fin 4096 := ⟨g.val * 512 + c.val, by omega⟩
/-- Column `k` of key head `g`. -/
def kcol (g : Fin 8) (k : Fin 128) : Fin 1024 := ⟨g.val * 128 + k.val, by omega⟩

variable (hO : Ok m) (c : Dev nD) (t : Fin grid0.N)

theorem iblk0_apply (a : Fin 128) (k : Fin 512) :
    iblk m hO c 0 t (ix3 (0 : Fin 1) a k) = m ((c.tc : Thread nD τ).loc main_arg1) (ix3 (bOf t) (pos t a) (qcol (gOf t) k)) := by
  have e : ((cfgM m hO).win 0).index t = ![(grid0.coords t 0).val, min (grid0.coords t 2).val 63, (grid0.coords t 1).val] := tix0_eq (grid0.coords t)
  blk_ext [iblk, V, e, bOf, pos, qcol, gOf]

theorem iblk1_apply (r : Fin 4) (a : Fin 128) :
    iblk m hO c 1 t (ix4 (0 : Fin 1) (0 : Fin 1) r a) = m ((c.tc : Thread nD τ).loc main_arg2) (ix4 (bOf t) (gOf t) r (pos t a)) := by
  have e : ((cfgM m hO).win 1).index t = ![(grid0.coords t 0).val, (grid0.coords t 1).val, 0, min (grid0.coords t 2).val 63] := tix1_eq (grid0.coords t)
  blk_ext [iblk, V, e, bOf, pos, gOf]

theorem iblk2_apply (j : Fin 8192) (k : Fin 128) :
    iblk m hO c 2 t (ix3 (0 : Fin 1) j k) = m ((c.tc : Thread nD τ).loc main_arg3) (ix3 (bOf t) j (kcol (gOf t) k)) := by
  have e : ((cfgM m hO).win 2).index t = ![(grid0.coords t 0).val, 0, (grid0.coords t 1).val] := tix2_eq (grid0.coords t)
  blk_ext [iblk, V, e, bOf, kcol, gOf]

theorem iblk3_apply (j : Fin 8192) :
    iblk m hO c 3 t (ix4 (0 : Fin 1) (0 : Fin 1) (0 : Fin 1) j) = m ((c.tc : Thread nD τ).loc main_arg4) (ix4 (bOf t) (gOf t) (0 : Fin 1) j) := by
  have e : ((cfgM m hO).win 3).index t = ![(grid0.coords t 0).val, (grid0.coords t 1).val, 0, 0] := tix3_eq (grid0.coords t)
  blk_ext [iblk, V, e, bOf, gOf]

theorem iblk4_apply (d : Fin 128) (j : Fin 8192) :
    iblk m hO c 4 t (ix4 (0 : Fin 1) (0 : Fin 1) d j) = m ((c.tc : Thread nD τ).loc main_arg5) (ix4 (bOf t) (gOf t) d j) := by
  have e : ((cfgM m hO).win 4).index t = ![(grid0.coords t 0).val, (grid0.coords t 1).val, 0, 0] := tix4_eq (grid0.coords t)
  blk_ext [iblk, V, e, bOf, gOf]

theorem iblk5_apply (d : Fin 128) :
    iblk m hO c 5 t (ix4 (0 : Fin 1) (0 : Fin 1) (0 : Fin 1) d) = m ((c.tc : Thread nD τ).loc main_arg6) (ix4 (bOf t) (gOf t) (0 : Fin 1) d) := by
  have e : ((cfgM m hO).win 5).index t = ![(grid0.coords t 0).val, (grid0.coords t 1).val, 0, 0] := tix5_eq (grid0.coords t)
  blk_ext [iblk, V, e, bOf, gOf]

/-- The prefix length of a point's batch row. -/
theorem word_apply : word c (grid0.coords t) (tbl m 0) = m ((c.tc : Thread nD τ).loc main_arg0) (ix1 (bOf t)) := by
  obtain rfl : c = 0 := Subsingleton.elim _ _
  have h0 : (grid0.coords t 0).val < 3 := (grid0.coords t 0).isLt
  unfold word tbl
  refine congrArg (m _) (funext fun (a : Fin 1) => Fin.ext ?_)
  match a with
  | ⟨0, _⟩ =>
    show (BitVec.ofNat 32 (grid0.coords t 0).val).toNat + 1 * 0 = (grid0.coords t 0).val
    rw [BitVec.toNat_ofNat, Nat.mod_eq_of_lt (by omega)]; omega

/-- The point after one whose tile is scored has the coordinates of it, one tile on. -/
theorem coords_next (u t : Fin grid0.N) (h : u.val + 1 = t.val) (ht : (grid0.coords t 2).val ≠ 0) :
    bOf u = bOf t ∧ gOf u = gOf t ∧ (grid0.coords u 2).val + 1 = (grid0.coords t 2).val := by
  have e0 := coord0 u; have e1 := coord1 u; have e2 := coord2 u
  have f0 := coord0 t; have f1 := coord1 t; have f2 := coord2 t
  rw [f2] at ht
  refine ⟨Fin.ext ?_, Fin.ext ?_, ?_⟩
  · show (grid0.coords u 0).val = (grid0.coords t 0).val
    omega
  · show (grid0.coords u 1).val = (grid0.coords t 1).val
    omega
  · omega

/-- The output is written back only at points past the first of a row. -/
theorem flush_pos (t : Fin grid0.N) (h : ((cfgM m hO).win 6).flush t = true) : (grid0.coords t 2).val ≠ 0 := by
  rw [Window.flush_eq_flushOf] at h
  unfold Window.flushOf at h
  intro h0
  have e2 := coord2 t
  have hN : t.val < 1560 := t.isLt
  simp only [Bool.and_eq_true, Bool.or_eq_true, decide_eq_true_eq] at h
  rcases h.2 with h1 | ⟨h1, h2⟩
  · have : t.val + 1 = 1560 := h1
    omega
  · apply h2
    show cc0_transform_6 _ = cc0_transform_6 _
    have h1' : t.val + 1 < 1560 := h1
    have f0 := coord0 ⟨t.val + 1, h1⟩; have f1 := coord1 ⟨t.val + 1, h1⟩; have f2 := coord2 ⟨t.val + 1, h1⟩
    have e0 := coord0 t; have e1 := coord1 t
    simp only at f0 f1 f2
    rw [tix6_eq, tix6_eq, f0, f1, f2, e0, e1, e2]
    have a : (t.val + 1) / 520 = t.val / 520 := by omega
    have b : (t.val + 1) / 65 = t.val / 65 := by omega
    have d : (t.val + 1) % 65 - 1 = t.val % 65 - 1 := by omega
    rw [a, b, d]

end Cert.KernelIdeal.Hand

end
-- ==== Proof.KI.Track.lean ====
module

public import proofs.«01_k».proof.Proof.KI.ValueA
public import proofs.«01_k».proof.Proof.KI.ValueB
public import proofs.«01_k».proof.Proof.KI.Blocks
public import proofs.«01_k».proof.Proof.KI.Frame
public import Idealize.ShloMosaic.Lib.Pipeline.DatRel
public import Idealize.ShloMosaic.Lib.Pipeline.ArrRel

/-! The run of the attention call with the scores, scales and shifts followed from point to point: at each point after the first
of a row the block of the result is the attention of the tile of queries scored at the point before. -/

@[expose] public section

set_option maxRecDepth 16384

noncomputable section

namespace Cert.KernelIdeal.Hand

open Cert.KernelIdeal.Gen Cert.Words
open Idealize.ShloMosaic hiding ix1 ix2 ix3 ix4
open Idealize.ShloMosaic.TcCoe Idealize.ShloMosaic.Tactic
open Idealize.ShloMosaic.ValueIdx (ix1 ix2 ix3 ix4)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)
variable (hO : Ok m) (c : Dev nD)

/-- The masked scores of the tile of point `u`. -/
def sAt (u : Fin grid0.N) : ℕ → Fin 512 → EReal :=
  mskS (len (word c (grid0.coords u) (tbl m 0))) (grid0.coords u 2).val (iblk m hO c 2 u) (kslOf (iblk m hO c 3 u)) (qtOf (iblk m hO c 0 u))
/-- The blocks of keys that the tile of point `u` sees. -/
def bAt (u : Fin grid0.N) : ℕ := all (grid0.coords u) (word c (grid0.coords u) (tbl m 0))
/-- The exponentials of the tile of point `u`. -/
def eAt (u : Fin grid0.N) (j : ℕ) (k : Fin 512) : EReal :=
  Ideal.exp2 (sAt m hO c u j k * cOf (iblk m hO c 1 u) k - mOf (sAt m hO c u) (bAt m c u) (iblk m hO c 1 u) k)

/-- What the body leaves in its scratch buffers at point `u`. -/
def TrackAt (u : Fin grid0.N) (d11 : Vec Ideal S2x8192x512 .f32) (d12 : Vec Ideal S8192x128 .f32) (d14 d15 : Vec Ideal S2x8x512 .f32) : Prop :=
  RowsAt (sAt m hO c u) (bAt m c u) (cur (grid0.coords u)) d11 ∧ d12 = kslOf (iblk m hO c 3 u)
    ∧ CAt (iblk m hO c 1 u) (cur (grid0.coords u)) d14 ∧ MAt (sAt m hO c u) (bAt m c u) (iblk m hO c 1 u) (cur (grid0.coords u)) d15

/-- What the scratch buffers hold before point `n`: what the body left at the point before. -/
def TrackBefore (n : Fin (grid0.N + 1)) (d11 : Vec Ideal S2x8192x512 .f32) (d12 : Vec Ideal S8192x128 .f32) (d14 d15 : Vec Ideal S2x8x512 .f32) : Prop :=
  ∀ u : Fin grid0.N, u.val + 1 = n.val → TrackAt m hO c u d11 d12 d14 d15

/-- What the body leaves in the block of the result at point `t`: the attention of the tile of the point before. -/
def OutRel (t : Fin grid0.N) (X : Vec Ideal S1x128x512 .bf16) : Prop :=
  ∀ u : Fin grid0.N, u.val + 1 = t.val → (grid0.coords t 2).val ≠ 0 →
    OutAt (vOf (iblk m hO c 4 u)) (eAt m hO c u) (bAt m c u) (iblk m hO c 5 u) X

theorem old_eq_all (i i' : grid0.Coords) (v : BitVec 32) (h : (i 2).val + 1 = (i' 2).val) : old i' v = all i v := by
  have h' : (i' 2).val < 65 := (i' 2).isLt
  unfold old all
  rw [if_pos (by omega), if_pos (by omega), ← h]

theorem prv_eq_cur (i i' : grid0.Coords) (h : (i 2).val + 1 = (i' 2).val) : prv i' = cur i :=
  Fin.ext (by show 1 - (i' 2).val % 2 = (i 2).val % 2; omega)

/-- A result is made of the exponentials of the seen keys. -/
theorem OutAt_congr {W W' : ℕ → Fin 128 → EReal} {E E' : ℕ → Fin 512 → EReal} {B : ℕ} {x x' : Vec Ideal S1x1x1x128 .f32} {X : Vec Ideal S1x128x512 .bf16}
    (hW : ∀ j d, W j d = W' j d) (hE : ∀ j, j < 512 * B → ∀ k, E j k = E' j k)
    (hx : ∀ d : Fin 128, x (ix4 (0 : Fin 1) (0 : Fin 1) (0 : Fin 1) d) = x' (ix4 (0 : Fin 1) (0 : Fin 1) (0 : Fin 1) d)) (h : OutAt W E B x X) : OutAt W' E' B x' X := fun r a d => by
  rw [h r a d]; unfold oOf
  rw [hx d]
  have e1 : ∑ j ∈ Finset.range (512 * B), W j d * min (E j (hcol r a)) 448 = ∑ j ∈ Finset.range (512 * B), W' j d * min (E' j (hcol r a)) 448 :=
    Finset.sum_congr rfl fun j hj => by rw [hW, hE j (Finset.mem_range.mp hj)]
  have e2 : ∑ j ∈ Finset.range (512 * B), E j (hcol r a) = ∑ j ∈ Finset.range (512 * B), E' j (hcol r a) :=
    Finset.sum_congr rfl fun j hj => by rw [hE j (Finset.mem_range.mp hj)]
  rw [e1, e2]

theorem ksl_same (u t : Fin grid0.N) (h : bOf u = bOf t ∧ gOf u = gOf t) : kslOf (iblk m hO c 3 u) = kslOf (iblk m hO c 3 t) :=
  funext fun z => by
    have e : ∀ j : Fin 8192, iblk m hO c 3 u (ix4 (0 : Fin 1) (0 : Fin 1) (0 : Fin 1) j) = iblk m hO c 3 t (ix4 (0 : Fin 1) (0 : Fin 1) (0 : Fin 1) j) :=
      fun j => by rw [iblk3_apply, iblk3_apply, h.1, h.2]
    exact e (z 0)

/-- From the scratch buffers as the point before left them, the block the body makes is the attention of that point's tile. -/
theorem out_of_track (hp : Short m) (t u : Fin grid0.N) (hu : u.val + 1 = t.val) (ht : (grid0.coords t 2).val ≠ 0)
    (d11 : Vec Ideal S2x8192x512 .f32) (d12 : Vec Ideal S8192x128 .f32) (d14 d15 : Vec Ideal S2x8x512 .f32) (hT : TrackAt m hO c u d11 d12 d14 d15)
    (X : Vec Ideal S1x128x512 .bf16)
    (h : OutAt (vOf (iblk m hO c 4 t)) (eOf d11 d14 d15 (prv (grid0.coords t))) (old (grid0.coords t) (word c (grid0.coords t) (tbl m 0))) (iblk m hO c 5 t) X) :
    OutAt (vOf (iblk m hO c 4 u)) (eAt m hO c u) (bAt m c u) (iblk m hO c 5 u) X := by
  obtain ⟨hb, hg, h2⟩ := coords_next u t hu ht
  have hw : word c (grid0.coords t) (tbl m 0) = word c (grid0.coords u) (tbl m 0) := by rw [word_apply, word_apply, hb]
  rw [hw, old_eq_all _ _ _ h2, prv_eq_cur _ _ h2] at h
  obtain ⟨hr, -, hc, hm⟩ := hT
  refine OutAt_congr (fun j d => ?_) (fun j hj k => ?_) (fun d => ?_) h
  · show iblk m hO c 4 t (ix4 (0 : Fin 1) (0 : Fin 1) d (row j)) = iblk m hO c 4 u (ix4 (0 : Fin 1) (0 : Fin 1) d (row j))
    rw [iblk4_apply, iblk4_apply, hb, hg]
  · have hB : all (grid0.coords u) (word c (grid0.coords u) (tbl m 0)) ≤ 16 := all_le (grid0.coords u) (hp c (grid0.coords u))
    have hj' : j < 512 * all (grid0.coords u) (word c (grid0.coords u) (tbl m 0)) := hj
    unfold eOf eAt
    rw [hr j (by omega) hj' k, hc, hm]
  · rw [iblk5_apply, iblk5_apply, hb, hg]

theorem trackBefore_succ (t : Fin grid0.N) (d11 : Vec Ideal S2x8192x512 .f32) (d12 : Vec Ideal S8192x128 .f32) (d14 d15 : Vec Ideal S2x8x512 .f32)
    (h : TrackAt m hO c t d11 d12 d14 d15) : TrackBefore m hO c t.succ d11 d12 d14 d15 := fun u hu => by
  obtain rfl : u = t := Fin.ext (by have : u.val + 1 = t.val + 1 := hu; omega)
  exact h

theorem trackBefore_at (t u : Fin grid0.N) (hu : u.val + 1 = t.val) (d11 : Vec Ideal S2x8192x512 .f32) (d12 : Vec Ideal S8192x128 .f32) (d14 d15 : Vec Ideal S2x8x512 .f32)
    (h : TrackBefore m hO c t.castSucc d11 d12 d14 d15) : TrackAt m hO c u d11 d12 d14 d15 :=
  h u (by rw [Fin.val_castSucc]; exact hu)

/-- What the body carries from point to point: the scratch buffers as the point before left them, the generator's register and the
table. -/
def phiT (n : Fin (grid0.N + 1)) : sProp 𝕄 :=
  iprop((∃ d11 d12 d14 d15, ⌜TrackBefore m hO c n d11 d12 d14 d15⌝ ∗ owns (c : Thread nD τ) scM0_0 fullShare d11 ∗ owns (c : Thread nD τ) scM0_1 fullShare d12
      ∗ owns (c : Thread nD τ) scM0_3 fullShare d14 ∗ owns (c : Thread nD τ) scM0_4 fullShare d15)
    ∗ (∃ d, owns (c : Thread nD τ) scM0_2 fullShare d) ∗ (∃ d, owns (c : Thread nD τ) scM0_5 fullShare d) ∗ (∃ r, prngReg c r) ∗ tbPt0 c tbM0_0 (tbl m 0))

/-- The proof data of the pipeline on core `c`: the arrays as launched, the inputs' blocks kept, and `phiT` carried. -/
def datsT (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ n := phiT m hO c n
  q _ := fullShare
  owed _ := 0

/-- The proof data's arrays are the region-entry contents: the proof data's definition projected (`dsimp`), so that
    `V` — a fold over @main's host prefix, long for some programs — is never unfolded to check it. -/
theorem A_eqT (w : Fin (cfgM m hO).W) : (datsT m hO 0 c).A w = V m c (Pipeline.arrRef spec0 w) := by
  dsimp only [datsT]

/-- What the body leaves, window by window (the proof data's `match` reduced by `dsimp`). -/
theorem after0_0T (t : Fin (cfgM m hO).N) : (datsT m hO 0 c).after 0 t = iblk m hO c 0 t := by dsimp only [datsT]; try rfl
theorem after0_1T (t : Fin (cfgM m hO).N) : (datsT m hO 0 c).after 1 t = iblk m hO c 1 t := by dsimp only [datsT]; try rfl
theorem after0_2T (t : Fin (cfgM m hO).N) : (datsT m hO 0 c).after 2 t = iblk m hO c 2 t := by dsimp only [datsT]; try rfl
theorem after0_3T (t : Fin (cfgM m hO).N) : (datsT m hO 0 c).after 3 t = iblk m hO c 3 t := by dsimp only [datsT]; try rfl
theorem after0_4T (t : Fin (cfgM m hO).N) : (datsT m hO 0 c).after 4 t = iblk m hO c 4 t := by dsimp only [datsT]; try rfl
theorem after0_5T (t : Fin (cfgM m hO).N) : (datsT m hO 0 c).after 5 t = iblk m hO c 5 t := by dsimp only [datsT]; try rfl

/-- Each input's current staging buffer holds its block at every point, fetched there or not (`beforeK_W_of`). -/
theorem before0_0T (t : Fin (cfgM m hO).N) (d) : (datsT m hO 0 c).before 0 t d = iblk m hO c 0 t :=
  before0_0_of m hO (datsT m hO 0 c) (A_eqT m hO c 0) (after0_0T m hO c) t d
theorem before0_1T (t : Fin (cfgM m hO).N) (d) : (datsT m hO 0 c).before 1 t d = iblk m hO c 1 t :=
  before0_1_of m hO (datsT m hO 0 c) (A_eqT m hO c 1) (after0_1T m hO c) t d
theorem before0_2T (t : Fin (cfgM m hO).N) (d) : (datsT m hO 0 c).before 2 t d = iblk m hO c 2 t :=
  before0_2_of m hO (datsT m hO 0 c) (A_eqT m hO c 2) (after0_2T m hO c) t d
theorem before0_3T (t : Fin (cfgM m hO).N) (d) : (datsT m hO 0 c).before 3 t d = iblk m hO c 3 t :=
  before0_3_of m hO (datsT m hO 0 c) (A_eqT m hO c 3) (after0_3T m hO c) t d
theorem before0_4T (t : Fin (cfgM m hO).N) (d) : (datsT m hO 0 c).before 4 t d = iblk m hO c 4 t :=
  before0_4_of m hO (datsT m hO 0 c) (A_eqT m hO c 4) (after0_4T m hO c) t d
theorem before0_5T (t : Fin (cfgM m hO).N) (d) : (datsT m hO 0 c).before 5 t d = iblk m hO c 5 t :=
  before0_5_of m hO (datsT m hO 0 c) (A_eqT m hO c 5) (after0_5T m hO c) t d

/-! ## The body obligation, at a generic point -/

/-- What the body is called with at point `t` (Lib/Pipeline.lean `BodyObligation`'s precondition, the windows one by one), -/
def bodyPreT (t : Fin (cfgM m hO).N) : sProp 𝕄 :=
  iprop((datsT m hO 0 c).Φ t.castSucc ∗ (datsT m hO 0 c).owesAt () t.castSucc
    ∗ (∃ d, owns (c : Thread nD τ) (ms0_0 m hO t) fullShare ((datsT m hO 0 c).before 0 t d))
    ∗ (∃ d, owns (c : Thread nD τ) (ms0_1 m hO t) fullShare ((datsT m hO 0 c).before 1 t d))
    ∗ (∃ d, owns (c : Thread nD τ) (ms0_2 m hO t) fullShare ((datsT m hO 0 c).before 2 t d))
    ∗ (∃ d, owns (c : Thread nD τ) (ms0_3 m hO t) fullShare ((datsT m hO 0 c).before 3 t d))
    ∗ (∃ d, owns (c : Thread nD τ) (ms0_4 m hO t) fullShare ((datsT m hO 0 c).before 4 t d))
    ∗ (∃ d, owns (c : Thread nD τ) (ms0_5 m hO t) fullShare ((datsT m hO 0 c).before 5 t d))
    ∗ (∃ d, owns (c : Thread nD τ) (ms0_6 m hO t) fullShare d))

/-- and what it returns. -/
def bodyPostT (t : Fin (cfgM m hO).N) : sProp 𝕄 :=
  iprop((datsT m hO 0 c).Φ t.succ ∗ (datsT m hO 0 c).owesAt () t.succ
    ∗ (datsT m hO 0 c).leavesExact 0 t
    ∗ (datsT m hO 0 c).leavesExact 1 t
    ∗ (datsT m hO 0 c).leavesExact 2 t
    ∗ (datsT m hO 0 c).leavesExact 3 t
    ∗ (datsT m hO 0 c).leavesExact 4 t
    ∗ (datsT m hO 0 c).leavesExact 5 t
    ∗ (∃ d, ⌜OutRel m hO c t d⌝ ∗ owns (c : Thread nD τ) (ms0_6 m hO t) fullShare d))

set_option maxHeartbeats 2400000 in
/-- The body at any point. -/
theorem sound_bodyT (hp : Short m) (t : Fin (cfgM m hO).N) :
    bodyPreT m hO c t ⊢ wp Idealize.ShloMosaic.frame (wpE (defs₀ (F := Ideal)) Variants.none c none) Set.univ (bodyAt0 (adm m hO) t) (fun _ => bodyPostT m hO c t) := by
  unfold bodyPreT bodyPostT bodyAt0
  simp only [before0_0T, before0_1T, before0_2T, before0_3T, before0_4T, before0_5T]
  rw [show (datsT m hO 0 c).owesAt () t.succ = (datsT m hO 0 c).owesAt () t.castSucc from rfl]
  rw [show (datsT m hO 0 c).Φ t.castSucc = phiT m hO c t.castSucc from rfl, show (datsT m hO 0 c).Φ t.succ = phiT m hO c t.succ from rfl]
  unfold phiT
  rw [show (datsT m hO 0 c).leavesExact 0 t = owns (c : Thread nD τ) (ms0_0 m hO t) fullShare ((datsT m hO 0 c).after 0 t) from by
    unfold Dat.leavesExact; rw [liveAt0_0 m hO t]; try rfl, after0_0T]
  rw [show (datsT m hO 0 c).leavesExact 1 t = owns (c : Thread nD τ) (ms0_1 m hO t) fullShare ((datsT m hO 0 c).after 1 t) from by
    unfold Dat.leavesExact; rw [liveAt0_1 m hO t]; try rfl, after0_1T]
  rw [show (datsT m hO 0 c).leavesExact 2 t = owns (c : Thread nD τ) (ms0_2 m hO t) fullShare ((datsT m hO 0 c).after 2 t) from by
    unfold Dat.leavesExact; rw [liveAt0_2 m hO t]; try rfl, after0_2T]
  rw [show (datsT m hO 0 c).leavesExact 3 t = owns (c : Thread nD τ) (ms0_3 m hO t) fullShare ((datsT m hO 0 c).after 3 t) from by
    unfold Dat.leavesExact; rw [liveAt0_3 m hO t]; try rfl, after0_3T]
  rw [show (datsT m hO 0 c).leavesExact 4 t = owns (c : Thread nD τ) (ms0_4 m hO t) fullShare ((datsT m hO 0 c).after 4 t) from by
    unfold Dat.leavesExact; rw [liveAt0_4 m hO t]; try rfl, after0_4T]
  rw [show (datsT m hO 0 c).leavesExact 5 t = owns (c : Thread nD τ) (ms0_5 m hO t) fullShare ((datsT m hO 0 c).after 5 t) from by
    unfold Dat.leavesExact; rw [liveAt0_5 m hO t]; try rfl, after0_5T]
  iintro ⟨⟨⟨%d11, %d12, %d14, %d15, %hT, HS0, HS1, HS3, HS4⟩, HS2, HS5, Hg, HT0⟩, Ho, ⟨%d0, H0⟩, ⟨%d1, H1⟩, ⟨%d2, H2⟩, ⟨%d3, H3⟩, ⟨%d4, H4⟩, ⟨%d5, H5⟩, ⟨%d6, H6⟩⟩
  by_cases h0 : ((grid0.coords t) 2).val = 0
  · iapply ((valueRun0_A c (grid0.coords t) _ _ _ _ _ _ _ _ _ _ _ _ _ _ _ _ _ _ _ _ _ _ _ _ _ _ ((hcond0_0 _).mpr h0) (fun h => (hcond0_1 _).mp h h0) (iblk m hO c 0 t) (iblk m hO c 1 t) (iblk m hO c 2 t) (iblk m hO c 3 t) (iblk m hO c 4 t) (iblk m hO c 5 t) (tbl m 0) (chk1_of_le _ (hp c _)) (hp c _)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexists _; iexact HS1
    isplitl [HS2]; · iexact HS2
    isplitl [HS3]; · iexists _; iexact HS3
    isplitl [HS4]; · iexists _; iexact HS4
    isplitl [HS5]; · iexact HS5
    isplitl [HT0]; · iexact HT0
    iintro ⟨H0, H1, H2, H3, H4, H5, ⟨%e10, H6⟩, ⟨%e11, %h11, HS0⟩, ⟨%e12, %h12, HS1⟩, HS2, ⟨%e14, %h14, HS3⟩, ⟨%e15, %h15, HS4⟩, HS5, HT0⟩
    isplitl [HS0 HS1 HS2 HS3 HS4 HS5 Hg HT0]
    · isplitl [HS0 HS1 HS3 HS4]
      · iexists e11, e12, e14, e15
        isplitr
        · ipureintro
          exact trackBefore_succ m hO c t _ _ _ _ ⟨h11, h12, h14, h15⟩
        isplitl [HS0]; · iexact HS0
        isplitl [HS1]; · iexact HS1
        isplitl [HS3]; · iexact HS3
        iexact HS4
      isplitl [HS2]; · iexact HS2
      isplitl [HS5]; · iexact HS5
      isplitl [Hg]; · iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro
    exact fun u _ ht => absurd h0 ht
  · obtain ⟨u, hu⟩ : ∃ u : Fin grid0.N, u.val + 1 = t.val :=
      ⟨⟨t.val - 1, Nat.lt_of_le_of_lt (Nat.sub_le _ _) t.isLt⟩, by have := coord2 t; show t.val - 1 + 1 = t.val; omega⟩
    have hTu := trackBefore_at m hO c t u hu _ _ _ _ hT
    obtain ⟨hb, hg, -⟩ := coords_next u t hu h0
    obtain rfl : d12 = kslOf (iblk m hO c 3 t) := hTu.2.1.trans (ksl_same m hO c u t ⟨hb, hg⟩)
    iapply ((valueRun0_B c (grid0.coords t) _ _ _ _ _ _ _ _ _ _ _ _ _ _ _ _ _ _ _ _ _ _ _ _ _ _ (fun h => h0 ((hcond0_0 _).mp h)) ((hcond0_1 _).mpr h0) (iblk m hO c 0 t) (iblk m hO c 1 t) (iblk m hO c 2 t) (iblk m hO c 3 t) (iblk m hO c 4 t) (iblk m hO c 5 t) (tbl m 0) (chk1_of_le _ (hp c _)) (hp c _) d11 d14 d15) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, H5, ⟨%e10, %h10, H6⟩, ⟨%e11, %h11, HS0⟩, ⟨%e12, %h12, HS1⟩, HS2, ⟨%e14, %h14, HS3⟩, ⟨%e15, %h15, HS4⟩, HS5, HT0⟩
    isplitl [HS0 HS1 HS2 HS3 HS4 HS5 Hg HT0]
    · isplitl [HS0 HS1 HS3 HS4]
      · iexists e11, e12, e14, e15
        isplitr
        · ipureintro
          exact trackBefore_succ m hO c t _ _ _ _ ⟨h11, h12, h14, h15⟩
        isplitl [HS0]; · iexact HS0
        isplitl [HS1]; · iexact HS1
        isplitl [HS3]; · iexact HS3
        iexact HS4
      isplitl [HS2]; · iexact HS2
      isplitl [HS5]; · iexact HS5
      isplitl [Hg]; · iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro
    exact fun u' hu' ht => out_of_track m hO c hp t u' hu' ht _ _ _ _ (trackBefore_at m hO c t u' hu' _ _ _ _ hT) _ h10

/-- The relation the blocks of the result are held to. -/
def relT (w : Fin 7) (t : Fin (cfgM m hO).N) (X : (((cfgM m hO).win w).block).Idx → Elt Ideal ((cfgM m hO).win w).elt) : Prop :=
  match w, X with
  | ⟨6, _⟩, X => OutRel m hO c t X
  | _, _ => True

/-- The body obligation. -/
theorem body_obligationT (hp : Short m) : BodyObligationRel (datsT m hO 0 c) (defs₀ (F := Ideal)) Variants.none () Set.univ forgets0 (relT m hO c) := fun t => by
  rw [bigSep_W0, bigSep_W0, defs₀_row m hO]
  refine triple_restated (sound_bodyT m hO c hp t) rfl ?_ fun _ => .rfl
  unfold bodyPreT
  refine sep_mono .rfl (sep_mono .rfl (sep_mono .rfl (sep_mono .rfl (sep_mono .rfl (sep_mono .rfl (sep_mono .rfl (sep_mono .rfl ?_)))))))
  refine (show iprop(∃ Y, ⌜((datsT m hO 0 c).toRRel forgets0 (relT m hO c)).Finds 6 t Y⌝ ∗ owns (c : Thread nD τ) (ms0_6 m hO t) fullShare Y)
    ⊢ iprop(∃ d, owns (c : Thread nD τ) (ms0_6 m hO t) fullShare d) from ?_)
  iintro ⟨%Y, -, H⟩
  iexists Y
  iexact H

theorem phiT_in : iprop(Pipeline.ΦA spec0 c ∗ Pipeline.ΦT pre0 (tbl m) c : sProp 𝕄) ⊢ phiT m hO c 0 := by
  rw [PhiT0_eq, PhiA0_eq]
  unfold phiT
  iintro ⟨⟨⟨⟨%d11, H0⟩, ⟨%d12, H1⟩, H2, ⟨%d14, H3⟩, ⟨%d15, H4⟩, H5⟩, Hg⟩, HT⟩
  isplitl [H0 H1 H3 H4]
  · iexists d11, d12, d14, d15
    isplitr
    · ipureintro
      exact fun u hu => absurd hu (Nat.succ_ne_zero _)
    isplitl [H0]; · iexact H0
    isplitl [H1]; · iexact H1
    isplitl [H3]; · iexact H3
    iexact H4
  isplitl [H2]; · iexact H2
  isplitl [H5]; · iexact H5
  isplitl [Hg]; · iexact Hg
  iexact HT

theorem phiT_out (n : Fin (grid0.N + 1)) : phiT m hO c n ⊢ (Pipeline.ΦA spec0 c : sProp 𝕄) := by
  rw [PhiA0_eq]
  unfold phiT
  iintro ⟨⟨%d11, %d12, %d14, %d15, -, H0, H1, H3, H4⟩, H2, H5, Hg, -⟩
  isplitl [H0 H1 H2 H3 H4 H5]
  · isplitl [H0]; · iexists _; iexact H0
    isplitl [H1]; · iexists _; iexact H1
    isplitl [H2]; · iexact H2
    isplitl [H3]; · iexists _; iexact H3
    isplitl [H4]; · iexists _; iexact H4
    iexact H5
  iexact Hg

-- the run theorem's implicit arguments are found by unifying its conclusion with this one, which takes unfolding plain
-- definitions in a metavariable's type
set_option backward.isDefEq.respectTransparency.types false in
/-- The run of the call, the blocks of the result held to `relT`. -/
theorem run_mainT (hp : Short m) : θ_run defs (onTc (τ := τ) (main (F := Ideal))) (s₀ m ρ)
    (fun r => (Pipeline.RDat.FramePost ((Pipeline.pin pcfgs fun _ => adm m hO) 0) (fun c => (datsT m hO 0 c).toRRel forgets0 (relT m hO c)) (V m)) r ∧ r.2.sem = fun _ => 0) :=
  Pipeline.RDat.θ_run_frameP_track (Q' := _) pcfgs (fun _ => adm m hO) (0 : Fin 1) launch0 defs₀ Variants.none
    (fun c => (datsT m hO 0 c).toRRel forgets0 (relT m hO c)) m ρ main
    (hbody := fun c => (body_obligationT m hO c hp).toRRel) (hshare := fun c => (datsT m hO 0 c).share_full fun _ => rfl)
    (howed := fun _ _ => rfl) (V := V m) (hmain := hmain m Variants.none) (hA := A_eqT m hO) (hpf := V_pre m)
    (hin := phiT_in m hO) (hout := fun c => phiT_out m hO c _)

end Cert.KernelIdeal.Hand

end
-- ==== Proof.Attn.lean ====
module

public import Idealize.ShloMosaic.PureOps.Ideal
public import Idealize.ShloMosaic.PureOps.Ideal.Laws
public import Mathlib.Analysis.SpecialFunctions.Pow.Real
public import Mathlib.Data.EReal.Inv

/-! The equation between the two ways of computing one output of the attention, on extended reals. The kernel takes powers of
two, shifted by eight, over the blocks of keys it visits; the reference takes exponentials over all keys and scales them by 256. -/

@[expose] public section

noncomputable section

namespace Cert.Attn

open Idealize.ShloMosaic

/-- The score of key `j`, `-∞` from key `n` on. -/
def vis (n : ℕ) (x : ℕ → EReal) (j : ℕ) : EReal := if j < n then x j else ⊥

/-- The kernel's exponential: `y` the raw score, `mx` the greatest, `c` the scale. -/
def kE (y mx c : EReal) : EReal := Ideal.exp2 (y * c - (mx * c - 8))

/-- One output as the kernel computes it: `W` the codes of the values, `v` their scale, `N` the keys it visits. -/
def kO (N n : ℕ) (x : ℕ → EReal) (c : EReal) (W : ℕ → EReal) (v : EReal) : EReal :=
  Ideal.div (∑ j ∈ Finset.range N, W j * min (kE (vis n x j) ((Finset.range N).sup (vis n x)) c) 448)
    (∑ j ∈ Finset.range N, kE (vis n x j) ((Finset.range N).sup (vis n x)) c) * v

/-- One output as the reference computes it. -/
def rO (N n : ℕ) (x : ℕ → EReal) (W : ℕ → EReal) (v : EReal) : EReal :=
  Ideal.div ((∑ j ∈ Finset.range N, W j * min (Ideal.exp (vis n x j - (Finset.range N).sup (vis n x)) * 256) 448)
      * (v * ((2 ^ (-8 : ℤ) : ℝ) : EReal)))
    (∑ j ∈ Finset.range N, Ideal.exp (vis n x j - (Finset.range N).sup (vis n x)))

theorem log2_pos : 0 < (Real.log 2)⁻¹ := inv_pos.mpr (Real.log_pos (by norm_num))

theorem mul_log2_top : (⊤ : EReal) * (((Real.log 2)⁻¹ : ℝ) : EReal) = ⊤ := EReal.top_mul_coe_of_pos log2_pos
theorem mul_log2_bot : (⊥ : EReal) * (((Real.log 2)⁻¹ : ℝ) : EReal) = ⊥ := EReal.bot_mul_coe_of_pos log2_pos

theorem e8 : (8 : EReal) = ((8 : ℝ) : EReal) := rfl
theorem e256 : (256 : EReal) = ((256 : ℝ) : EReal) := rfl

/-- A power of two shifted by eight is the exponential times 256, infinite scores included. -/
theorem exp2_shift (X N : EReal) :
    Ideal.exp2 (X * (((Real.log 2)⁻¹ : ℝ) : EReal) - (N * (((Real.log 2)⁻¹ : ℝ) : EReal) - 8)) = Ideal.exp (X - N) * 256 := by
  have ht : (⊤ : EReal) * 256 = ⊤ := by rw [e256]; exact EReal.top_mul_coe_of_pos (by norm_num)
  induction N with
  | top =>
    rw [mul_log2_top, e8, EReal.top_sub_coe]
    rw [EReal.sub_top, EReal.sub_top]; simp
  | bot =>
    rw [mul_log2_bot, EReal.bot_sub]
    induction X with
    | bot => rw [mul_log2_bot, EReal.bot_sub]; simp
    | top => rw [mul_log2_top, EReal.top_sub_bot]; simp [ht]
    | coe x => rw [← EReal.coe_mul, EReal.coe_sub_bot, EReal.coe_sub_bot]; simp [ht]
  | coe n =>
    rw [e8, ← EReal.coe_mul, ← EReal.coe_sub]
    induction X with
    | bot => rw [mul_log2_bot, EReal.bot_sub, EReal.bot_sub]; simp
    | top => rw [mul_log2_top, EReal.top_sub_coe, EReal.top_sub_coe]; simp [ht]
    | coe x =>
      rw [← EReal.coe_mul, ← EReal.coe_sub, ← EReal.coe_sub, Ideal.exp2_coe, Ideal.exp_coe, e256, ← EReal.coe_mul]
      congr 1
      have hl : Real.log 2 ≠ 0 := (Real.log_pos (by norm_num)).ne'
      show (2 : ℝ) ^ (x * (Real.log 2)⁻¹ - (n * (Real.log 2)⁻¹ - 8) : ℝ) = Real.exp (x - n) * 256
      rw [show x * (Real.log 2)⁻¹ - (n * (Real.log 2)⁻¹ - 8) = (x - n) * (Real.log 2)⁻¹ + 8 by ring,
        Real.rpow_add (by norm_num), Real.rpow_def_of_pos (by norm_num)]
      rw [show Real.log 2 * ((x - n) * (Real.log 2)⁻¹) = x - n by field_simp]
      norm_num

theorem exp_nonneg (x : EReal) : 0 ≤ Ideal.exp x := by
  induction x with
  | bot => simp
  | top => simp
  | coe r => rw [Ideal.exp_coe]; exact_mod_cast (Real.exp_pos r).le

theorem sum_mul_256 {N : ℕ} (f : ℕ → EReal) (hf : ∀ j, 0 ≤ f j) :
    ∑ j ∈ Finset.range N, f j * 256 = (∑ j ∈ Finset.range N, f j) * 256 := by
  induction N with
  | zero => simp
  | succ N ih =>
    rw [Finset.sum_range_succ, Finset.sum_range_succ, ih,
      EReal.right_distrib_of_nonneg (Finset.sum_nonneg fun j _ => hf j) (hf N)]

/-- Multiplying by a positive number commutes with the maximum. -/
theorem sup_mul {k : EReal} (hk : 0 < k) (N : ℕ) (f : ℕ → EReal) :
    (Finset.range N).sup (fun j => f j * k) = (Finset.range N).sup f * k := by
  induction N with
  | zero => simp [EReal.bot_mul_of_pos hk]
  | succ N ih =>
    rw [Finset.range_add_one, Finset.sup_insert, Finset.sup_insert, ih]
    have hm : Monotone fun y : EReal => y * k := fun a b h => mul_le_mul_of_nonneg_right h hk.le
    exact (hm.map_max (a := f N) (b := (Finset.range N).sup f)).symm

theorem vis_mul {k : EReal} (hk : 0 < k) (n : ℕ) (x : ℕ → EReal) (j : ℕ) : vis n (fun j => x j * k) j = vis n x j * k := by
  unfold vis
  split_ifs
  · rfl
  · rw [EReal.bot_mul_of_pos hk]

/-- The keys from `n` on do not move the maximum. -/
theorem sup_vis {N N' n : ℕ} (h : n ≤ N) (h' : N ≤ N') (x : ℕ → EReal) : (Finset.range N').sup (vis n x) = (Finset.range N).sup (vis n x) := by
  refine le_antisymm (Finset.sup_le fun j hj => ?_) (Finset.sup_mono (Finset.range_mono h'))
  by_cases hn : j < n
  · exact Finset.le_sup (f := vis n x) (Finset.mem_range.mpr (by omega))
  · rw [vis, if_neg hn]; exact bot_le

/-- The two quotients agree, whether the sum of the exponentials is zero, finite or infinite. -/
theorem div_eq (a l v : EReal) (hl : 0 ≤ l) (hv : 0 < v) :
    Ideal.div a (l * 256) * v = Ideal.div (a * (v * ((2 ^ (-8 : ℤ) : ℝ) : EReal))) l := by
  have h2 : (0 : EReal) < ((2 ^ (-8 : ℤ) : ℝ) : EReal) := by exact_mod_cast (by positivity : (0 : ℝ) < 2 ^ (-8 : ℤ))
  have hw : 0 < v * ((2 ^ (-8 : ℤ) : ℝ) : EReal) := EReal.mul_pos hv h2
  rcases hl.eq_or_lt with rfl | hl
  · rw [zero_mul]
    unfold Ideal.div
    rw [if_pos rfl, if_pos rfl]
    rcases lt_trichotomy a 0 with ha | rfl | ha
    · rw [if_neg ha.not_gt, EReal.bot_mul_of_pos hv, if_neg]
      exact (EReal.mul_neg_iff.mpr (.inr ⟨ha, hw⟩)).not_gt
    · simp [EReal.bot_mul_of_pos hv]
    · rw [if_pos ha, EReal.top_mul_of_pos hv, if_pos (EReal.mul_pos ha hw)]
  · have h256 : (0 : EReal) < 256 := by rw [e256]; exact_mod_cast (by norm_num : (0 : ℝ) < 256)
    unfold Ideal.div
    rw [if_neg (EReal.mul_pos hl h256).ne', if_neg hl.ne', EReal.mul_inv]
    have hi : (256 : EReal)⁻¹ = ((2 ^ (-8 : ℤ) : ℝ) : EReal) := by
      rw [e256, ← EReal.coe_inv]; norm_num
    rw [hi]
    simp only [mul_assoc, mul_comm, mul_left_comm]

/-- The kernel's output is the reference's: the kernel visits `N` keys, at least the `n` that are seen; the reference all `N'`;
the kernel scales the raw scores by `k / log 2`, the reference by `k`. -/
theorem kO_eq_rO {N N' n : ℕ} (h : n ≤ N) (h' : N ≤ N') (x : ℕ → EReal) {k : EReal} (hk : 0 < k) (W : ℕ → EReal) {v : EReal} (hv : 0 < v) :
    kO N n x (k * (((Real.log 2)⁻¹ : ℝ) : EReal)) W v = rO N' n (fun j => x j * k) W v := by
  have hM : (Finset.range N').sup (vis n fun j => x j * k) = (Finset.range N).sup (vis n x) * k := by
    rw [funext (vis_mul hk n x), sup_mul hk, sup_vis h h']
  have hE : ∀ j, kE (vis n x j) ((Finset.range N).sup (vis n x)) (k * (((Real.log 2)⁻¹ : ℝ) : EReal))
      = Ideal.exp (vis n (fun j => x j * k) j - (Finset.range N').sup (vis n fun j => x j * k)) * 256 := fun j => by
    rw [hM, vis_mul hk, kE, ← mul_assoc, ← mul_assoc, exp2_shift]
  have h0 : ∀ j, n ≤ j → Ideal.exp (vis n (fun j => x j * k) j - (Finset.range N').sup (vis n fun j => x j * k)) = 0 := fun j hj => by
    rw [vis, if_neg (by omega), EReal.bot_sub, Ideal.exp_bot]
  unfold kO rO
  simp only [hE]
  rw [sum_mul_256 _ fun j => exp_nonneg _]
  have s1 : ∀ f : ℕ → EReal, (∀ j, n ≤ j → f j = 0) → ∑ j ∈ Finset.range N, f j = ∑ j ∈ Finset.range N', f j := fun f hf =>
    Finset.sum_subset (Finset.range_mono h') fun j _ hj => hf j (by rw [Finset.mem_range] at hj; omega)
  rw [s1 (fun j => W j * min (Ideal.exp (vis n (fun j => x j * k) j - (Finset.range N').sup (vis n fun j => x j * k)) * 256) 448)
      (fun j hj => by rw [h0 j hj, zero_mul, min_eq_left (by rw [show (448 : EReal) = ((448 : ℝ) : EReal) from rfl]; exact_mod_cast (by norm_num : (0 : ℝ) ≤ 448)), mul_zero]),
    s1 (fun j => Ideal.exp (vis n (fun j => x j * k) j - (Finset.range N').sup (vis n fun j => x j * k))) h0]
  exact div_eq _ _ _ (Finset.sum_nonneg fun j _ => exp_nonneg _) hv

end Cert.Attn

end
-- ==== Proof.Codes.lean ====
module

public import proofs.«01_k».proof.Proof.Attn
public import proofs.«01_k».proof.Proof.Words

/-! The score of one key against one output column, from the codes and the scales: the form in which the kernel's result and the
reference's are compared. -/

@[expose] public section

noncomputable section

namespace Cert.Attn

open Idealize.ShloMosaic Cert.Words Idealize.ShloMosaic.WordCmp

/-- Row `j` of the 8192. -/
def row (j : ℕ) : Fin 8192 := ⟨j % 8192, Nat.mod_lt _ (by norm_num)⟩
/-- The key head of a column of the result. -/
def kvHead (c : Fin 4096) : Fin 8 := ⟨c.val / 512, by omega⟩
/-- The query head of a column, within its key head. -/
def subHead (c : Fin 4096) : Fin 4 := ⟨c.val / 128 % 4, by omega⟩
/-- The coordinate of a column within its head. -/
def dim (c : Fin 4096) : Fin 128 := ⟨c.val % 128, by omega⟩
/-- Coordinate `i` of the query head of a column. -/
def qCol (c : Fin 4096) (i : Fin 128) : Fin 4096 := ⟨c.val / 512 * 512 + c.val / 128 % 4 * 128 + i.val, by omega⟩
/-- Coordinate `i` of the key head of a column. -/
def kCol (c : Fin 4096) (i : Fin 128) : Fin 1024 := ⟨c.val / 512 * 128 + i.val, by omega⟩

/-- The score of key `j` against the query at `p`, scaled by the key's scale alone. -/
def raw (q : Fin 3 → Fin 8192 → Fin 4096 → EReal) (k : Fin 3 → Fin 8192 → Fin 1024 → EReal) (ks : Fin 3 → Fin 8 → Fin 8192 → EReal)
    (b : Fin 3) (p : Fin 8192) (c : Fin 4096) (j : ℕ) : EReal :=
  (∑ i : Fin 128, k b (row j) (kCol c i) * q b p (qCol c i)) * ks b (kvHead c) (row j)

/-- A maximum over the 8192 rows, as one over the natural numbers below 8192. -/
theorem sup_rows (f : ℕ → EReal) : (Finset.univ.sup fun j : Fin 8192 => f j.val) = (Finset.range 8192).sup f := by
  apply le_antisymm
  · exact Finset.sup_le fun j _ => Finset.le_sup (f := f) (Finset.mem_range.mpr j.isLt)
  · exact Finset.sup_le fun j hj =>
      Finset.le_sup (f := fun j : Fin 8192 => f j.val) (Finset.mem_univ (⟨j, Finset.mem_range.mp hj⟩ : Fin 8192))

/-- The two tests of the mask say that a key is below the number of keys that the query sees. -/
theorem mask_iff (v : BitVec 32) (j p : Fin 8192) :
    IntOp.ori (IntOp.cmpi .slt (BitVec.ofNat 32 j.val) v) (IntOp.cmpi .sle (BitVec.ofNat 32 j.val) (BitVec.ofNat 32 p.val)) = 1#1
      ↔ j.val < max (len v) (p.val + 1) := by
  have hj : (BitVec.ofNat 32 j.val).toInt = (j.val : ℤ) := toInt_ofNat_of_lt (by simp only [Nat.reduceSub]; omega)
  have hp : (BitVec.ofNat 32 p.val).toInt = (p.val : ℤ) := toInt_ofNat_of_lt (by simp only [Nat.reduceSub]; omega)
  simp only [IntOp.ori, IntOp.cmpi, BitVec.slt_eq_decide, BitVec.sle_eq_decide, hj, hp, len]
  by_cases h1 : (j.val : ℤ) < v.toInt <;> by_cases h2 : (j.val : ℤ) ≤ (p.val : ℤ) <;> simp [h1, h2] <;> omega

end Cert.Attn

end
-- ==== Proof.KI.Result.lean ====
module

public import proofs.«01_k».proof.Proof.KI.Track
public import proofs.«01_k».proof.Proof.Codes

/-! The array that the kernel leaves: at every index the attention, as the kernel computes it. -/

@[expose] public section

set_option maxRecDepth 16384

noncomputable section

namespace Cert.KernelIdeal.Hand

open Cert.KernelIdeal.Gen Cert.Words
open Cert.Attn (kO kE vis raw kvHead subHead dim qCol kCol)
open Idealize.ShloMosaic hiding ix1 ix2 ix3 ix4
open Idealize.ShloMosaic.TcCoe
open Idealize.ShloMosaic.ValueIdx (ix1 ix2 ix3 ix4)
open Idealize.SL.Sem
open Idealize.ShloMosaic.Pipeline (Dat RDat Window)

variable (m : (ℓ : Loc nD τ sig) → Buf (Elt Ideal) ℓ) (ρ : Dev nD → PrngReg)
variable (hO : Ok m) (c : Dev nD)

/-- The scale of a query's scores, from the scale of its codes. -/
def qScale (z : EReal) : EReal := z * cC

/-- The keys that the kernel visits for the query at `p`, in whole blocks of 512: those the last query of its tile sees. -/
def keys (v : BitVec 32) (p : ℕ) : ℕ := 512 * ((max (len v) ((p / 128 + 1) * 128) + 511) / 512)

/-- The attention at one index of the result, as the kernel computes it from the arrays that a memory holds. -/
def kerAt (b : Fin 3) (p : Fin 8192) (k : Fin 4096) : EReal :=
  kO (keys (m ((c.tc : Thread nD τ).loc main_arg0) (ix1 b)) p.val) (max (len (m ((c.tc : Thread nD τ).loc main_arg0) (ix1 b))) (p.val + 1))
    (raw (fun b p k => m ((c.tc : Thread nD τ).loc main_arg1) (ix3 b p k)) (fun b j k => m ((c.tc : Thread nD τ).loc main_arg3) (ix3 b j k))
      (fun b g j => m ((c.tc : Thread nD τ).loc main_arg4) (ix4 b g (0 : Fin 1) j)) b p k)
    (qScale (m ((c.tc : Thread nD τ).loc main_arg2) (ix4 b (kvHead k) (subHead k) p)))
    (fun j => m ((c.tc : Thread nD τ).loc main_arg5) (ix4 b (kvHead k) (dim k) (row j)))
    (m ((c.tc : Thread nD τ).loc main_arg6) (ix4 b (kvHead k) (0 : Fin 1) (dim k)))

theorem kvHead_q (g : Fin 8) (h : Fin 4) (d : Fin 128) : kvHead (qcol g (hcol h d)) = g :=
  Fin.ext (by show (g.val * 512 + (128 * h.val + d.val)) / 512 = g.val; omega)
theorem subHead_q (g : Fin 8) (h : Fin 4) (d : Fin 128) : subHead (qcol g (hcol h d)) = h :=
  Fin.ext (by show (g.val * 512 + (128 * h.val + d.val)) / 128 % 4 = h.val; omega)
theorem dim_q (g : Fin 8) (h : Fin 4) (d : Fin 128) : dim (qcol g (hcol h d)) = d :=
  Fin.ext (by show (g.val * 512 + (128 * h.val + d.val)) % 128 = d.val; omega)
theorem qCol_q (g : Fin 8) (h : Fin 4) (d i : Fin 128) : qCol (qcol g (hcol h d)) i = qcol g (hcol h i) :=
  Fin.ext (by
    show (g.val * 512 + (128 * h.val + d.val)) / 512 * 512 + (g.val * 512 + (128 * h.val + d.val)) / 128 % 4 * 128 + i.val
      = g.val * 512 + (128 * h.val + i.val)
    omega)
theorem kCol_q (g : Fin 8) (h : Fin 4) (d i : Fin 128) : kCol (qcol g (hcol h d)) i = kcol g i :=
  Fin.ext (by
    show (g.val * 512 + (128 * h.val + d.val)) / 512 * 128 + i.val = g.val * 128 + i.val
    omega)

/-- A masked score of a tile, from the arrays. -/
theorem sAt_apply (u : Fin grid0.N) (hu : (grid0.coords u 2).val < 64) (h : Fin 4) (a d : Fin 128) (j : ℕ) :
    sAt m hO c u j (hcol h a) = vis (max (len (m ((c.tc : Thread nD τ).loc main_arg0) (ix1 (bOf u)))) ((pos u a).val + 1))
      (raw (fun b p k => m ((c.tc : Thread nD τ).loc main_arg1) (ix3 b p k)) (fun b j k => m ((c.tc : Thread nD τ).loc main_arg3) (ix3 b j k))
        (fun b g j => m ((c.tc : Thread nD τ).loc main_arg4) (ix4 b g (0 : Fin 1) j)) (bOf u) (pos u a) (qcol (gOf u) (hcol h d))) j := by
  unfold sAt mskS vis
  rw [word_apply]
  have hl : lim (len (m ((c.tc : Thread nD τ).loc main_arg0) (ix1 (bOf u)))) (grid0.coords u 2).val (hcol h a)
      = max (len (m ((c.tc : Thread nD τ).loc main_arg0) (ix1 (bOf u)))) ((pos u a).val + 1) := by
    have e : (pos u a).val = min (grid0.coords u 2).val 63 * 128 + a.val := rfl
    have e' : (hcol h a).val % 128 = a.val := by show (128 * h.val + a.val) % 128 = a.val; omega
    unfold lim
    rw [e, e', Nat.min_eq_left (by omega)]
  rw [hl]
  refine if_congr Iff.rfl ?_ rfl
  unfold rawS raw
  refine congrArg₂ (· * ·) (Finset.sum_congr rfl fun i _ => congrArg₂ (· * ·) ?_ ?_) ?_
  · rw [iblk2_apply, kCol_q]; rfl
  · show iblk m hO c 0 u (ix3 (0 : Fin 1) (lane (hcol h a)) (hcol (head (hcol h a)) i)) = _
    rw [iblk0_apply, lane_hcol, head_hcol, qCol_q]
  · show iblk m hO c 3 u (ix4 (0 : Fin 1) (0 : Fin 1) (0 : Fin 1) (row j)) = _
    rw [iblk3_apply, kvHead_q]; rfl

/-- One element of a block of the result, from the arrays. -/
theorem oOf_apply (u : Fin grid0.N) (hu : (grid0.coords u 2).val < 64) (h : Fin 4) (a d : Fin 128) :
    oOf (vOf (iblk m hO c 4 u)) (eAt m hO c u) (bAt m c u) (iblk m hO c 5 u) h a d
      = kerAt m c (bOf u) (pos u a) (qcol (gOf u) (hcol h d)) := by
  have hB : 512 * bAt m c u = keys (m ((c.tc : Thread nD τ).loc main_arg0) (ix1 (bOf u))) (pos u a).val := by
    have e : (pos u a).val / 128 = (grid0.coords u 2).val := by
      show (min (grid0.coords u 2).val 63 * 128 + a.val) / 128 = _
      omega
    unfold bAt all keys
    rw [word_apply, if_pos hu, e]
  have hc : cOf (iblk m hO c 1 u) (hcol h a)
      = qScale (m ((c.tc : Thread nD τ).loc main_arg2) (ix4 (bOf u) (gOf u) h (pos u a))) := by
    unfold cOf qScale
    rw [head_hcol, lane_hcol, iblk1_apply]
  unfold oOf kerAt kO kE
  simp only [eAt, mOf, hB, hc, sAt_apply m hO c u hu h a d, kvHead_q, subHead_q, dim_q, iblk5_apply, vOf, iblk4_apply]

/-- The row of the result that row `a` of a written block is. -/
def opos (t : Fin grid0.N) (a : Fin 128) : Fin 8192 := ⟨((grid0.coords t 2).val - 1) * 128 + a.val, by
  have h : (grid0.coords t 2).val < 65 := (grid0.coords t 2).isLt
  omega⟩

/-- Where an element of the result's block lies in the array. -/
theorem emb6 (t : Fin grid0.N) (a : Fin 128) (k : Fin 512) :
    (((cfgM m hO).win 6).blk t).view.emb (ix3 (0 : Fin 1) a k) = ix3 (bOf t) (opos t a) (qcol (gOf t) k) := by
  have e : ((cfgM m hO).win 6).index t = ![(grid0.coords t 0).val, (grid0.coords t 2).val - 1, (grid0.coords t 1).val] := tix6_eq (grid0.coords t)
  blk_ext [e, bOf, opos, qcol, gOf]

/-- The blocks written back tile the result. -/
theorem covers6 : ((cfgM m hO).win 6).Covers := by
  refine ((cfgM m hO).win 6).covers_of_indexMap_surj rfl (fun a => ?_) fun β => ?_
  · show 0 < (![1, 128, 512] : Fin 3 → ℕ) a
    match a with
    | ⟨0, _⟩ => exact (by decide : 0 < 1)
    | ⟨1, _⟩ => exact (by decide : 0 < 128)
    | ⟨2, _⟩ => exact (by decide : 0 < 512)
  · have h0 : (β (0 : Fin 3)).val < (3 + 1 - 1) / 1 := (β (0 : Fin 3)).isLt
    have h1 : (β (1 : Fin 3)).val < (8192 + 128 - 1) / 128 := (β (1 : Fin 3)).isLt
    have h2 : (β (2 : Fin 3)).val < (4096 + 512 - 1) / 512 := (β (2 : Fin 3)).isLt
    let i : grid0.Coords := fun
      | ⟨0, _⟩ => ⟨(β (0 : Fin 3)).val, by show (β (0 : Fin 3)).val < 3; omega⟩
      | ⟨1, _⟩ => ⟨(β (2 : Fin 3)).val, by show (β (2 : Fin 3)).val < 8; omega⟩
      | ⟨2, _⟩ => ⟨(β (1 : Fin 3)).val + 1, by show (β (1 : Fin 3)).val + 1 < 65; omega⟩
    refine ⟨i, fun a => ?_⟩
    have e : cc0_transform_6 i = ![(β (0 : Fin 3)).val, (β (1 : Fin 3)).val, (β (2 : Fin 3)).val] := tix6_eq i
    refine (congrFun e a).trans ?_
    match a with
    | ⟨0, _⟩ => rfl
    | ⟨1, _⟩ => rfl
    | ⟨2, _⟩ => rfl

/-- The result array is the attention at every index. -/
theorem arr_eq (r : PUnit.{1} × MemSt nD τ sig (Elt Ideal))
    (hr : Pipeline.RDat.FramePost ((Pipeline.pin pcfgs fun _ => adm m hO) 0) (fun c => (datsT m hO 0 c).toRRel forgets0 (relT m hO c)) (V m) r) :
    r.2.mem ((c.tc : Thread nD τ).loc main_v0) = fun y => kerAt m c (y 0) (y 1) (y 2) := by
  obtain ⟨after, hL, hA⟩ := hr.exists_exact c
  refine (hA 6).trans ?_
  refine Dat.arrAt_eq_of_covers _ 6 _ (covers6 m hO) fun t hf y => ?_
  have hX : OutRel m hO c t (after 6 t) := Dat.toRRel_leaves _ (w := 6) rfl (hL 6 t hf)
  have ht := flush_pos m hO t hf
  have hN : t.val < 1560 := t.isLt
  have e2 := coord2 t
  obtain ⟨u, hu⟩ : ∃ u : Fin grid0.N, u.val + 1 = t.val := ⟨⟨t.val - 1, by show t.val - 1 < 1560; omega⟩, by show t.val - 1 + 1 = t.val; omega⟩
  have hO' := hX u hu ht
  obtain ⟨hb, hg, h2⟩ := coords_next u t hu ht
  have h65 : (grid0.coords t 2).val < 65 := (grid0.coords t 2).isLt
  blk_simp
  obtain ⟨z, a, k, rfl⟩ : ∃ (z : Fin 1) (a : Fin 128) (k : Fin 512), (y : S1x128x512.Idx) = ix3 z a k := ⟨_, _, _, ValueIdx.eq_ix3 (y : S1x128x512.Idx)⟩
  obtain rfl : z = 0 := Subsingleton.elim _ _
  have hE := emb6 m hO t a k
  have hp : opos t a = pos u a := Fin.ext (by
    show ((grid0.coords t 2).val - 1) * 128 + a.val = min (grid0.coords u 2).val 63 * 128 + a.val
    omega)
  rw [hp, ← hb, ← hg] at hE
  have hv := (hO' (head k) a (lane k)).trans (oOf_apply m hO c u (by omega) (head k) a (lane k))
  rw [← hcol_cases k] at hv
  refine Eq.trans hv ?_
  exact (congrArg (fun y : S3x8192x4096.Idx => kerAt m c (y 0) (y 1) (y 2)) hE).symm

/-- Every run ends with the attention in the result and the arguments unchanged. -/
theorem value (hp : Short m) : θ_run defs (onTc (τ := τ) (main (F := Ideal))) ⟨m, fun _ => 0, ρ⟩ (fun r => ∀ c : Dev nD,
      r.2.mem ((c.tc : Thread nD τ).loc main_v0) = (fun y => kerAt m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h1 := (θ_run defs _ _).mono (fun _ h => h.1) (run_mainT m ρ (ok m) hp)
  refine (θ_run defs _ _).mono (fun r h c => ⟨arr_eq m (ok m) c r h.1, h.2 c⟩) (θ_run_and h1 (unchanged m ρ hp (ok m)))

end Cert.KernelIdeal.Hand

end
-- ==== Proof.RI.Scores.lean ====
module

public import proofs.«01_k».proof.Proof.Gen.ReferenceIdeal.Frame
public import proofs.«01_k».proof.Proof.Codes
public import Idealize.ShloMosaic.Lib.Pointwise

/-! What the reference computes at one index. -/

@[expose] public section

set_option maxRecDepth 16384

noncomputable section

namespace Cert.ReferenceIdeal.Hand

open Cert.ReferenceIdeal.Gen Cert.Attn Cert.Words
open Idealize.ShloMosaic

/-- The reference's named constant: one over the square root of 128. -/
def cR : EReal := (Named.named κ "c" 0x3DB504F3#32 : Ideal .f32)

theorem ninf : Ideal.ofBits .f32 0xFF800000#32 = ⊥ := by simp [Ideal.ofBits, Ideal.ieee]
theorem w256 : Ideal.ofBits .f32 0x43800000#32 = 256 := by
  simp [Ideal.ofBits, Ideal.ieee, -EReal.coe_mul]; norm_num; rfl
theorem w448 : Ideal.ofBits .f32 0x43E00000#32 = 448 := by
  simp [Ideal.ofBits, Ideal.ieee, -EReal.coe_mul]; norm_num; rfl
theorem w256inv : Ideal.ofBits .f32 0x3B800000#32 = ((2 ^ (-8 : ℤ) : ℝ) : EReal) := by
  simp [Ideal.ofBits, Ideal.ieee, -EReal.coe_mul]; norm_num

theorem four (a b c d : EReal) : a * b * c * d = a * c * (b * d) := by rw [mul_right_comm a b c, mul_assoc]

/-- The masked score of key `j`. -/
theorem scores_apply (q : Vec Ideal S3x8192x4096 .fp8e4m3) (k : Vec Ideal S3x8192x1024 .fp8e4m3) (qs : Vec Ideal S3x8x4x8192 .f32)
    (ks : Vec Ideal S3x8x1x8192 .f32) (pl : Vec Ideal S3 .i32) (b : Fin 3) (p : Fin 8192) (c : Fin 4096) (j : Fin 8192) :
    k0_pay2 (F := Ideal) q k qs ks pl (ix5 b p (kvHead c) (subHead c) j)
      = vis (max (len (pl (ix1 b))) (p.val + 1)) (fun j => raw (fun b p c => q (ix3 b p c)) (fun b j c => k (ix3 b j c))
          (fun b g j => ks (ix4 b g 0 j)) b p c j * (qs (ix4 b (kvHead c) (subHead c) p) * cR)) j.val := by
  have hr : row j.val = j := Fin.ext (Nat.mod_eq_of_lt j.isLt)
  unfold vis raw
  beta_reduce
  rw [hr]
  pointwise [k0_pay2]
  unfold Scalar.select
  rw [ninf]
  refine if_congr (mask_iff _ j p) ?_ rfl
  exact four _ _ _ _

/-- The result at a column, from the scores. -/
theorem out_apply (s : FVec Ideal S3x8192x8x4x8192 .f32) (vt : Vec Ideal S3x8x128x8192 .fp8e4m3) (vs : Vec Ideal S3x8x1x128 .f32)
    (b : Fin 3) (p : Fin 8192) (c : Fin 4096) (n : ℕ) (x : ℕ → EReal)
    (hs : ∀ j : Fin 8192, s (ix5 b p (kvHead c) (subHead c) j) = vis n x j.val) :
    k0_pay1 (F := Ideal) s vt vs (ix3 b p c)
      = rO 8192 n x (fun j => vt (ix4 b (kvHead c) (dim c) (row j))) (vs (ix4 b (kvHead c) 0 (dim c))) := by
  have hr : ∀ j : Fin 8192, row j.val = j := fun j => Fin.ext (Nat.mod_eq_of_lt j.isLt)
  have hs' : ∀ j : Fin 8192, s (ix5 b p ⟨c.val / 512, (kvHead c).isLt⟩ ⟨c.val / 128 % 4, (subHead c).isLt⟩ j) = vis n x j.val := hs
  unfold rO
  rw [← sup_rows, Finset.sum_range, Finset.sum_range]
  simp only [hr]
  pointwise [k0_pay1]
  simp only [hs', ninf, w256, w448, w256inv]
  rfl

end Cert.ReferenceIdeal.Hand

end
-- ==== Proof.RI.Value.lean ====
module

public import proofs.«01_k».proof.Proof.RI.Scores
public import Idealize.ShloMosaic.Lib.Pipeline.ValueKit

/-! The array that the reference leaves. -/

@[expose] public section

set_option maxRecDepth 16384

noncomputable section

namespace Cert.ReferenceIdeal.Hand

open Cert.ReferenceIdeal.Gen Cert.Attn Cert.Words
open Idealize.ShloMosaic Idealize.ShloMosaic.TcCoe Idealize.SL.Sem

variable (m : (ℓ : Loc nD τ sig) → Buf (Elt Ideal) ℓ) (ρ : Dev nD → PrngReg)

/-- The scale of a query's scores, from the scale of its codes. -/
def qScale (z : EReal) : EReal := z * cR

/-- The attention, at one index of the result, of the arrays a memory holds. -/
def refAt (c : Dev nD) (b : Fin 3) (p : Fin 8192) (k : Fin 4096) : EReal :=
  rO 8192 (max (len (m ((c.tc : Thread nD τ).loc main_arg0) (ix1 b))) (p.val + 1))
    (fun j => raw (fun b p k => m ((c.tc : Thread nD τ).loc main_arg1) (ix3 b p k)) (fun b j k => m ((c.tc : Thread nD τ).loc main_arg3) (ix3 b j k))
      (fun b g j => m ((c.tc : Thread nD τ).loc main_arg4) (ix4 b g 0 j)) b p k j
        * qScale (m ((c.tc : Thread nD τ).loc main_arg2) (ix4 b (kvHead k) (subHead k) p)))
    (fun j => m ((c.tc : Thread nD τ).loc main_arg5) (ix4 b (kvHead k) (dim k) (row j)))
    (m ((c.tc : Thread nD τ).loc main_arg6) (ix4 b (kvHead k) 0 (dim k)))

theorem iblk0_eq (c : Dev nD) (t : Fin cfg0.N) : iblk m c 0 t = m ((c.tc : Thread nD τ).loc main_arg0) := by
  have e : ∀ a, win0_0.index t a = 0 := fun _ => rfl
  funext y; idx_vars y; blk_ext [iblk, V, e]

theorem iblk1_eq (c : Dev nD) (t : Fin cfg0.N) : iblk m c 1 t = m ((c.tc : Thread nD τ).loc main_arg1) := by
  have e : ∀ a, win0_1.index t a = 0 := fun _ => rfl
  funext y; idx_vars y; blk_ext [iblk, V, e]

theorem iblk2_eq (c : Dev nD) (t : Fin cfg0.N) : iblk m c 2 t = m ((c.tc : Thread nD τ).loc main_arg2) := by
  have e : ∀ a, win0_2.index t a = 0 := fun _ => rfl
  funext y; idx_vars y; blk_ext [iblk, V, e]

theorem iblk3_eq (c : Dev nD) (t : Fin cfg0.N) : iblk m c 3 t = m ((c.tc : Thread nD τ).loc main_arg3) := by
  have e : ∀ a, win0_3.index t a = 0 := fun _ => rfl
  funext y; idx_vars y; blk_ext [iblk, V, e]

theorem iblk4_eq (c : Dev nD) (t : Fin cfg0.N) : iblk m c 4 t = m ((c.tc : Thread nD τ).loc main_arg4) := by
  have e : ∀ a, win0_4.index t a = 0 := fun _ => rfl
  funext y; idx_vars y; blk_ext [iblk, V, e]

theorem iblk5_eq (c : Dev nD) (t : Fin cfg0.N) : iblk m c 5 t = m ((c.tc : Thread nD τ).loc main_arg5) := by
  have e : ∀ a, win0_5.index t a = 0 := fun _ => rfl
  funext y; idx_vars y; blk_ext [iblk, V, e]

theorem iblk6_eq (c : Dev nD) (t : Fin cfg0.N) : iblk m c 6 t = m ((c.tc : Thread nD τ).loc main_arg6) := by
  have e : ∀ a, win0_6.index t a = 0 := fun _ => rfl
  funext y; idx_vars y; blk_ext [iblk, V, e]

/-- The result array is the attention at every index. -/
theorem arr_eq (c : Dev nD) : (dats m 0 c).arrAt 7 (cfgs 0).N = fun y => refAt m c (y 0) (y 1) (y 2) := by
  refine (dats m 0 c).arrAt_eq_of_covers 7 _ (by decide +kernel) fun t hf y => ?_
  blk_simp
  rw [after0_7]
  frame_out
  rw [iblk0_eq, iblk1_eq, iblk2_eq, iblk3_eq, iblk4_eq, iblk5_eq, iblk6_eq]
  have e : ∀ a, win0_7.index t a = 0 := fun _ => rfl
  have hy : ((View.whole main_v0).slice (win0_7.rect t)).emb y = y := by
    funext a
    apply Fin.ext
    blk_simp
    rw [e a, Nat.zero_mul, Nat.zero_add]
  rw [hy]
  obtain ⟨b, p, k, rfl⟩ : ∃ (b : Fin 3) (p : Fin 8192) (k : Fin 4096), y = ix3 b p k := ⟨y 0, y 1, y 2, eq_ix3 y⟩
  exact out_apply _ _ _ b p k _ _ fun j => scores_apply _ _ _ _ _ b p k j

end Cert.ReferenceIdeal.Hand

end
-- ==== Proof.Algebraic.lean ====
module

public import proofs.«01_k».proof.Proof.KI.Result
public import proofs.«01_k».proof.Proof.KI.Pre
public import proofs.«01_k».proof.Proof.RI.Value
public import proofs.«01_k».proof.Proof.PreFacts

/-! The kernel's result is the reference's: the two formulas of one output agree where the scales are positive. -/

@[expose] public section

noncomputable section

namespace Cert.Proof

open Idealize.ShloMosaic Idealize.ShloMosaic.TcCoe Idealize.SL.Sem
open Cert.Attn Cert.Words

/-- The kernel's constant is the reference's times one over the logarithm of two. -/
theorem const_eq : Cert.KernelIdeal.Hand.cC = Cert.ReferenceIdeal.Hand.cR * (((Real.log 2)⁻¹ : ℝ) : EReal) :=
  EReal.coe_mul _ _

theorem cR_pos : 0 < Cert.ReferenceIdeal.Hand.cR :=
  EReal.coe_pos.mpr (inv_pos.mpr (Real.sqrt_pos.mpr (by norm_num)))

/-- An extended real that compares as greater than zero is positive. -/
theorem pos_of_gt (x : EReal) (h : BitVec.ofBool (decide (x > Ideal.ofBits .f32 0x00000000#32)) = 1#1) : (0 : EReal) < x := by
  rw [WordCmp.ofBool_eq_one_iff, decide_eq_true_eq, Ideal.ofBits_zero_f32] at h
  exact h

/-- The keys that the kernel visits include those the query sees, and lie in the array. -/
theorem keys_bounds (v : BitVec 32) (hv : v.toInt ≤ 8192) (p : Fin 8192) :
    max (len v) (p.val + 1) ≤ Cert.KernelIdeal.Hand.keys v p.val ∧ Cert.KernelIdeal.Hand.keys v p.val ≤ 8192 := by
  have hl : len v ≤ 8192 := by unfold len; omega
  have hp := p.isLt
  unfold Cert.KernelIdeal.Hand.keys
  omega

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- At every index the two formulas give one value. -/
theorem out_eq (hpre : Cert.Pre_KernelIdeal m) (c : Dev Cert.KernelIdeal.nD) (b : Fin 3) (p : Fin 8192) (k : Fin 4096)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.refAt m' c b p k = Cert.KernelIdeal.Hand.kerAt m c b p k := by
  -- what the precondition says at the indices read
  have hv : (m ((c.tc : Thread Cert.KernelIdeal.nD Cert.KernelIdeal.τ).loc Cert.KernelIdeal.main_arg0) (ValueIdx.ix1 b) : BitVec 32).toInt ≤ 8192 := by
    have h := congrFun (hpre c).1 (ValueIdx.ix1 b)
    have h' : BitVec.ofBool (BitVec.sle (m ((c.tc : Thread Cert.KernelIdeal.nD Cert.KernelIdeal.τ).loc Cert.KernelIdeal.main_arg0) (ValueIdx.ix1 b)) 8192#32) = 1#1 := h
    rw [WordCmp.ofBool_eq_one_iff] at h'
    exact BitVec.sle_iff_toInt_le.mp h'
  have hq : (0 : EReal) < m ((c.tc : Thread Cert.KernelIdeal.nD Cert.KernelIdeal.τ).loc Cert.KernelIdeal.main_arg2) (ValueIdx.ix4 b (kvHead k) (subHead k) p) := by
    have h := congrFun (hpre c).2.1 (ValueIdx.ix4 b (kvHead k) (subHead k) p)
    exact pos_of_gt _ h
  have hs : (0 : EReal) < m ((c.tc : Thread Cert.KernelIdeal.nD Cert.KernelIdeal.τ).loc Cert.KernelIdeal.main_arg6) (ValueIdx.ix4 b (kvHead k) (0 : Fin 1) (dim k)) := by
    have h := congrFun (hpre c).2.2 (ValueIdx.ix4 b (kvHead k) (0 : Fin 1) (dim k))
    exact pos_of_gt _ h
  obtain ⟨hn, hN⟩ := keys_bounds _ hv p
  unfold Cert.ReferenceIdeal.Hand.refAt Cert.KernelIdeal.Hand.kerAt Cert.ReferenceIdeal.Hand.qScale Cert.KernelIdeal.Hand.qScale
  rw [h0, h1, h2, h3, h4, h5, h6, const_eq, ← mul_assoc]
  exact (kO_eq_rO hn hN _ (EReal.mul_pos hq cR_pos) _ hs).symm

end

/-- The idealized kernel and the reference, from arguments that agree, leave the same result. -/
theorem algebraic : Cert.algebraic_KernelIdeal_ReferenceIdeal := by
  intro m g m' g' hpre hargs
  refine ⟨fun c y => Cert.KernelIdeal.Hand.kerAt m c (y 0) (y 1) (y 2),
    Cert.KernelIdeal.Hand.value m g (Cert.KernelIdeal.Hand.short_of_pre m hpre), ?_⟩
  refine (θ_run _ _ _).mono (fun r h c => ⟨?_, h.2 c⟩)
    (θ_run_and (Cert.ReferenceIdeal.Gen.run_main m' g') (Cert.ReferenceIdeal.Gen.unchanged m' g'))
  obtain ⟨h0, h1, h2, h3, h4, h5, h6⟩ := hargs c
  refine ((h.1 c).1 7).trans ((Cert.ReferenceIdeal.Hand.arr_eq m' c).trans (funext fun y => ?_))
  exact out_eq m m' hpre c (y 0) (y 1) (y 2) h0 h1 h2 h3 h4 h5 h6

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Pre_admissible.facts,
    frame_kernel, frame_kernelIdeal, frame_referenceIdeal, preserves, algebraic⟩

end Cert.Proof

end
